-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "neg_coef" .f32 0xB58637BD#32 ((-1 / 1000000 : ℝ) : EReal)
  ∧ IdealRules.named_const.Statement Cert.KernelIdeal.κ "gain" .f32 0x3F666656#32 ((899999 / 1000000 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x100000 : Shape := ⟨2, ![1024, 100000]⟩
abbrev S1024x50 : Shape := ⟨2, ![1024, 50]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn {F : FTy → Type} [FloatOps F] (main_arg0 : FVec F S1024x100000 .f32) (main_arg1 : IVec S1024x50 32) (main_arg2 : IVec S1024x50 32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg1 main_v0
  let main_c_0 : IVec S_ 32 := constantI S_ 32 100000#32
  let main_v2 : IVec S1024x50 32 := broadcastInDim S1024x50 ![] bcast_S_S1024x50 main_c_0
  let main_v3 : IVec S1024x50 1 := cmpi .slt main_arg1 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  let main_c_2 : IVec S_ 32 := constantI S_ 32 0#32
  let main_v6 : IVec S1024x50 32 := broadcastInDim S1024x50 ![] bcast_S_S1024x50 main_c_2
  let main_v7 : IVec S1024x50 1 := cmpi .sge main_arg2 main_v6
  let main_c_3 : IVec S_ 32 := constantI S_ 32 100000#32
  let main_v8 : IVec S1024x50 32 := broadcastInDim S1024x50 ![] bcast_S_S1024x50 main_c_3
  let main_v9 : IVec S1024x50 1 := cmpi .slt main_arg2 main_v8
  let main_v10 : IVec S1024x50 1 := andi main_v7 main_v9
  let main_c_4 : IVec S_ 1 := constantI S_ 1 1#1
  let main_v11 : IVec S_ 1 := (fun x v => Host.reduce IntOp.andi x v reducesTo_S1024x50_S_d0_1 h_S_) main_v10 main_c_4
  let main_v12 : IVec S_ 1 := andi main_v5 main_v11
  main_v12
-- ==== Kernel.lean ====
abbrev S1024x100000 : Shape := ⟨2, ![1024, 100000]⟩
abbrev S1024x50 : Shape := ⟨2, ![1024, 50]⟩
abbrev S1024x100 : Shape := ⟨2, ![1024, 100]⟩
abbrev S_ : Shape := ⟨0, ![]⟩
abbrev S1024x128 : Shape := ⟨2, ![1024, 128]⟩
abbrev S32x128 : Shape := ⟨2, ![32, 128]⟩
abbrev S100000 : Shape := ⟨1, ![100000]⟩
abbrev S16 : Shape := ⟨1, ![16]⟩
abbrev S1x16 : Shape := ⟨2, ![1, 16]⟩
abbrev S1x100000 : Shape := ⟨2, ![1, 100000]⟩
abbrev S256x8192 : Shape := ⟨2, ![256, 8192]⟩
abbrev S256x128 : Shape := ⟨2, ![256, 128]⟩
abbrev S256x64x128 : Shape := ⟨3, ![256, 64, 128]⟩
abbrev S1024x1 : Shape := ⟨2, ![1024, 1]⟩
abbrev S32x1 : Shape := ⟨2, ![32, 1]⟩
abbrev S32x128x1 : Shape := ⟨3, ![32, 128, 1]⟩
abbrev S32x1x128 : Shape := ⟨3, ![32, 1, 128]⟩
abbrev S32x128x128 : Shape := ⟨3, ![32, 128, 128]⟩
abbrev S32 : Shape := ⟨1, ![32]⟩
abbrev S1024 : Shape := ⟨1, ![1024]⟩

abbrev nBuf : Table → Nat
  | .hbm => 11
  | .local .tc .vmem => 12
  | .local .scVector .vmem => 4
  | _ => 0

abbrev bufTy : (tb : Table) → Fin (nBuf tb) → BufTy
  | .hbm, ⟨0, _⟩ => ⟨S1024x100000, .f32⟩
  | .hbm, ⟨1, _⟩ => ⟨S1024x50, .i32⟩
  | .hbm, ⟨2, _⟩ => ⟨S1024x50, .i32⟩
  | .hbm, ⟨3, _⟩ => ⟨S1024x100, .i32⟩
  | .hbm, ⟨4, _⟩ => ⟨S_, .i32⟩
  | .hbm, ⟨5, _⟩ => ⟨S_, .i32⟩
  | .hbm, ⟨6, _⟩ => ⟨S1024x128, .i32⟩
  | .hbm, ⟨7, _⟩ => ⟨S1024x128, .f32⟩
  | .hbm, ⟨8, _⟩ => ⟨S1024x128, .f32⟩
  | .hbm, ⟨9, _⟩ => ⟨S1024x1, .f32⟩
  | .hbm, ⟨10, _⟩ => ⟨S1024, .f32⟩
  | .local .tc .vmem, ⟨0, _⟩ => ⟨S256x8192, .f32⟩
  | .local .tc .vmem, ⟨1, _⟩ => ⟨S256x8192, .f32⟩
  | .local .tc .vmem, ⟨2, _⟩ => ⟨S256x128, .f32⟩
  | .local .tc .vmem, ⟨3, _⟩ => ⟨S256x128, .f32⟩
  | .local .tc .vmem, ⟨4, _⟩ => ⟨S32x128, .i32⟩
  | .local .tc .vmem, ⟨5, _⟩ => ⟨S32x128, .i32⟩
  | .local .tc .vmem, ⟨6, _⟩ => ⟨S32x128, .f32⟩
  | .local .tc .vmem, ⟨7, _⟩ => ⟨S32x128, .f32⟩
  | .local .tc .vmem, ⟨8, _⟩ => ⟨S32x128, .f32⟩
  | .local .tc .vmem, ⟨9, _⟩ => ⟨S32x128, .f32⟩
  | .local .tc .vmem, ⟨10, _⟩ => ⟨S32x1, .f32⟩
  | .local .tc .vmem, ⟨11, _⟩ => ⟨S32x1, .f32⟩
  | .local .scVector .vmem, ⟨0, _⟩ => ⟨S32x128, .i32⟩
  | .local .scVector .vmem, ⟨1, _⟩ => ⟨S32x128, .i32⟩
  | .local .scVector .vmem, ⟨2, _⟩ => ⟨S32x128, .f32⟩
  | .local .scVector .vmem, ⟨3, _⟩ => ⟨S100000, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 46 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTables nBuf rfl bufTy 4 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg0_scv : Ref sig .scVector := ⟨.hbm, 0, rfl⟩
abbrev main_v1_scv : Ref sig .scVector := ⟨.hbm, 6, rfl⟩
abbrev main_v2_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 34
abbrev cc1_sem0_1 : DmaSem sig := 35
abbrev cc1_sem1_0 : DmaSem sig := 36
abbrev cc1_sem1_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc2_sem3_0 : DmaSem sig := 44
abbrev cc2_sem3_1 : DmaSem sig := 45
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_2809_r0 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1753 : BitVec 32 := 0#32
  let v2563 : BitVec 32 := Scalar.addi v2 c0_i32_1753
  let c0_i32_2809_r1 : BitVec 32 := 0#32
  ![v2563.toNat, 0]

def k0_chk1 (v2565 : IVec S16 32) : Prop :=
  (∀ a x, ((![v2565] : Fin 1 → IVec S16 32) a x).toNat < S100000.size a)
theorem k0_idx1_inb : ∀ (v2565 : IVec S16 32) (k0_hw1 : k0_chk1 v2565), ∀ a x, ((![v2565] : Fin 1 → IVec S16 32) a x).toNat < S100000.size a := fun v2565 k0_hw1 => k0_hw1

def k0_chk2 (v2570 : IVec S16 32) : Prop :=
  (∀ a x, ((![v2570] : Fin 1 → IVec S16 32) a x).toNat < S100000.size a)
theorem k0_idx2_inb : ∀ (v2570 : IVec S16 32) (k0_hw2 : k0_chk2 v2570), ∀ a x, ((![v2570] : Fin 1 → IVec S16 32) a x).toNat < S100000.size a := fun v2570 k0_hw2 => k0_hw2

def k0_chk3 (v2575 : IVec S16 32) : Prop :=
  (∀ a x, ((![v2575] : Fin 1 → IVec S16 32) a x).toNat < S100000.size a)
theorem k0_idx3_inb : ∀ (v2575 : IVec S16 32) (k0_hw3 : k0_chk3 v2575), ∀ a x, ((![v2575] : Fin 1 → IVec S16 32) a x).toNat < S100000.size a := fun v2575 k0_hw3 => k0_hw3

def k0_chk4 (v2580 : IVec S16 32) : Prop :=
  (∀ a x, ((![v2580] : Fin 1 → IVec S16 32) a x).toNat < S100000.size a)
theorem k0_idx4_inb : ∀ (v2580 : IVec S16 32) (k0_hw4 : k0_chk4 v2580), ∀ a x, ((![v2580] : Fin 1 → IVec S16 32) a x).toNat < S100000.size a := fun v2580 k0_hw4 => k0_hw4

def k0_chk5 (v2585 : IVec S16 32) : Prop :=
  (∀ a x, ((![v2585] : Fin 1 → IVec S16 32) a x).toNat < S100000.size a)
theorem k0_idx5_inb : ∀ (v2585 : IVec S16 32) (k0_hw5 : k0_chk5 v2585), ∀ a x, ((![v2585] : Fin 1 → IVec S16 32) a x).toNat < S100000.size a := fun v2585 k0_hw5 => k0_hw5

def k0_chk6 (v2590 : IVec S16 32) : Prop :=
  (∀ a x, ((![v2590] : Fin 1 → IVec S16 32) a x).toNat < S100000.size a)
theorem k0_idx6_inb : ∀ (v2590 : IVec S16 32) (k0_hw6 : k0_chk6 v2590), ∀ a x, ((![v2590] : Fin 1 → IVec S16 32) a x).toNat < S100000.size a := fun v2590 k0_hw6 => k0_hw6

def k0_chk7 (v2595 : IVec S16 32) : Prop :=
  (∀ a x, ((![v2595] : Fin 1 → IVec S16 32) a x).toNat < S100000.size a)
theorem k0_idx7_inb : ∀ (v2595 : IVec S16 32) (k0_hw7 : k0_chk7 v2595), ∀ a x, ((![v2595] : Fin 1 → IVec S16 32) a x).toNat < S100000.size a := fun v2595 k0_hw7 => k0_hw7

def k0_chk8 (v2600 : IVec S16 32) : Prop :=
  (∀ a x, ((![v2600] : Fin 1 → IVec S16 32) a x).toNat < S100000.size a)
theorem k0_idx8_inb : ∀ (v2600 : IVec S16 32) (k0_hw8 : k0_chk8 v2600), ∀ a x, ((![v2600] : Fin 1 → IVec S16 32) a x).toNat < S100000.size a := fun v2600 k0_hw8 => k0_hw8
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_1786 : BitVec 32 := 1#32
  let v2604 : BitVec 32 := Scalar.addi v2 c1_i32_1786
  let c0_i32_2809_r2 : BitVec 32 := 0#32
  ![v2604.toNat, 0]

def k0_chk9 (v2606 : IVec S16 32) : Prop :=
  (∀ a x, ((![v2606] : Fin 1 → IVec S16 32) a x).toNat < S100000.size a)
theorem k0_idx9_inb : ∀ (v2606 : IVec S16 32) (k0_hw9 : k0_chk9 v2606), ∀ a x, ((![v2606] : Fin 1 → IVec S16 32) a x).toNat < S100000.size a := fun v2606 k0_hw9 => k0_hw9

def k0_chk10 (v2611 : IVec S16 32) : Prop :=
  (∀ a x, ((![v2611] : Fin 1 → IVec S16 32) a x).toNat < S100000.size a)
theorem k0_idx10_inb : ∀ (v2611 : IVec S16 32) (k0_hw10 : k0_chk10 v2611), ∀ a x, ((![v2611] : Fin 1 → IVec S16 32) a x).toNat < S100000.size a := fun v2611 k0_hw10 => k0_hw10

def k0_chk11 (v2616 : IVec S16 32) : Prop :=
  (∀ a x, ((![v2616] : Fin 1 → IVec S16 32) a x).toNat < S100000.size a)
theorem k0_idx11_inb : ∀ (v2616 : IVec S16 32) (k0_hw11 : k0_chk11 v2616), ∀ a x, ((![v2616] : Fin 1 → IVec S16 32) a x).toNat < S100000.size a := fun v2616 k0_hw11 => k0_hw11

def k0_chk12 (v2621 : IVec S16 32) : Prop :=
  (∀ a x, ((![v2621] : Fin 1 → IVec S16 32) a x).toNat < S100000.size a)
theorem k0_idx12_inb : ∀ (v2621 : IVec S16 32) (k0_hw12 : k0_chk12 v2621), ∀ a x, ((![v2621] : Fin 1 → IVec S16 32) a x).toNat < S100000.size a := fun v2621 k0_hw12 => k0_hw12

def k0_chk13 (v2626 : IVec S16 32) : Prop :=
  (∀ a x, ((![v2626] : Fin 1 → IVec S16 32) a x).toNat < S100000.size a)
theorem k0_idx13_inb : ∀ (v2626 : IVec S16 32) (k0_hw13 : k0_chk13 v2626), ∀ a x, ((![v2626] : Fin 1 → IVec S16 32) a x).toNat < S100000.size a := fun v2626 k0_hw13 => k0_hw13

def k0_chk14 (v2631 : IVec S16 32) : Prop :=
  (∀ a x, ((![v2631] : Fin 1 → IVec S16 32) a x).toNat < S100000.size a)
theorem k0_idx14_inb : ∀ (v2631 : IVec S16 32) (k0_hw14 : k0_chk14 v2631), ∀ a x, ((![v2631] : Fin 1 → IVec S16 32) a x).toNat < S100000.size a := fun v2631 k0_hw14 => k0_hw14

def k0_chk15 (v2636 : IVec S16 32) : Prop :=
  (∀ a x, ((![v2636] : Fin 1 → IVec S16 32) a x).toNat < S100000.size a)
theorem k0_idx15_inb : ∀ (v2636 : IVec S16 32) (k0_hw15 : k0_chk15 v2636), ∀ a x, ((![v2636] : Fin 1 → IVec S16 32) a x).toNat < S100000.size a := fun v2636 k0_hw15 => k0_hw15

def k0_chk16 (v2641 : IVec S16 32) : Prop :=
  (∀ a x, ((![v2641] : Fin 1 → IVec S16 32) a x).toNat < S100000.size a)
theorem k0_idx16_inb : ∀ (v2641 : IVec S16 32) (k0_hw16 : k0_chk16 v2641), ∀ a x, ((![v2641] : Fin 1 → IVec S16 32) a x).toNat < S100000.size a := fun v2641 k0_hw16 => k0_hw16
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_1819 : BitVec 32 := 2#32
  let v2645 : BitVec 32 := Scalar.addi v2 c2_i32_1819
  let c0_i32_2809_r3 : BitVec 32 := 0#32
  ![v2645.toNat, 0]

def k0_chk17 (v2647 : IVec S16 32) : Prop :=
  (∀ a x, ((![v2647] : Fin 1 → IVec S16 32) a x).toNat < S100000.size a)
theorem k0_idx17_inb : ∀ (v2647 : IVec S16 32) (k0_hw17 : k0_chk17 v2647), ∀ a x, ((![v2647] : Fin 1 → IVec S16 32) a x).toNat < S100000.size a := fun v2647 k0_hw17 => k0_hw17

def k0_chk18 (v2652 : IVec S16 32) : Prop :=
  (∀ a x, ((![v2652] : Fin 1 → IVec S16 32) a x).toNat < S100000.size a)
theorem k0_idx18_inb : ∀ (v2652 : IVec S16 32) (k0_hw18 : k0_chk18 v2652), ∀ a x, ((![v2652] : Fin 1 → IVec S16 32) a x).toNat < S100000.size a := fun v2652 k0_hw18 => k0_hw18

def k0_chk19 (v2657 : IVec S16 32) : Prop :=
  (∀ a x, ((![v2657] : Fin 1 → IVec S16 32) a x).toNat < S100000.size a)
theorem k0_idx19_inb : ∀ (v2657 : IVec S16 32) (k0_hw19 : k0_chk19 v2657), ∀ a x, ((![v2657] : Fin 1 → IVec S16 32) a x).toNat < S100000.size a := fun v2657 k0_hw19 => k0_hw19

def k0_chk20 (v2662 : IVec S16 32) : Prop :=
  (∀ a x, ((![v2662] : Fin 1 → IVec S16 32) a x).toNat < S100000.size a)
theorem k0_idx20_inb : ∀ (v2662 : IVec S16 32) (k0_hw20 : k0_chk20 v2662), ∀ a x, ((![v2662] : Fin 1 → IVec S16 32) a x).toNat < S100000.size a := fun v2662 k0_hw20 => k0_hw20

def k0_chk21 (v2667 : IVec S16 32) : Prop :=
  (∀ a x, ((![v2667] : Fin 1 → IVec S16 32) a x).toNat < S100000.size a)
theorem k0_idx21_inb : ∀ (v2667 : IVec S16 32) (k0_hw21 : k0_chk21 v2667), ∀ a x, ((![v2667] : Fin 1 → IVec S16 32) a x).toNat < S100000.size a := fun v2667 k0_hw21 => k0_hw21

def k0_chk22 (v2672 : IVec S16 32) : Prop :=
  (∀ a x, ((![v2672] : Fin 1 → IVec S16 32) a x).toNat < S100000.size a)
theorem k0_idx22_inb : ∀ (v2672 : IVec S16 32) (k0_hw22 : k0_chk22 v2672), ∀ a x, ((![v2672] : Fin 1 → IVec S16 32) a x).toNat < S100000.size a := fun v2672 k0_hw22 => k0_hw22

def k0_chk23 (v2677 : IVec S16 32) : Prop :=
  (∀ a x, ((![v2677] : Fin 1 → IVec S16 32) a x).toNat < S100000.size a)
theorem k0_idx23_inb : ∀ (v2677 : IVec S16 32) (k0_hw23 : k0_chk23 v2677), ∀ a x, ((![v2677] : Fin 1 → IVec S16 32) a x).toNat < S100000.size a := fun v2677 k0_hw23 => k0_hw23

def k0_chk24 (v2682 : IVec S16 32) : Prop :=
  (∀ a x, ((![v2682] : Fin 1 → IVec S16 32) a x).toNat < S100000.size a)
theorem k0_idx24_inb : ∀ (v2682 : IVec S16 32) (k0_hw24 : k0_chk24 v2682), ∀ a x, ((![v2682] : Fin 1 → IVec S16 32) a x).toNat < S100000.size a := fun v2682 k0_hw24 => k0_hw24
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_1852 : BitVec 32 := 3#32
  let v2686 : BitVec 32 := Scalar.addi v2 c3_i32_1852
  let c0_i32_2809_r4 : BitVec 32 := 0#32
  ![v2686.toNat, 0]

def k0_chk25 (v2688 : IVec S16 32) : Prop :=
  (∀ a x, ((![v2688] : Fin 1 → IVec S16 32) a x).toNat < S100000.size a)
theorem k0_idx25_inb : ∀ (v2688 : IVec S16 32) (k0_hw25 : k0_chk25 v2688), ∀ a x, ((![v2688] : Fin 1 → IVec S16 32) a x).toNat < S100000.size a := fun v2688 k0_hw25 => k0_hw25

def k0_chk26 (v2693 : IVec S16 32) : Prop :=
  (∀ a x, ((![v2693] : Fin 1 → IVec S16 32) a x).toNat < S100000.size a)
theorem k0_idx26_inb : ∀ (v2693 : IVec S16 32) (k0_hw26 : k0_chk26 v2693), ∀ a x, ((![v2693] : Fin 1 → IVec S16 32) a x).toNat < S100000.size a := fun v2693 k0_hw26 => k0_hw26

def k0_chk27 (v2698 : IVec S16 32) : Prop :=
  (∀ a x, ((![v2698] : Fin 1 → IVec S16 32) a x).toNat < S100000.size a)
theorem k0_idx27_inb : ∀ (v2698 : IVec S16 32) (k0_hw27 : k0_chk27 v2698), ∀ a x, ((![v2698] : Fin 1 → IVec S16 32) a x).toNat < S100000.size a := fun v2698 k0_hw27 => k0_hw27

def k0_chk28 (v2703 : IVec S16 32) : Prop :=
  (∀ a x, ((![v2703] : Fin 1 → IVec S16 32) a x).toNat < S100000.size a)
theorem k0_idx28_inb : ∀ (v2703 : IVec S16 32) (k0_hw28 : k0_chk28 v2703), ∀ a x, ((![v2703] : Fin 1 → IVec S16 32) a x).toNat < S100000.size a := fun v2703 k0_hw28 => k0_hw28

def k0_chk29 (v2708 : IVec S16 32) : Prop :=
  (∀ a x, ((![v2708] : Fin 1 → IVec S16 32) a x).toNat < S100000.size a)
theorem k0_idx29_inb : ∀ (v2708 : IVec S16 32) (k0_hw29 : k0_chk29 v2708), ∀ a x, ((![v2708] : Fin 1 → IVec S16 32) a x).toNat < S100000.size a := fun v2708 k0_hw29 => k0_hw29

def k0_chk30 (v2713 : IVec S16 32) : Prop :=
  (∀ a x, ((![v2713] : Fin 1 → IVec S16 32) a x).toNat < S100000.size a)
theorem k0_idx30_inb : ∀ (v2713 : IVec S16 32) (k0_hw30 : k0_chk30 v2713), ∀ a x, ((![v2713] : Fin 1 → IVec S16 32) a x).toNat < S100000.size a := fun v2713 k0_hw30 => k0_hw30

def k0_chk31 (v2718 : IVec S16 32) : Prop :=
  (∀ a x, ((![v2718] : Fin 1 → IVec S16 32) a x).toNat < S100000.size a)
theorem k0_idx31_inb : ∀ (v2718 : IVec S16 32) (k0_hw31 : k0_chk31 v2718), ∀ a x, ((![v2718] : Fin 1 → IVec S16 32) a x).toNat < S100000.size a := fun v2718 k0_hw31 => k0_hw31

def k0_chk32 (v2723 : IVec S16 32) : Prop :=
  (∀ a x, ((![v2723] : Fin 1 → IVec S16 32) a x).toNat < S100000.size a)
theorem k0_idx32_inb : ∀ (v2723 : IVec S16 32) (k0_hw32 : k0_chk32 v2723), ∀ a x, ((![v2723] : Fin 1 → IVec S16 32) a x).toNat < S100000.size a := fun v2723 k0_hw32 => k0_hw32
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c4_i32_1885 : BitVec 32 := 4#32
  let v2727 : BitVec 32 := Scalar.addi v2 c4_i32_1885
  let c0_i32_2809_r5 : BitVec 32 := 0#32
  ![v2727.toNat, 0]

def k0_chk33 (v2729 : IVec S16 32) : Prop :=
  (∀ a x, ((![v2729] : Fin 1 → IVec S16 32) a x).toNat < S100000.size a)
theorem k0_idx33_inb : ∀ (v2729 : IVec S16 32) (k0_hw33 : k0_chk33 v2729), ∀ a x, ((![v2729] : Fin 1 → IVec S16 32) a x).toNat < S100000.size a := fun v2729 k0_hw33 => k0_hw33

def k0_chk34 (v2734 : IVec S16 32) : Prop :=
  (∀ a x, ((![v2734] : Fin 1 → IVec S16 32) a x).toNat < S100000.size a)
theorem k0_idx34_inb : ∀ (v2734 : IVec S16 32) (k0_hw34 : k0_chk34 v2734), ∀ a x, ((![v2734] : Fin 1 → IVec S16 32) a x).toNat < S100000.size a := fun v2734 k0_hw34 => k0_hw34

def k0_chk35 (v2739 : IVec S16 32) : Prop :=
  (∀ a x, ((![v2739] : Fin 1 → IVec S16 32) a x).toNat < S100000.size a)
theorem k0_idx35_inb : ∀ (v2739 : IVec S16 32) (k0_hw35 : k0_chk35 v2739), ∀ a x, ((![v2739] : Fin 1 → IVec S16 32) a x).toNat < S100000.size a := fun v2739 k0_hw35 => k0_hw35

def k0_chk36 (v2744 : IVec S16 32) : Prop :=
  (∀ a x, ((![v2744] : Fin 1 → IVec S16 32) a x).toNat < S100000.size a)
theorem k0_idx36_inb : ∀ (v2744 : IVec S16 32) (k0_hw36 : k0_chk36 v2744), ∀ a x, ((![v2744] : Fin 1 → IVec S16 32) a x).toNat < S100000.size a := fun v2744 k0_hw36 => k0_hw36

def k0_chk37 (v2749 : IVec S16 32) : Prop :=
  (∀ a x, ((![v2749] : Fin 1 → IVec S16 32) a x).toNat < S100000.size a)
theorem k0_idx37_inb : ∀ (v2749 : IVec S16 32) (k0_hw37 : k0_chk37 v2749), ∀ a x, ((![v2749] : Fin 1 → IVec S16 32) a x).toNat < S100000.size a := fun v2749 k0_hw37 => k0_hw37

def k0_chk38 (v2754 : IVec S16 32) : Prop :=
  (∀ a x, ((![v2754] : Fin 1 → IVec S16 32) a x).toNat < S100000.size a)
theorem k0_idx38_inb : ∀ (v2754 : IVec S16 32) (k0_hw38 : k0_chk38 v2754), ∀ a x, ((![v2754] : Fin 1 → IVec S16 32) a x).toNat < S100000.size a := fun v2754 k0_hw38 => k0_hw38

def k0_chk39 (v2759 : IVec S16 32) : Prop :=
  (∀ a x, ((![v2759] : Fin 1 → IVec S16 32) a x).toNat < S100000.size a)
theorem k0_idx39_inb : ∀ (v2759 : IVec S16 32) (k0_hw39 : k0_chk39 v2759), ∀ a x, ((![v2759] : Fin 1 → IVec S16 32) a x).toNat < S100000.size a := fun v2759 k0_hw39 => k0_hw39

def k0_chk40 (v2764 : IVec S16 32) : Prop :=
  (∀ a x, ((![v2764] : Fin 1 → IVec S16 32) a x).toNat < S100000.size a)
theorem k0_idx40_inb : ∀ (v2764 : IVec S16 32) (k0_hw40 : k0_chk40 v2764), ∀ a x, ((![v2764] : Fin 1 → IVec S16 32) a x).toNat < S100000.size a := fun v2764 k0_hw40 => k0_hw40
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c5_i32_1918 : BitVec 32 := 5#32
  let v2768 : BitVec 32 := Scalar.addi v2 c5_i32_1918
  let c0_i32_2809_r6 : BitVec 32 := 0#32
  ![v2768.toNat, 0]

def k0_chk41 (v2770 : IVec S16 32) : Prop :=
  (∀ a x, ((![v2770] : Fin 1 → IVec S16 32) a x).toNat < S100000.size a)
theorem k0_idx41_inb : ∀ (v2770 : IVec S16 32) (k0_hw41 : k0_chk41 v2770), ∀ a x, ((![v2770] : Fin 1 → IVec S16 32) a x).toNat < S100000.size a := fun v2770 k0_hw41 => k0_hw41

def k0_chk42 (v2775 : IVec S16 32) : Prop :=
  (∀ a x, ((![v2775] : Fin 1 → IVec S16 32) a x).toNat < S100000.size a)
theorem k0_idx42_inb : ∀ (v2775 : IVec S16 32) (k0_hw42 : k0_chk42 v2775), ∀ a x, ((![v2775] : Fin 1 → IVec S16 32) a x).toNat < S100000.size a := fun v2775 k0_hw42 => k0_hw42

def k0_chk43 (v2780 : IVec S16 32) : Prop :=
  (∀ a x, ((![v2780] : Fin 1 → IVec S16 32) a x).toNat < S100000.size a)
theorem k0_idx43_inb : ∀ (v2780 : IVec S16 32) (k0_hw43 : k0_chk43 v2780), ∀ a x, ((![v2780] : Fin 1 → IVec S16 32) a x).toNat < S100000.size a := fun v2780 k0_hw43 => k0_hw43

def k0_chk44 (v2785 : IVec S16 32) : Prop :=
  (∀ a x, ((![v2785] : Fin 1 → IVec S16 32) a x).toNat < S100000.size a)
theorem k0_idx44_inb : ∀ (v2785 : IVec S16 32) (k0_hw44 : k0_chk44 v2785), ∀ a x, ((![v2785] : Fin 1 → IVec S16 32) a x).toNat < S100000.size a := fun v2785 k0_hw44 => k0_hw44

def k0_chk45 (v2790 : IVec S16 32) : Prop :=
  (∀ a x, ((![v2790] : Fin 1 → IVec S16 32) a x).toNat < S100000.size a)
theorem k0_idx45_inb : ∀ (v2790 : IVec S16 32) (k0_hw45 : k0_chk45 v2790), ∀ a x, ((![v2790] : Fin 1 → IVec S16 32) a x).toNat < S100000.size a := fun v2790 k0_hw45 => k0_hw45

def k0_chk46 (v2795 : IVec S16 32) : Prop :=
  (∀ a x, ((![v2795] : Fin 1 → IVec S16 32) a x).toNat < S100000.size a)
theorem k0_idx46_inb : ∀ (v2795 : IVec S16 32) (k0_hw46 : k0_chk46 v2795), ∀ a x, ((![v2795] : Fin 1 → IVec S16 32) a x).toNat < S100000.size a := fun v2795 k0_hw46 => k0_hw46

def k0_chk47 (v2800 : IVec S16 32) : Prop :=
  (∀ a x, ((![v2800] : Fin 1 → IVec S16 32) a x).toNat < S100000.size a)
theorem k0_idx47_inb : ∀ (v2800 : IVec S16 32) (k0_hw47 : k0_chk47 v2800), ∀ a x, ((![v2800] : Fin 1 → IVec S16 32) a x).toNat < S100000.size a := fun v2800 k0_hw47 => k0_hw47

def k0_chk48 (v2805 : IVec S16 32) : Prop :=
  (∀ a x, ((![v2805] : Fin 1 → IVec S16 32) a x).toNat < S100000.size a)
theorem k0_idx48_inb : ∀ (v2805 : IVec S16 32) (k0_hw48 : k0_chk48 v2805), ∀ a x, ((![v2805] : Fin 1 → IVec S16 32) a x).toNat < S100000.size a := fun v2805 k0_hw48 => k0_hw48
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c6_i32_1951 : BitVec 32 := 6#32
  let v2809 : BitVec 32 := Scalar.addi v2 c6_i32_1951
  let c0_i32_2809_r7 : BitVec 32 := 0#32
  ![v2809.toNat, 0]

def k0_chk49 (v2811 : IVec S16 32) : Prop :=
  (∀ a x, ((![v2811] : Fin 1 → IVec S16 32) a x).toNat < S100000.size a)
theorem k0_idx49_inb : ∀ (v2811 : IVec S16 32) (k0_hw49 : k0_chk49 v2811), ∀ a x, ((![v2811] : Fin 1 → IVec S16 32) a x).toNat < S100000.size a := fun v2811 k0_hw49 => k0_hw49

def k0_chk50 (v2816 : IVec S16 32) : Prop :=
  (∀ a x, ((![v2816] : Fin 1 → IVec S16 32) a x).toNat < S100000.size a)
theorem k0_idx50_inb : ∀ (v2816 : IVec S16 32) (k0_hw50 : k0_chk50 v2816), ∀ a x, ((![v2816] : Fin 1 → IVec S16 32) a x).toNat < S100000.size a := fun v2816 k0_hw50 => k0_hw50

def k0_chk51 (v2821 : IVec S16 32) : Prop :=
  (∀ a x, ((![v2821] : Fin 1 → IVec S16 32) a x).toNat < S100000.size a)
theorem k0_idx51_inb : ∀ (v2821 : IVec S16 32) (k0_hw51 : k0_chk51 v2821), ∀ a x, ((![v2821] : Fin 1 → IVec S16 32) a x).toNat < S100000.size a := fun v2821 k0_hw51 => k0_hw51

def k0_chk52 (v2826 : IVec S16 32) : Prop :=
  (∀ a x, ((![v2826] : Fin 1 → IVec S16 32) a x).toNat < S100000.size a)
theorem k0_idx52_inb : ∀ (v2826 : IVec S16 32) (k0_hw52 : k0_chk52 v2826), ∀ a x, ((![v2826] : Fin 1 → IVec S16 32) a x).toNat < S100000.size a := fun v2826 k0_hw52 => k0_hw52

def k0_chk53 (v2831 : IVec S16 32) : Prop :=
  (∀ a x, ((![v2831] : Fin 1 → IVec S16 32) a x).toNat < S100000.size a)
theorem k0_idx53_inb : ∀ (v2831 : IVec S16 32) (k0_hw53 : k0_chk53 v2831), ∀ a x, ((![v2831] : Fin 1 → IVec S16 32) a x).toNat < S100000.size a := fun v2831 k0_hw53 => k0_hw53

def k0_chk54 (v2836 : IVec S16 32) : Prop :=
  (∀ a x, ((![v2836] : Fin 1 → IVec S16 32) a x).toNat < S100000.size a)
theorem k0_idx54_inb : ∀ (v2836 : IVec S16 32) (k0_hw54 : k0_chk54 v2836), ∀ a x, ((![v2836] : Fin 1 → IVec S16 32) a x).toNat < S100000.size a := fun v2836 k0_hw54 => k0_hw54

def k0_chk55 (v2841 : IVec S16 32) : Prop :=
  (∀ a x, ((![v2841] : Fin 1 → IVec S16 32) a x).toNat < S100000.size a)
theorem k0_idx55_inb : ∀ (v2841 : IVec S16 32) (k0_hw55 : k0_chk55 v2841), ∀ a x, ((![v2841] : Fin 1 → IVec S16 32) a x).toNat < S100000.size a := fun v2841 k0_hw55 => k0_hw55

def k0_chk56 (v2846 : IVec S16 32) : Prop :=
  (∀ a x, ((![v2846] : Fin 1 → IVec S16 32) a x).toNat < S100000.size a)
theorem k0_idx56_inb : ∀ (v2846 : IVec S16 32) (k0_hw56 : k0_chk56 v2846), ∀ a x, ((![v2846] : Fin 1 → IVec S16 32) a x).toNat < S100000.size a := fun v2846 k0_hw56 => k0_hw56
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c7_i32_1984 : BitVec 32 := 7#32
  let v2850 : BitVec 32 := Scalar.addi v2 c7_i32_1984
  let c0_i32_2809_r8 : BitVec 32 := 0#32
  ![v2850.toNat, 0]

def k0_chk57 (v2852 : IVec S16 32) : Prop :=
  (∀ a x, ((![v2852] : Fin 1 → IVec S16 32) a x).toNat < S100000.size a)
theorem k0_idx57_inb : ∀ (v2852 : IVec S16 32) (k0_hw57 : k0_chk57 v2852), ∀ a x, ((![v2852] : Fin 1 → IVec S16 32) a x).toNat < S100000.size a := fun v2852 k0_hw57 => k0_hw57

def k0_chk58 (v2857 : IVec S16 32) : Prop :=
  (∀ a x, ((![v2857] : Fin 1 → IVec S16 32) a x).toNat < S100000.size a)
theorem k0_idx58_inb : ∀ (v2857 : IVec S16 32) (k0_hw58 : k0_chk58 v2857), ∀ a x, ((![v2857] : Fin 1 → IVec S16 32) a x).toNat < S100000.size a := fun v2857 k0_hw58 => k0_hw58

def k0_chk59 (v2862 : IVec S16 32) : Prop :=
  (∀ a x, ((![v2862] : Fin 1 → IVec S16 32) a x).toNat < S100000.size a)
theorem k0_idx59_inb : ∀ (v2862 : IVec S16 32) (k0_hw59 : k0_chk59 v2862), ∀ a x, ((![v2862] : Fin 1 → IVec S16 32) a x).toNat < S100000.size a := fun v2862 k0_hw59 => k0_hw59

def k0_chk60 (v2867 : IVec S16 32) : Prop :=
  (∀ a x, ((![v2867] : Fin 1 → IVec S16 32) a x).toNat < S100000.size a)
theorem k0_idx60_inb : ∀ (v2867 : IVec S16 32) (k0_hw60 : k0_chk60 v2867), ∀ a x, ((![v2867] : Fin 1 → IVec S16 32) a x).toNat < S100000.size a := fun v2867 k0_hw60 => k0_hw60

def k0_chk61 (v2872 : IVec S16 32) : Prop :=
  (∀ a x, ((![v2872] : Fin 1 → IVec S16 32) a x).toNat < S100000.size a)
theorem k0_idx61_inb : ∀ (v2872 : IVec S16 32) (k0_hw61 : k0_chk61 v2872), ∀ a x, ((![v2872] : Fin 1 → IVec S16 32) a x).toNat < S100000.size a := fun v2872 k0_hw61 => k0_hw61

def k0_chk62 (v2877 : IVec S16 32) : Prop :=
  (∀ a x, ((![v2877] : Fin 1 → IVec S16 32) a x).toNat < S100000.size a)
theorem k0_idx62_inb : ∀ (v2877 : IVec S16 32) (k0_hw62 : k0_chk62 v2877), ∀ a x, ((![v2877] : Fin 1 → IVec S16 32) a x).toNat < S100000.size a := fun v2877 k0_hw62 => k0_hw62

def k0_chk63 (v2882 : IVec S16 32) : Prop :=
  (∀ a x, ((![v2882] : Fin 1 → IVec S16 32) a x).toNat < S100000.size a)
theorem k0_idx63_inb : ∀ (v2882 : IVec S16 32) (k0_hw63 : k0_chk63 v2882), ∀ a x, ((![v2882] : Fin 1 → IVec S16 32) a x).toNat < S100000.size a := fun v2882 k0_hw63 => k0_hw63

def k0_chk64 (v2887 : IVec S16 32) : Prop :=
  (∀ a x, ((![v2887] : Fin 1 → IVec S16 32) a x).toNat < S100000.size a)
theorem k0_idx64_inb : ∀ (v2887 : IVec S16 32) (k0_hw64 : k0_chk64 v2887), ∀ a x, ((![v2887] : Fin 1 → IVec S16 32) a x).toNat < S100000.size a := fun v2887 k0_hw64 => k0_hw64
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_2017 : BitVec 32 := 8#32
  let v2891 : BitVec 32 := Scalar.addi v2 c8_i32_2017
  let c0_i32_2809_r9 : BitVec 32 := 0#32
  ![v2891.toNat, 0]

def k0_chk65 (v2893 : IVec S16 32) : Prop :=
  (∀ a x, ((![v2893] : Fin 1 → IVec S16 32) a x).toNat < S100000.size a)
theorem k0_idx65_inb : ∀ (v2893 : IVec S16 32) (k0_hw65 : k0_chk65 v2893), ∀ a x, ((![v2893] : Fin 1 → IVec S16 32) a x).toNat < S100000.size a := fun v2893 k0_hw65 => k0_hw65

def k0_chk66 (v2898 : IVec S16 32) : Prop :=
  (∀ a x, ((![v2898] : Fin 1 → IVec S16 32) a x).toNat < S100000.size a)
theorem k0_idx66_inb : ∀ (v2898 : IVec S16 32) (k0_hw66 : k0_chk66 v2898), ∀ a x, ((![v2898] : Fin 1 → IVec S16 32) a x).toNat < S100000.size a := fun v2898 k0_hw66 => k0_hw66

def k0_chk67 (v2903 : IVec S16 32) : Prop :=
  (∀ a x, ((![v2903] : Fin 1 → IVec S16 32) a x).toNat < S100000.size a)
theorem k0_idx67_inb : ∀ (v2903 : IVec S16 32) (k0_hw67 : k0_chk67 v2903), ∀ a x, ((![v2903] : Fin 1 → IVec S16 32) a x).toNat < S100000.size a := fun v2903 k0_hw67 => k0_hw67

def k0_chk68 (v2908 : IVec S16 32) : Prop :=
  (∀ a x, ((![v2908] : Fin 1 → IVec S16 32) a x).toNat < S100000.size a)
theorem k0_idx68_inb : ∀ (v2908 : IVec S16 32) (k0_hw68 : k0_chk68 v2908), ∀ a x, ((![v2908] : Fin 1 → IVec S16 32) a x).toNat < S100000.size a := fun v2908 k0_hw68 => k0_hw68

def k0_chk69 (v2913 : IVec S16 32) : Prop :=
  (∀ a x, ((![v2913] : Fin 1 → IVec S16 32) a x).toNat < S100000.size a)
theorem k0_idx69_inb : ∀ (v2913 : IVec S16 32) (k0_hw69 : k0_chk69 v2913), ∀ a x, ((![v2913] : Fin 1 → IVec S16 32) a x).toNat < S100000.size a := fun v2913 k0_hw69 => k0_hw69

def k0_chk70 (v2918 : IVec S16 32) : Prop :=
  (∀ a x, ((![v2918] : Fin 1 → IVec S16 32) a x).toNat < S100000.size a)
theorem k0_idx70_inb : ∀ (v2918 : IVec S16 32) (k0_hw70 : k0_chk70 v2918), ∀ a x, ((![v2918] : Fin 1 → IVec S16 32) a x).toNat < S100000.size a := fun v2918 k0_hw70 => k0_hw70

def k0_chk71 (v2923 : IVec S16 32) : Prop :=
  (∀ a x, ((![v2923] : Fin 1 → IVec S16 32) a x).toNat < S100000.size a)
theorem k0_idx71_inb : ∀ (v2923 : IVec S16 32) (k0_hw71 : k0_chk71 v2923), ∀ a x, ((![v2923] : Fin 1 → IVec S16 32) a x).toNat < S100000.size a := fun v2923 k0_hw71 => k0_hw71

def k0_chk72 (v2928 : IVec S16 32) : Prop :=
  (∀ a x, ((![v2928] : Fin 1 → IVec S16 32) a x).toNat < S100000.size a)
theorem k0_idx72_inb : ∀ (v2928 : IVec S16 32) (k0_hw72 : k0_chk72 v2928), ∀ a x, ((![v2928] : Fin 1 → IVec S16 32) a x).toNat < S100000.size a := fun v2928 k0_hw72 => k0_hw72
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c9_i32_2050 : BitVec 32 := 9#32
  let v2932 : BitVec 32 := Scalar.addi v2 c9_i32_2050
  let c0_i32_2809_r10 : BitVec 32 := 0#32
  ![v2932.toNat, 0]

def k0_chk73 (v2934 : IVec S16 32) : Prop :=
  (∀ a x, ((![v2934] : Fin 1 → IVec S16 32) a x).toNat < S100000.size a)
theorem k0_idx73_inb : ∀ (v2934 : IVec S16 32) (k0_hw73 : k0_chk73 v2934), ∀ a x, ((![v2934] : Fin 1 → IVec S16 32) a x).toNat < S100000.size a := fun v2934 k0_hw73 => k0_hw73

def k0_chk74 (v2939 : IVec S16 32) : Prop :=
  (∀ a x, ((![v2939] : Fin 1 → IVec S16 32) a x).toNat < S100000.size a)
theorem k0_idx74_inb : ∀ (v2939 : IVec S16 32) (k0_hw74 : k0_chk74 v2939), ∀ a x, ((![v2939] : Fin 1 → IVec S16 32) a x).toNat < S100000.size a := fun v2939 k0_hw74 => k0_hw74

def k0_chk75 (v2944 : IVec S16 32) : Prop :=
  (∀ a x, ((![v2944] : Fin 1 → IVec S16 32) a x).toNat < S100000.size a)
theorem k0_idx75_inb : ∀ (v2944 : IVec S16 32) (k0_hw75 : k0_chk75 v2944), ∀ a x, ((![v2944] : Fin 1 → IVec S16 32) a x).toNat < S100000.size a := fun v2944 k0_hw75 => k0_hw75

def k0_chk76 (v2949 : IVec S16 32) : Prop :=
  (∀ a x, ((![v2949] : Fin 1 → IVec S16 32) a x).toNat < S100000.size a)
theorem k0_idx76_inb : ∀ (v2949 : IVec S16 32) (k0_hw76 : k0_chk76 v2949), ∀ a x, ((![v2949] : Fin 1 → IVec S16 32) a x).toNat < S100000.size a := fun v2949 k0_hw76 => k0_hw76

def k0_chk77 (v2954 : IVec S16 32) : Prop :=
  (∀ a x, ((![v2954] : Fin 1 → IVec S16 32) a x).toNat < S100000.size a)
theorem k0_idx77_inb : ∀ (v2954 : IVec S16 32) (k0_hw77 : k0_chk77 v2954), ∀ a x, ((![v2954] : Fin 1 → IVec S16 32) a x).toNat < S100000.size a := fun v2954 k0_hw77 => k0_hw77

def k0_chk78 (v2959 : IVec S16 32) : Prop :=
  (∀ a x, ((![v2959] : Fin 1 → IVec S16 32) a x).toNat < S100000.size a)
theorem k0_idx78_inb : ∀ (v2959 : IVec S16 32) (k0_hw78 : k0_chk78 v2959), ∀ a x, ((![v2959] : Fin 1 → IVec S16 32) a x).toNat < S100000.size a := fun v2959 k0_hw78 => k0_hw78

def k0_chk79 (v2964 : IVec S16 32) : Prop :=
  (∀ a x, ((![v2964] : Fin 1 → IVec S16 32) a x).toNat < S100000.size a)
theorem k0_idx79_inb : ∀ (v2964 : IVec S16 32) (k0_hw79 : k0_chk79 v2964), ∀ a x, ((![v2964] : Fin 1 → IVec S16 32) a x).toNat < S100000.size a := fun v2964 k0_hw79 => k0_hw79

def k0_chk80 (v2969 : IVec S16 32) : Prop :=
  (∀ a x, ((![v2969] : Fin 1 → IVec S16 32) a x).toNat < S100000.size a)
theorem k0_idx80_inb : ∀ (v2969 : IVec S16 32) (k0_hw80 : k0_chk80 v2969), ∀ a x, ((![v2969] : Fin 1 → IVec S16 32) a x).toNat < S100000.size a := fun v2969 k0_hw80 => k0_hw80
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c10_i32_2083 : BitVec 32 := 10#32
  let v2973 : BitVec 32 := Scalar.addi v2 c10_i32_2083
  let c0_i32_2809_r11 : BitVec 32 := 0#32
  ![v2973.toNat, 0]

def k0_chk81 (v2975 : IVec S16 32) : Prop :=
  (∀ a x, ((![v2975] : Fin 1 → IVec S16 32) a x).toNat < S100000.size a)
theorem k0_idx81_inb : ∀ (v2975 : IVec S16 32) (k0_hw81 : k0_chk81 v2975), ∀ a x, ((![v2975] : Fin 1 → IVec S16 32) a x).toNat < S100000.size a := fun v2975 k0_hw81 => k0_hw81

def k0_chk82 (v2980 : IVec S16 32) : Prop :=
  (∀ a x, ((![v2980] : Fin 1 → IVec S16 32) a x).toNat < S100000.size a)
theorem k0_idx82_inb : ∀ (v2980 : IVec S16 32) (k0_hw82 : k0_chk82 v2980), ∀ a x, ((![v2980] : Fin 1 → IVec S16 32) a x).toNat < S100000.size a := fun v2980 k0_hw82 => k0_hw82

def k0_chk83 (v2985 : IVec S16 32) : Prop :=
  (∀ a x, ((![v2985] : Fin 1 → IVec S16 32) a x).toNat < S100000.size a)
theorem k0_idx83_inb : ∀ (v2985 : IVec S16 32) (k0_hw83 : k0_chk83 v2985), ∀ a x, ((![v2985] : Fin 1 → IVec S16 32) a x).toNat < S100000.size a := fun v2985 k0_hw83 => k0_hw83

def k0_chk84 (v2990 : IVec S16 32) : Prop :=
  (∀ a x, ((![v2990] : Fin 1 → IVec S16 32) a x).toNat < S100000.size a)
theorem k0_idx84_inb : ∀ (v2990 : IVec S16 32) (k0_hw84 : k0_chk84 v2990), ∀ a x, ((![v2990] : Fin 1 → IVec S16 32) a x).toNat < S100000.size a := fun v2990 k0_hw84 => k0_hw84

def k0_chk85 (v2995 : IVec S16 32) : Prop :=
  (∀ a x, ((![v2995] : Fin 1 → IVec S16 32) a x).toNat < S100000.size a)
theorem k0_idx85_inb : ∀ (v2995 : IVec S16 32) (k0_hw85 : k0_chk85 v2995), ∀ a x, ((![v2995] : Fin 1 → IVec S16 32) a x).toNat < S100000.size a := fun v2995 k0_hw85 => k0_hw85

def k0_chk86 (v3000 : IVec S16 32) : Prop :=
  (∀ a x, ((![v3000] : Fin 1 → IVec S16 32) a x).toNat < S100000.size a)
theorem k0_idx86_inb : ∀ (v3000 : IVec S16 32) (k0_hw86 : k0_chk86 v3000), ∀ a x, ((![v3000] : Fin 1 → IVec S16 32) a x).toNat < S100000.size a := fun v3000 k0_hw86 => k0_hw86

def k0_chk87 (v3005 : IVec S16 32) : Prop :=
  (∀ a x, ((![v3005] : Fin 1 → IVec S16 32) a x).toNat < S100000.size a)
theorem k0_idx87_inb : ∀ (v3005 : IVec S16 32) (k0_hw87 : k0_chk87 v3005), ∀ a x, ((![v3005] : Fin 1 → IVec S16 32) a x).toNat < S100000.size a := fun v3005 k0_hw87 => k0_hw87

def k0_chk88 (v3010 : IVec S16 32) : Prop :=
  (∀ a x, ((![v3010] : Fin 1 → IVec S16 32) a x).toNat < S100000.size a)
theorem k0_idx88_inb : ∀ (v3010 : IVec S16 32) (k0_hw88 : k0_chk88 v3010), ∀ a x, ((![v3010] : Fin 1 → IVec S16 32) a x).toNat < S100000.size a := fun v3010 k0_hw88 => k0_hw88
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c11_i32_2116 : BitVec 32 := 11#32
  let v3014 : BitVec 32 := Scalar.addi v2 c11_i32_2116
  let c0_i32_2809_r12 : BitVec 32 := 0#32
  ![v3014.toNat, 0]

def k0_chk89 (v3016 : IVec S16 32) : Prop :=
  (∀ a x, ((![v3016] : Fin 1 → IVec S16 32) a x).toNat < S100000.size a)
theorem k0_idx89_inb : ∀ (v3016 : IVec S16 32) (k0_hw89 : k0_chk89 v3016), ∀ a x, ((![v3016] : Fin 1 → IVec S16 32) a x).toNat < S100000.size a := fun v3016 k0_hw89 => k0_hw89

def k0_chk90 (v3021 : IVec S16 32) : Prop :=
  (∀ a x, ((![v3021] : Fin 1 → IVec S16 32) a x).toNat < S100000.size a)
theorem k0_idx90_inb : ∀ (v3021 : IVec S16 32) (k0_hw90 : k0_chk90 v3021), ∀ a x, ((![v3021] : Fin 1 → IVec S16 32) a x).toNat < S100000.size a := fun v3021 k0_hw90 => k0_hw90

def k0_chk91 (v3026 : IVec S16 32) : Prop :=
  (∀ a x, ((![v3026] : Fin 1 → IVec S16 32) a x).toNat < S100000.size a)
theorem k0_idx91_inb : ∀ (v3026 : IVec S16 32) (k0_hw91 : k0_chk91 v3026), ∀ a x, ((![v3026] : Fin 1 → IVec S16 32) a x).toNat < S100000.size a := fun v3026 k0_hw91 => k0_hw91

def k0_chk92 (v3031 : IVec S16 32) : Prop :=
  (∀ a x, ((![v3031] : Fin 1 → IVec S16 32) a x).toNat < S100000.size a)
theorem k0_idx92_inb : ∀ (v3031 : IVec S16 32) (k0_hw92 : k0_chk92 v3031), ∀ a x, ((![v3031] : Fin 1 → IVec S16 32) a x).toNat < S100000.size a := fun v3031 k0_hw92 => k0_hw92

def k0_chk93 (v3036 : IVec S16 32) : Prop :=
  (∀ a x, ((![v3036] : Fin 1 → IVec S16 32) a x).toNat < S100000.size a)
theorem k0_idx93_inb : ∀ (v3036 : IVec S16 32) (k0_hw93 : k0_chk93 v3036), ∀ a x, ((![v3036] : Fin 1 → IVec S16 32) a x).toNat < S100000.size a := fun v3036 k0_hw93 => k0_hw93

def k0_chk94 (v3041 : IVec S16 32) : Prop :=
  (∀ a x, ((![v3041] : Fin 1 → IVec S16 32) a x).toNat < S100000.size a)
theorem k0_idx94_inb : ∀ (v3041 : IVec S16 32) (k0_hw94 : k0_chk94 v3041), ∀ a x, ((![v3041] : Fin 1 → IVec S16 32) a x).toNat < S100000.size a := fun v3041 k0_hw94 => k0_hw94

def k0_chk95 (v3046 : IVec S16 32) : Prop :=
  (∀ a x, ((![v3046] : Fin 1 → IVec S16 32) a x).toNat < S100000.size a)
theorem k0_idx95_inb : ∀ (v3046 : IVec S16 32) (k0_hw95 : k0_chk95 v3046), ∀ a x, ((![v3046] : Fin 1 → IVec S16 32) a x).toNat < S100000.size a := fun v3046 k0_hw95 => k0_hw95

def k0_chk96 (v3051 : IVec S16 32) : Prop :=
  (∀ a x, ((![v3051] : Fin 1 → IVec S16 32) a x).toNat < S100000.size a)
theorem k0_idx96_inb : ∀ (v3051 : IVec S16 32) (k0_hw96 : k0_chk96 v3051), ∀ a x, ((![v3051] : Fin 1 → IVec S16 32) a x).toNat < S100000.size a := fun v3051 k0_hw96 => k0_hw96
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c12_i32_2149 : BitVec 32 := 12#32
  let v3055 : BitVec 32 := Scalar.addi v2 c12_i32_2149
  let c0_i32_2809_r13 : BitVec 32 := 0#32
  ![v3055.toNat, 0]

def k0_chk97 (v3057 : IVec S16 32) : Prop :=
  (∀ a x, ((![v3057] : Fin 1 → IVec S16 32) a x).toNat < S100000.size a)
theorem k0_idx97_inb : ∀ (v3057 : IVec S16 32) (k0_hw97 : k0_chk97 v3057), ∀ a x, ((![v3057] : Fin 1 → IVec S16 32) a x).toNat < S100000.size a := fun v3057 k0_hw97 => k0_hw97

def k0_chk98 (v3062 : IVec S16 32) : Prop :=
  (∀ a x, ((![v3062] : Fin 1 → IVec S16 32) a x).toNat < S100000.size a)
theorem k0_idx98_inb : ∀ (v3062 : IVec S16 32) (k0_hw98 : k0_chk98 v3062), ∀ a x, ((![v3062] : Fin 1 → IVec S16 32) a x).toNat < S100000.size a := fun v3062 k0_hw98 => k0_hw98

def k0_chk99 (v3067 : IVec S16 32) : Prop :=
  (∀ a x, ((![v3067] : Fin 1 → IVec S16 32) a x).toNat < S100000.size a)
theorem k0_idx99_inb : ∀ (v3067 : IVec S16 32) (k0_hw99 : k0_chk99 v3067), ∀ a x, ((![v3067] : Fin 1 → IVec S16 32) a x).toNat < S100000.size a := fun v3067 k0_hw99 => k0_hw99

def k0_chk100 (v3072 : IVec S16 32) : Prop :=
  (∀ a x, ((![v3072] : Fin 1 → IVec S16 32) a x).toNat < S100000.size a)
theorem k0_idx100_inb : ∀ (v3072 : IVec S16 32) (k0_hw100 : k0_chk100 v3072), ∀ a x, ((![v3072] : Fin 1 → IVec S16 32) a x).toNat < S100000.size a := fun v3072 k0_hw100 => k0_hw100

def k0_chk101 (v3077 : IVec S16 32) : Prop :=
  (∀ a x, ((![v3077] : Fin 1 → IVec S16 32) a x).toNat < S100000.size a)
theorem k0_idx101_inb : ∀ (v3077 : IVec S16 32) (k0_hw101 : k0_chk101 v3077), ∀ a x, ((![v3077] : Fin 1 → IVec S16 32) a x).toNat < S100000.size a := fun v3077 k0_hw101 => k0_hw101

def k0_chk102 (v3082 : IVec S16 32) : Prop :=
  (∀ a x, ((![v3082] : Fin 1 → IVec S16 32) a x).toNat < S100000.size a)
theorem k0_idx102_inb : ∀ (v3082 : IVec S16 32) (k0_hw102 : k0_chk102 v3082), ∀ a x, ((![v3082] : Fin 1 → IVec S16 32) a x).toNat < S100000.size a := fun v3082 k0_hw102 => k0_hw102

def k0_chk103 (v3087 : IVec S16 32) : Prop :=
  (∀ a x, ((![v3087] : Fin 1 → IVec S16 32) a x).toNat < S100000.size a)
theorem k0_idx103_inb : ∀ (v3087 : IVec S16 32) (k0_hw103 : k0_chk103 v3087), ∀ a x, ((![v3087] : Fin 1 → IVec S16 32) a x).toNat < S100000.size a := fun v3087 k0_hw103 => k0_hw103

def k0_chk104 (v3092 : IVec S16 32) : Prop :=
  (∀ a x, ((![v3092] : Fin 1 → IVec S16 32) a x).toNat < S100000.size a)
theorem k0_idx104_inb : ∀ (v3092 : IVec S16 32) (k0_hw104 : k0_chk104 v3092), ∀ a x, ((![v3092] : Fin 1 → IVec S16 32) a x).toNat < S100000.size a := fun v3092 k0_hw104 => k0_hw104
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c13_i32_2182 : BitVec 32 := 13#32
  let v3096 : BitVec 32 := Scalar.addi v2 c13_i32_2182
  let c0_i32_2809_r14 : BitVec 32 := 0#32
  ![v3096.toNat, 0]

def k0_chk105 (v3098 : IVec S16 32) : Prop :=
  (∀ a x, ((![v3098] : Fin 1 → IVec S16 32) a x).toNat < S100000.size a)
theorem k0_idx105_inb : ∀ (v3098 : IVec S16 32) (k0_hw105 : k0_chk105 v3098), ∀ a x, ((![v3098] : Fin 1 → IVec S16 32) a x).toNat < S100000.size a := fun v3098 k0_hw105 => k0_hw105

def k0_chk106 (v3103 : IVec S16 32) : Prop :=
  (∀ a x, ((![v3103] : Fin 1 → IVec S16 32) a x).toNat < S100000.size a)
theorem k0_idx106_inb : ∀ (v3103 : IVec S16 32) (k0_hw106 : k0_chk106 v3103), ∀ a x, ((![v3103] : Fin 1 → IVec S16 32) a x).toNat < S100000.size a := fun v3103 k0_hw106 => k0_hw106

def k0_chk107 (v3108 : IVec S16 32) : Prop :=
  (∀ a x, ((![v3108] : Fin 1 → IVec S16 32) a x).toNat < S100000.size a)
theorem k0_idx107_inb : ∀ (v3108 : IVec S16 32) (k0_hw107 : k0_chk107 v3108), ∀ a x, ((![v3108] : Fin 1 → IVec S16 32) a x).toNat < S100000.size a := fun v3108 k0_hw107 => k0_hw107

def k0_chk108 (v3113 : IVec S16 32) : Prop :=
  (∀ a x, ((![v3113] : Fin 1 → IVec S16 32) a x).toNat < S100000.size a)
theorem k0_idx108_inb : ∀ (v3113 : IVec S16 32) (k0_hw108 : k0_chk108 v3113), ∀ a x, ((![v3113] : Fin 1 → IVec S16 32) a x).toNat < S100000.size a := fun v3113 k0_hw108 => k0_hw108

def k0_chk109 (v3118 : IVec S16 32) : Prop :=
  (∀ a x, ((![v3118] : Fin 1 → IVec S16 32) a x).toNat < S100000.size a)
theorem k0_idx109_inb : ∀ (v3118 : IVec S16 32) (k0_hw109 : k0_chk109 v3118), ∀ a x, ((![v3118] : Fin 1 → IVec S16 32) a x).toNat < S100000.size a := fun v3118 k0_hw109 => k0_hw109

def k0_chk110 (v3123 : IVec S16 32) : Prop :=
  (∀ a x, ((![v3123] : Fin 1 → IVec S16 32) a x).toNat < S100000.size a)
theorem k0_idx110_inb : ∀ (v3123 : IVec S16 32) (k0_hw110 : k0_chk110 v3123), ∀ a x, ((![v3123] : Fin 1 → IVec S16 32) a x).toNat < S100000.size a := fun v3123 k0_hw110 => k0_hw110

def k0_chk111 (v3128 : IVec S16 32) : Prop :=
  (∀ a x, ((![v3128] : Fin 1 → IVec S16 32) a x).toNat < S100000.size a)
theorem k0_idx111_inb : ∀ (v3128 : IVec S16 32) (k0_hw111 : k0_chk111 v3128), ∀ a x, ((![v3128] : Fin 1 → IVec S16 32) a x).toNat < S100000.size a := fun v3128 k0_hw111 => k0_hw111

def k0_chk112 (v3133 : IVec S16 32) : Prop :=
  (∀ a x, ((![v3133] : Fin 1 → IVec S16 32) a x).toNat < S100000.size a)
theorem k0_idx112_inb : ∀ (v3133 : IVec S16 32) (k0_hw112 : k0_chk112 v3133), ∀ a x, ((![v3133] : Fin 1 → IVec S16 32) a x).toNat < S100000.size a := fun v3133 k0_hw112 => k0_hw112
def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c14_i32_2215 : BitVec 32 := 14#32
  let v3137 : BitVec 32 := Scalar.addi v2 c14_i32_2215
  let c0_i32_2809_r15 : BitVec 32 := 0#32
  ![v3137.toNat, 0]

def k0_chk113 (v3139 : IVec S16 32) : Prop :=
  (∀ a x, ((![v3139] : Fin 1 → IVec S16 32) a x).toNat < S100000.size a)
theorem k0_idx113_inb : ∀ (v3139 : IVec S16 32) (k0_hw113 : k0_chk113 v3139), ∀ a x, ((![v3139] : Fin 1 → IVec S16 32) a x).toNat < S100000.size a := fun v3139 k0_hw113 => k0_hw113

def k0_chk114 (v3144 : IVec S16 32) : Prop :=
  (∀ a x, ((![v3144] : Fin 1 → IVec S16 32) a x).toNat < S100000.size a)
theorem k0_idx114_inb : ∀ (v3144 : IVec S16 32) (k0_hw114 : k0_chk114 v3144), ∀ a x, ((![v3144] : Fin 1 → IVec S16 32) a x).toNat < S100000.size a := fun v3144 k0_hw114 => k0_hw114

def k0_chk115 (v3149 : IVec S16 32) : Prop :=
  (∀ a x, ((![v3149] : Fin 1 → IVec S16 32) a x).toNat < S100000.size a)
theorem k0_idx115_inb : ∀ (v3149 : IVec S16 32) (k0_hw115 : k0_chk115 v3149), ∀ a x, ((![v3149] : Fin 1 → IVec S16 32) a x).toNat < S100000.size a := fun v3149 k0_hw115 => k0_hw115

def k0_chk116 (v3154 : IVec S16 32) : Prop :=
  (∀ a x, ((![v3154] : Fin 1 → IVec S16 32) a x).toNat < S100000.size a)
theorem k0_idx116_inb : ∀ (v3154 : IVec S16 32) (k0_hw116 : k0_chk116 v3154), ∀ a x, ((![v3154] : Fin 1 → IVec S16 32) a x).toNat < S100000.size a := fun v3154 k0_hw116 => k0_hw116

def k0_chk117 (v3159 : IVec S16 32) : Prop :=
  (∀ a x, ((![v3159] : Fin 1 → IVec S16 32) a x).toNat < S100000.size a)
theorem k0_idx117_inb : ∀ (v3159 : IVec S16 32) (k0_hw117 : k0_chk117 v3159), ∀ a x, ((![v3159] : Fin 1 → IVec S16 32) a x).toNat < S100000.size a := fun v3159 k0_hw117 => k0_hw117

def k0_chk118 (v3164 : IVec S16 32) : Prop :=
  (∀ a x, ((![v3164] : Fin 1 → IVec S16 32) a x).toNat < S100000.size a)
theorem k0_idx118_inb : ∀ (v3164 : IVec S16 32) (k0_hw118 : k0_chk118 v3164), ∀ a x, ((![v3164] : Fin 1 → IVec S16 32) a x).toNat < S100000.size a := fun v3164 k0_hw118 => k0_hw118

def k0_chk119 (v3169 : IVec S16 32) : Prop :=
  (∀ a x, ((![v3169] : Fin 1 → IVec S16 32) a x).toNat < S100000.size a)
theorem k0_idx119_inb : ∀ (v3169 : IVec S16 32) (k0_hw119 : k0_chk119 v3169), ∀ a x, ((![v3169] : Fin 1 → IVec S16 32) a x).toNat < S100000.size a := fun v3169 k0_hw119 => k0_hw119

def k0_chk120 (v3174 : IVec S16 32) : Prop :=
  (∀ a x, ((![v3174] : Fin 1 → IVec S16 32) a x).toNat < S100000.size a)
theorem k0_idx120_inb : ∀ (v3174 : IVec S16 32) (k0_hw120 : k0_chk120 v3174), ∀ a x, ((![v3174] : Fin 1 → IVec S16 32) a x).toNat < S100000.size a := fun v3174 k0_hw120 => k0_hw120
def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c15_i32_2248 : BitVec 32 := 15#32
  let v3178 : BitVec 32 := Scalar.addi v2 c15_i32_2248
  let c0_i32_2809_r16 : BitVec 32 := 0#32
  ![v3178.toNat, 0]

def k0_chk121 (v3180 : IVec S16 32) : Prop :=
  (∀ a x, ((![v3180] : Fin 1 → IVec S16 32) a x).toNat < S100000.size a)
theorem k0_idx121_inb : ∀ (v3180 : IVec S16 32) (k0_hw121 : k0_chk121 v3180), ∀ a x, ((![v3180] : Fin 1 → IVec S16 32) a x).toNat < S100000.size a := fun v3180 k0_hw121 => k0_hw121

def k0_chk122 (v3185 : IVec S16 32) : Prop :=
  (∀ a x, ((![v3185] : Fin 1 → IVec S16 32) a x).toNat < S100000.size a)
theorem k0_idx122_inb : ∀ (v3185 : IVec S16 32) (k0_hw122 : k0_chk122 v3185), ∀ a x, ((![v3185] : Fin 1 → IVec S16 32) a x).toNat < S100000.size a := fun v3185 k0_hw122 => k0_hw122

def k0_chk123 (v3190 : IVec S16 32) : Prop :=
  (∀ a x, ((![v3190] : Fin 1 → IVec S16 32) a x).toNat < S100000.size a)
theorem k0_idx123_inb : ∀ (v3190 : IVec S16 32) (k0_hw123 : k0_chk123 v3190), ∀ a x, ((![v3190] : Fin 1 → IVec S16 32) a x).toNat < S100000.size a := fun v3190 k0_hw123 => k0_hw123

def k0_chk124 (v3195 : IVec S16 32) : Prop :=
  (∀ a x, ((![v3195] : Fin 1 → IVec S16 32) a x).toNat < S100000.size a)
theorem k0_idx124_inb : ∀ (v3195 : IVec S16 32) (k0_hw124 : k0_chk124 v3195), ∀ a x, ((![v3195] : Fin 1 → IVec S16 32) a x).toNat < S100000.size a := fun v3195 k0_hw124 => k0_hw124

def k0_chk125 (v3200 : IVec S16 32) : Prop :=
  (∀ a x, ((![v3200] : Fin 1 → IVec S16 32) a x).toNat < S100000.size a)
theorem k0_idx125_inb : ∀ (v3200 : IVec S16 32) (k0_hw125 : k0_chk125 v3200), ∀ a x, ((![v3200] : Fin 1 → IVec S16 32) a x).toNat < S100000.size a := fun v3200 k0_hw125 => k0_hw125

def k0_chk126 (v3205 : IVec S16 32) : Prop :=
  (∀ a x, ((![v3205] : Fin 1 → IVec S16 32) a x).toNat < S100000.size a)
theorem k0_idx126_inb : ∀ (v3205 : IVec S16 32) (k0_hw126 : k0_chk126 v3205), ∀ a x, ((![v3205] : Fin 1 → IVec S16 32) a x).toNat < S100000.size a := fun v3205 k0_hw126 => k0_hw126

def k0_chk127 (v3210 : IVec S16 32) : Prop :=
  (∀ a x, ((![v3210] : Fin 1 → IVec S16 32) a x).toNat < S100000.size a)
theorem k0_idx127_inb : ∀ (v3210 : IVec S16 32) (k0_hw127 : k0_chk127 v3210), ∀ a x, ((![v3210] : Fin 1 → IVec S16 32) a x).toNat < S100000.size a := fun v3210 k0_hw127 => k0_hw127

def k0_chk128 (v3215 : IVec S16 32) : Prop :=
  (∀ a x, ((![v3215] : Fin 1 → IVec S16 32) a x).toNat < S100000.size a)
theorem k0_idx128_inb : ∀ (v3215 : IVec S16 32) (k0_hw128 : k0_chk128 v3215), ∀ a x, ((![v3215] : Fin 1 → IVec S16 32) a x).toNat < S100000.size a := fun v3215 k0_hw128 => k0_hw128
def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_2281 : BitVec 32 := 16#32
  let v3219 : BitVec 32 := Scalar.addi v2 c16_i32_2281
  let c0_i32_2809_r17 : BitVec 32 := 0#32
  ![v3219.toNat, 0]

def k0_chk129 (v3221 : IVec S16 32) : Prop :=
  (∀ a x, ((![v3221] : Fin 1 → IVec S16 32) a x).toNat < S100000.size a)
theorem k0_idx129_inb : ∀ (v3221 : IVec S16 32) (k0_hw129 : k0_chk129 v3221), ∀ a x, ((![v3221] : Fin 1 → IVec S16 32) a x).toNat < S100000.size a := fun v3221 k0_hw129 => k0_hw129

def k0_chk130 (v3226 : IVec S16 32) : Prop :=
  (∀ a x, ((![v3226] : Fin 1 → IVec S16 32) a x).toNat < S100000.size a)
theorem k0_idx130_inb : ∀ (v3226 : IVec S16 32) (k0_hw130 : k0_chk130 v3226), ∀ a x, ((![v3226] : Fin 1 → IVec S16 32) a x).toNat < S100000.size a := fun v3226 k0_hw130 => k0_hw130

def k0_chk131 (v3231 : IVec S16 32) : Prop :=
  (∀ a x, ((![v3231] : Fin 1 → IVec S16 32) a x).toNat < S100000.size a)
theorem k0_idx131_inb : ∀ (v3231 : IVec S16 32) (k0_hw131 : k0_chk131 v3231), ∀ a x, ((![v3231] : Fin 1 → IVec S16 32) a x).toNat < S100000.size a := fun v3231 k0_hw131 => k0_hw131

def k0_chk132 (v3236 : IVec S16 32) : Prop :=
  (∀ a x, ((![v3236] : Fin 1 → IVec S16 32) a x).toNat < S100000.size a)
theorem k0_idx132_inb : ∀ (v3236 : IVec S16 32) (k0_hw132 : k0_chk132 v3236), ∀ a x, ((![v3236] : Fin 1 → IVec S16 32) a x).toNat < S100000.size a := fun v3236 k0_hw132 => k0_hw132

def k0_chk133 (v3241 : IVec S16 32) : Prop :=
  (∀ a x, ((![v3241] : Fin 1 → IVec S16 32) a x).toNat < S100000.size a)
theorem k0_idx133_inb : ∀ (v3241 : IVec S16 32) (k0_hw133 : k0_chk133 v3241), ∀ a x, ((![v3241] : Fin 1 → IVec S16 32) a x).toNat < S100000.size a := fun v3241 k0_hw133 => k0_hw133

def k0_chk134 (v3246 : IVec S16 32) : Prop :=
  (∀ a x, ((![v3246] : Fin 1 → IVec S16 32) a x).toNat < S100000.size a)
theorem k0_idx134_inb : ∀ (v3246 : IVec S16 32) (k0_hw134 : k0_chk134 v3246), ∀ a x, ((![v3246] : Fin 1 → IVec S16 32) a x).toNat < S100000.size a := fun v3246 k0_hw134 => k0_hw134

def k0_chk135 (v3251 : IVec S16 32) : Prop :=
  (∀ a x, ((![v3251] : Fin 1 → IVec S16 32) a x).toNat < S100000.size a)
theorem k0_idx135_inb : ∀ (v3251 : IVec S16 32) (k0_hw135 : k0_chk135 v3251), ∀ a x, ((![v3251] : Fin 1 → IVec S16 32) a x).toNat < S100000.size a := fun v3251 k0_hw135 => k0_hw135

def k0_chk136 (v3256 : IVec S16 32) : Prop :=
  (∀ a x, ((![v3256] : Fin 1 → IVec S16 32) a x).toNat < S100000.size a)
theorem k0_idx136_inb : ∀ (v3256 : IVec S16 32) (k0_hw136 : k0_chk136 v3256), ∀ a x, ((![v3256] : Fin 1 → IVec S16 32) a x).toNat < S100000.size a := fun v3256 k0_hw136 => k0_hw136
def k0_off19 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c17_i32_2314 : BitVec 32 := 17#32
  let v3260 : BitVec 32 := Scalar.addi v2 c17_i32_2314
  let c0_i32_2809_r18 : BitVec 32 := 0#32
  ![v3260.toNat, 0]

def k0_chk137 (v3262 : IVec S16 32) : Prop :=
  (∀ a x, ((![v3262] : Fin 1 → IVec S16 32) a x).toNat < S100000.size a)
theorem k0_idx137_inb : ∀ (v3262 : IVec S16 32) (k0_hw137 : k0_chk137 v3262), ∀ a x, ((![v3262] : Fin 1 → IVec S16 32) a x).toNat < S100000.size a := fun v3262 k0_hw137 => k0_hw137

def k0_chk138 (v3267 : IVec S16 32) : Prop :=
  (∀ a x, ((![v3267] : Fin 1 → IVec S16 32) a x).toNat < S100000.size a)
theorem k0_idx138_inb : ∀ (v3267 : IVec S16 32) (k0_hw138 : k0_chk138 v3267), ∀ a x, ((![v3267] : Fin 1 → IVec S16 32) a x).toNat < S100000.size a := fun v3267 k0_hw138 => k0_hw138

def k0_chk139 (v3272 : IVec S16 32) : Prop :=
  (∀ a x, ((![v3272] : Fin 1 → IVec S16 32) a x).toNat < S100000.size a)
theorem k0_idx139_inb : ∀ (v3272 : IVec S16 32) (k0_hw139 : k0_chk139 v3272), ∀ a x, ((![v3272] : Fin 1 → IVec S16 32) a x).toNat < S100000.size a := fun v3272 k0_hw139 => k0_hw139

def k0_chk140 (v3277 : IVec S16 32) : Prop :=
  (∀ a x, ((![v3277] : Fin 1 → IVec S16 32) a x).toNat < S100000.size a)
theorem k0_idx140_inb : ∀ (v3277 : IVec S16 32) (k0_hw140 : k0_chk140 v3277), ∀ a x, ((![v3277] : Fin 1 → IVec S16 32) a x).toNat < S100000.size a := fun v3277 k0_hw140 => k0_hw140

def k0_chk141 (v3282 : IVec S16 32) : Prop :=
  (∀ a x, ((![v3282] : Fin 1 → IVec S16 32) a x).toNat < S100000.size a)
theorem k0_idx141_inb : ∀ (v3282 : IVec S16 32) (k0_hw141 : k0_chk141 v3282), ∀ a x, ((![v3282] : Fin 1 → IVec S16 32) a x).toNat < S100000.size a := fun v3282 k0_hw141 => k0_hw141

def k0_chk142 (v3287 : IVec S16 32) : Prop :=
  (∀ a x, ((![v3287] : Fin 1 → IVec S16 32) a x).toNat < S100000.size a)
theorem k0_idx142_inb : ∀ (v3287 : IVec S16 32) (k0_hw142 : k0_chk142 v3287), ∀ a x, ((![v3287] : Fin 1 → IVec S16 32) a x).toNat < S100000.size a := fun v3287 k0_hw142 => k0_hw142

def k0_chk143 (v3292 : IVec S16 32) : Prop :=
  (∀ a x, ((![v3292] : Fin 1 → IVec S16 32) a x).toNat < S100000.size a)
theorem k0_idx143_inb : ∀ (v3292 : IVec S16 32) (k0_hw143 : k0_chk143 v3292), ∀ a x, ((![v3292] : Fin 1 → IVec S16 32) a x).toNat < S100000.size a := fun v3292 k0_hw143 => k0_hw143

def k0_chk144 (v3297 : IVec S16 32) : Prop :=
  (∀ a x, ((![v3297] : Fin 1 → IVec S16 32) a x).toNat < S100000.size a)
theorem k0_idx144_inb : ∀ (v3297 : IVec S16 32) (k0_hw144 : k0_chk144 v3297), ∀ a x, ((![v3297] : Fin 1 → IVec S16 32) a x).toNat < S100000.size a := fun v3297 k0_hw144 => k0_hw144
def k0_off20 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c18_i32_2347 : BitVec 32 := 18#32
  let v3301 : BitVec 32 := Scalar.addi v2 c18_i32_2347
  let c0_i32_2809_r19 : BitVec 32 := 0#32
  ![v3301.toNat, 0]

def k0_chk145 (v3303 : IVec S16 32) : Prop :=
  (∀ a x, ((![v3303] : Fin 1 → IVec S16 32) a x).toNat < S100000.size a)
theorem k0_idx145_inb : ∀ (v3303 : IVec S16 32) (k0_hw145 : k0_chk145 v3303), ∀ a x, ((![v3303] : Fin 1 → IVec S16 32) a x).toNat < S100000.size a := fun v3303 k0_hw145 => k0_hw145

def k0_chk146 (v3308 : IVec S16 32) : Prop :=
  (∀ a x, ((![v3308] : Fin 1 → IVec S16 32) a x).toNat < S100000.size a)
theorem k0_idx146_inb : ∀ (v3308 : IVec S16 32) (k0_hw146 : k0_chk146 v3308), ∀ a x, ((![v3308] : Fin 1 → IVec S16 32) a x).toNat < S100000.size a := fun v3308 k0_hw146 => k0_hw146

def k0_chk147 (v3313 : IVec S16 32) : Prop :=
  (∀ a x, ((![v3313] : Fin 1 → IVec S16 32) a x).toNat < S100000.size a)
theorem k0_idx147_inb : ∀ (v3313 : IVec S16 32) (k0_hw147 : k0_chk147 v3313), ∀ a x, ((![v3313] : Fin 1 → IVec S16 32) a x).toNat < S100000.size a := fun v3313 k0_hw147 => k0_hw147

def k0_chk148 (v3318 : IVec S16 32) : Prop :=
  (∀ a x, ((![v3318] : Fin 1 → IVec S16 32) a x).toNat < S100000.size a)
theorem k0_idx148_inb : ∀ (v3318 : IVec S16 32) (k0_hw148 : k0_chk148 v3318), ∀ a x, ((![v3318] : Fin 1 → IVec S16 32) a x).toNat < S100000.size a := fun v3318 k0_hw148 => k0_hw148

def k0_chk149 (v3323 : IVec S16 32) : Prop :=
  (∀ a x, ((![v3323] : Fin 1 → IVec S16 32) a x).toNat < S100000.size a)
theorem k0_idx149_inb : ∀ (v3323 : IVec S16 32) (k0_hw149 : k0_chk149 v3323), ∀ a x, ((![v3323] : Fin 1 → IVec S16 32) a x).toNat < S100000.size a := fun v3323 k0_hw149 => k0_hw149

def k0_chk150 (v3328 : IVec S16 32) : Prop :=
  (∀ a x, ((![v3328] : Fin 1 → IVec S16 32) a x).toNat < S100000.size a)
theorem k0_idx150_inb : ∀ (v3328 : IVec S16 32) (k0_hw150 : k0_chk150 v3328), ∀ a x, ((![v3328] : Fin 1 → IVec S16 32) a x).toNat < S100000.size a := fun v3328 k0_hw150 => k0_hw150

def k0_chk151 (v3333 : IVec S16 32) : Prop :=
  (∀ a x, ((![v3333] : Fin 1 → IVec S16 32) a x).toNat < S100000.size a)
theorem k0_idx151_inb : ∀ (v3333 : IVec S16 32) (k0_hw151 : k0_chk151 v3333), ∀ a x, ((![v3333] : Fin 1 → IVec S16 32) a x).toNat < S100000.size a := fun v3333 k0_hw151 => k0_hw151

def k0_chk152 (v3338 : IVec S16 32) : Prop :=
  (∀ a x, ((![v3338] : Fin 1 → IVec S16 32) a x).toNat < S100000.size a)
theorem k0_idx152_inb : ∀ (v3338 : IVec S16 32) (k0_hw152 : k0_chk152 v3338), ∀ a x, ((![v3338] : Fin 1 → IVec S16 32) a x).toNat < S100000.size a := fun v3338 k0_hw152 => k0_hw152
def k0_off21 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c19_i32_2380 : BitVec 32 := 19#32
  let v3342 : BitVec 32 := Scalar.addi v2 c19_i32_2380
  let c0_i32_2809_r20 : BitVec 32 := 0#32
  ![v3342.toNat, 0]

def k0_chk153 (v3344 : IVec S16 32) : Prop :=
  (∀ a x, ((![v3344] : Fin 1 → IVec S16 32) a x).toNat < S100000.size a)
theorem k0_idx153_inb : ∀ (v3344 : IVec S16 32) (k0_hw153 : k0_chk153 v3344), ∀ a x, ((![v3344] : Fin 1 → IVec S16 32) a x).toNat < S100000.size a := fun v3344 k0_hw153 => k0_hw153

def k0_chk154 (v3349 : IVec S16 32) : Prop :=
  (∀ a x, ((![v3349] : Fin 1 → IVec S16 32) a x).toNat < S100000.size a)
theorem k0_idx154_inb : ∀ (v3349 : IVec S16 32) (k0_hw154 : k0_chk154 v3349), ∀ a x, ((![v3349] : Fin 1 → IVec S16 32) a x).toNat < S100000.size a := fun v3349 k0_hw154 => k0_hw154

def k0_chk155 (v3354 : IVec S16 32) : Prop :=
  (∀ a x, ((![v3354] : Fin 1 → IVec S16 32) a x).toNat < S100000.size a)
theorem k0_idx155_inb : ∀ (v3354 : IVec S16 32) (k0_hw155 : k0_chk155 v3354), ∀ a x, ((![v3354] : Fin 1 → IVec S16 32) a x).toNat < S100000.size a := fun v3354 k0_hw155 => k0_hw155

def k0_chk156 (v3359 : IVec S16 32) : Prop :=
  (∀ a x, ((![v3359] : Fin 1 → IVec S16 32) a x).toNat < S100000.size a)
theorem k0_idx156_inb : ∀ (v3359 : IVec S16 32) (k0_hw156 : k0_chk156 v3359), ∀ a x, ((![v3359] : Fin 1 → IVec S16 32) a x).toNat < S100000.size a := fun v3359 k0_hw156 => k0_hw156

def k0_chk157 (v3364 : IVec S16 32) : Prop :=
  (∀ a x, ((![v3364] : Fin 1 → IVec S16 32) a x).toNat < S100000.size a)
theorem k0_idx157_inb : ∀ (v3364 : IVec S16 32) (k0_hw157 : k0_chk157 v3364), ∀ a x, ((![v3364] : Fin 1 → IVec S16 32) a x).toNat < S100000.size a := fun v3364 k0_hw157 => k0_hw157

def k0_chk158 (v3369 : IVec S16 32) : Prop :=
  (∀ a x, ((![v3369] : Fin 1 → IVec S16 32) a x).toNat < S100000.size a)
theorem k0_idx158_inb : ∀ (v3369 : IVec S16 32) (k0_hw158 : k0_chk158 v3369), ∀ a x, ((![v3369] : Fin 1 → IVec S16 32) a x).toNat < S100000.size a := fun v3369 k0_hw158 => k0_hw158

def k0_chk159 (v3374 : IVec S16 32) : Prop :=
  (∀ a x, ((![v3374] : Fin 1 → IVec S16 32) a x).toNat < S100000.size a)
theorem k0_idx159_inb : ∀ (v3374 : IVec S16 32) (k0_hw159 : k0_chk159 v3374), ∀ a x, ((![v3374] : Fin 1 → IVec S16 32) a x).toNat < S100000.size a := fun v3374 k0_hw159 => k0_hw159

def k0_chk160 (v3379 : IVec S16 32) : Prop :=
  (∀ a x, ((![v3379] : Fin 1 → IVec S16 32) a x).toNat < S100000.size a)
theorem k0_idx160_inb : ∀ (v3379 : IVec S16 32) (k0_hw160 : k0_chk160 v3379), ∀ a x, ((![v3379] : Fin 1 → IVec S16 32) a x).toNat < S100000.size a := fun v3379 k0_hw160 => k0_hw160
def k0_off22 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c20_i32_2413 : BitVec 32 := 20#32
  let v3383 : BitVec 32 := Scalar.addi v2 c20_i32_2413
  let c0_i32_2809_r21 : BitVec 32 := 0#32
  ![v3383.toNat, 0]

def k0_chk161 (v3385 : IVec S16 32) : Prop :=
  (∀ a x, ((![v3385] : Fin 1 → IVec S16 32) a x).toNat < S100000.size a)
theorem k0_idx161_inb : ∀ (v3385 : IVec S16 32) (k0_hw161 : k0_chk161 v3385), ∀ a x, ((![v3385] : Fin 1 → IVec S16 32) a x).toNat < S100000.size a := fun v3385 k0_hw161 => k0_hw161

def k0_chk162 (v3390 : IVec S16 32) : Prop :=
  (∀ a x, ((![v3390] : Fin 1 → IVec S16 32) a x).toNat < S100000.size a)
theorem k0_idx162_inb : ∀ (v3390 : IVec S16 32) (k0_hw162 : k0_chk162 v3390), ∀ a x, ((![v3390] : Fin 1 → IVec S16 32) a x).toNat < S100000.size a := fun v3390 k0_hw162 => k0_hw162

def k0_chk163 (v3395 : IVec S16 32) : Prop :=
  (∀ a x, ((![v3395] : Fin 1 → IVec S16 32) a x).toNat < S100000.size a)
theorem k0_idx163_inb : ∀ (v3395 : IVec S16 32) (k0_hw163 : k0_chk163 v3395), ∀ a x, ((![v3395] : Fin 1 → IVec S16 32) a x).toNat < S100000.size a := fun v3395 k0_hw163 => k0_hw163

def k0_chk164 (v3400 : IVec S16 32) : Prop :=
  (∀ a x, ((![v3400] : Fin 1 → IVec S16 32) a x).toNat < S100000.size a)
theorem k0_idx164_inb : ∀ (v3400 : IVec S16 32) (k0_hw164 : k0_chk164 v3400), ∀ a x, ((![v3400] : Fin 1 → IVec S16 32) a x).toNat < S100000.size a := fun v3400 k0_hw164 => k0_hw164

def k0_chk165 (v3405 : IVec S16 32) : Prop :=
  (∀ a x, ((![v3405] : Fin 1 → IVec S16 32) a x).toNat < S100000.size a)
theorem k0_idx165_inb : ∀ (v3405 : IVec S16 32) (k0_hw165 : k0_chk165 v3405), ∀ a x, ((![v3405] : Fin 1 → IVec S16 32) a x).toNat < S100000.size a := fun v3405 k0_hw165 => k0_hw165

def k0_chk166 (v3410 : IVec S16 32) : Prop :=
  (∀ a x, ((![v3410] : Fin 1 → IVec S16 32) a x).toNat < S100000.size a)
theorem k0_idx166_inb : ∀ (v3410 : IVec S16 32) (k0_hw166 : k0_chk166 v3410), ∀ a x, ((![v3410] : Fin 1 → IVec S16 32) a x).toNat < S100000.size a := fun v3410 k0_hw166 => k0_hw166

def k0_chk167 (v3415 : IVec S16 32) : Prop :=
  (∀ a x, ((![v3415] : Fin 1 → IVec S16 32) a x).toNat < S100000.size a)
theorem k0_idx167_inb : ∀ (v3415 : IVec S16 32) (k0_hw167 : k0_chk167 v3415), ∀ a x, ((![v3415] : Fin 1 → IVec S16 32) a x).toNat < S100000.size a := fun v3415 k0_hw167 => k0_hw167

def k0_chk168 (v3420 : IVec S16 32) : Prop :=
  (∀ a x, ((![v3420] : Fin 1 → IVec S16 32) a x).toNat < S100000.size a)
theorem k0_idx168_inb : ∀ (v3420 : IVec S16 32) (k0_hw168 : k0_chk168 v3420), ∀ a x, ((![v3420] : Fin 1 → IVec S16 32) a x).toNat < S100000.size a := fun v3420 k0_hw168 => k0_hw168
def k0_off23 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c21_i32_2446 : BitVec 32 := 21#32
  let v3424 : BitVec 32 := Scalar.addi v2 c21_i32_2446
  let c0_i32_2809_r22 : BitVec 32 := 0#32
  ![v3424.toNat, 0]

def k0_chk169 (v3426 : IVec S16 32) : Prop :=
  (∀ a x, ((![v3426] : Fin 1 → IVec S16 32) a x).toNat < S100000.size a)
theorem k0_idx169_inb : ∀ (v3426 : IVec S16 32) (k0_hw169 : k0_chk169 v3426), ∀ a x, ((![v3426] : Fin 1 → IVec S16 32) a x).toNat < S100000.size a := fun v3426 k0_hw169 => k0_hw169

def k0_chk170 (v3431 : IVec S16 32) : Prop :=
  (∀ a x, ((![v3431] : Fin 1 → IVec S16 32) a x).toNat < S100000.size a)
theorem k0_idx170_inb : ∀ (v3431 : IVec S16 32) (k0_hw170 : k0_chk170 v3431), ∀ a x, ((![v3431] : Fin 1 → IVec S16 32) a x).toNat < S100000.size a := fun v3431 k0_hw170 => k0_hw170

def k0_chk171 (v3436 : IVec S16 32) : Prop :=
  (∀ a x, ((![v3436] : Fin 1 → IVec S16 32) a x).toNat < S100000.size a)
theorem k0_idx171_inb : ∀ (v3436 : IVec S16 32) (k0_hw171 : k0_chk171 v3436), ∀ a x, ((![v3436] : Fin 1 → IVec S16 32) a x).toNat < S100000.size a := fun v3436 k0_hw171 => k0_hw171

def k0_chk172 (v3441 : IVec S16 32) : Prop :=
  (∀ a x, ((![v3441] : Fin 1 → IVec S16 32) a x).toNat < S100000.size a)
theorem k0_idx172_inb : ∀ (v3441 : IVec S16 32) (k0_hw172 : k0_chk172 v3441), ∀ a x, ((![v3441] : Fin 1 → IVec S16 32) a x).toNat < S100000.size a := fun v3441 k0_hw172 => k0_hw172

def k0_chk173 (v3446 : IVec S16 32) : Prop :=
  (∀ a x, ((![v3446] : Fin 1 → IVec S16 32) a x).toNat < S100000.size a)
theorem k0_idx173_inb : ∀ (v3446 : IVec S16 32) (k0_hw173 : k0_chk173 v3446), ∀ a x, ((![v3446] : Fin 1 → IVec S16 32) a x).toNat < S100000.size a := fun v3446 k0_hw173 => k0_hw173

def k0_chk174 (v3451 : IVec S16 32) : Prop :=
  (∀ a x, ((![v3451] : Fin 1 → IVec S16 32) a x).toNat < S100000.size a)
theorem k0_idx174_inb : ∀ (v3451 : IVec S16 32) (k0_hw174 : k0_chk174 v3451), ∀ a x, ((![v3451] : Fin 1 → IVec S16 32) a x).toNat < S100000.size a := fun v3451 k0_hw174 => k0_hw174

def k0_chk175 (v3456 : IVec S16 32) : Prop :=
  (∀ a x, ((![v3456] : Fin 1 → IVec S16 32) a x).toNat < S100000.size a)
theorem k0_idx175_inb : ∀ (v3456 : IVec S16 32) (k0_hw175 : k0_chk175 v3456), ∀ a x, ((![v3456] : Fin 1 → IVec S16 32) a x).toNat < S100000.size a := fun v3456 k0_hw175 => k0_hw175

def k0_chk176 (v3461 : IVec S16 32) : Prop :=
  (∀ a x, ((![v3461] : Fin 1 → IVec S16 32) a x).toNat < S100000.size a)
theorem k0_idx176_inb : ∀ (v3461 : IVec S16 32) (k0_hw176 : k0_chk176 v3461), ∀ a x, ((![v3461] : Fin 1 → IVec S16 32) a x).toNat < S100000.size a := fun v3461 k0_hw176 => k0_hw176
def k0_off24 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c22_i32_2479 : BitVec 32 := 22#32
  let v3465 : BitVec 32 := Scalar.addi v2 c22_i32_2479
  let c0_i32_2809_r23 : BitVec 32 := 0#32
  ![v3465.toNat, 0]

def k0_chk177 (v3467 : IVec S16 32) : Prop :=
  (∀ a x, ((![v3467] : Fin 1 → IVec S16 32) a x).toNat < S100000.size a)
theorem k0_idx177_inb : ∀ (v3467 : IVec S16 32) (k0_hw177 : k0_chk177 v3467), ∀ a x, ((![v3467] : Fin 1 → IVec S16 32) a x).toNat < S100000.size a := fun v3467 k0_hw177 => k0_hw177

def k0_chk178 (v3472 : IVec S16 32) : Prop :=
  (∀ a x, ((![v3472] : Fin 1 → IVec S16 32) a x).toNat < S100000.size a)
theorem k0_idx178_inb : ∀ (v3472 : IVec S16 32) (k0_hw178 : k0_chk178 v3472), ∀ a x, ((![v3472] : Fin 1 → IVec S16 32) a x).toNat < S100000.size a := fun v3472 k0_hw178 => k0_hw178

def k0_chk179 (v3477 : IVec S16 32) : Prop :=
  (∀ a x, ((![v3477] : Fin 1 → IVec S16 32) a x).toNat < S100000.size a)
theorem k0_idx179_inb : ∀ (v3477 : IVec S16 32) (k0_hw179 : k0_chk179 v3477), ∀ a x, ((![v3477] : Fin 1 → IVec S16 32) a x).toNat < S100000.size a := fun v3477 k0_hw179 => k0_hw179

def k0_chk180 (v3482 : IVec S16 32) : Prop :=
  (∀ a x, ((![v3482] : Fin 1 → IVec S16 32) a x).toNat < S100000.size a)
theorem k0_idx180_inb : ∀ (v3482 : IVec S16 32) (k0_hw180 : k0_chk180 v3482), ∀ a x, ((![v3482] : Fin 1 → IVec S16 32) a x).toNat < S100000.size a := fun v3482 k0_hw180 => k0_hw180

def k0_chk181 (v3487 : IVec S16 32) : Prop :=
  (∀ a x, ((![v3487] : Fin 1 → IVec S16 32) a x).toNat < S100000.size a)
theorem k0_idx181_inb : ∀ (v3487 : IVec S16 32) (k0_hw181 : k0_chk181 v3487), ∀ a x, ((![v3487] : Fin 1 → IVec S16 32) a x).toNat < S100000.size a := fun v3487 k0_hw181 => k0_hw181

def k0_chk182 (v3492 : IVec S16 32) : Prop :=
  (∀ a x, ((![v3492] : Fin 1 → IVec S16 32) a x).toNat < S100000.size a)
theorem k0_idx182_inb : ∀ (v3492 : IVec S16 32) (k0_hw182 : k0_chk182 v3492), ∀ a x, ((![v3492] : Fin 1 → IVec S16 32) a x).toNat < S100000.size a := fun v3492 k0_hw182 => k0_hw182

def k0_chk183 (v3497 : IVec S16 32) : Prop :=
  (∀ a x, ((![v3497] : Fin 1 → IVec S16 32) a x).toNat < S100000.size a)
theorem k0_idx183_inb : ∀ (v3497 : IVec S16 32) (k0_hw183 : k0_chk183 v3497), ∀ a x, ((![v3497] : Fin 1 → IVec S16 32) a x).toNat < S100000.size a := fun v3497 k0_hw183 => k0_hw183

def k0_chk184 (v3502 : IVec S16 32) : Prop :=
  (∀ a x, ((![v3502] : Fin 1 → IVec S16 32) a x).toNat < S100000.size a)
theorem k0_idx184_inb : ∀ (v3502 : IVec S16 32) (k0_hw184 : k0_chk184 v3502), ∀ a x, ((![v3502] : Fin 1 → IVec S16 32) a x).toNat < S100000.size a := fun v3502 k0_hw184 => k0_hw184
def k0_off25 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c23_i32_2512 : BitVec 32 := 23#32
  let v3506 : BitVec 32 := Scalar.addi v2 c23_i32_2512
  let c0_i32_2809_r24 : BitVec 32 := 0#32
  ![v3506.toNat, 0]

def k0_chk185 (v3508 : IVec S16 32) : Prop :=
  (∀ a x, ((![v3508] : Fin 1 → IVec S16 32) a x).toNat < S100000.size a)
theorem k0_idx185_inb : ∀ (v3508 : IVec S16 32) (k0_hw185 : k0_chk185 v3508), ∀ a x, ((![v3508] : Fin 1 → IVec S16 32) a x).toNat < S100000.size a := fun v3508 k0_hw185 => k0_hw185

def k0_chk186 (v3513 : IVec S16 32) : Prop :=
  (∀ a x, ((![v3513] : Fin 1 → IVec S16 32) a x).toNat < S100000.size a)
theorem k0_idx186_inb : ∀ (v3513 : IVec S16 32) (k0_hw186 : k0_chk186 v3513), ∀ a x, ((![v3513] : Fin 1 → IVec S16 32) a x).toNat < S100000.size a := fun v3513 k0_hw186 => k0_hw186

def k0_chk187 (v3518 : IVec S16 32) : Prop :=
  (∀ a x, ((![v3518] : Fin 1 → IVec S16 32) a x).toNat < S100000.size a)
theorem k0_idx187_inb : ∀ (v3518 : IVec S16 32) (k0_hw187 : k0_chk187 v3518), ∀ a x, ((![v3518] : Fin 1 → IVec S16 32) a x).toNat < S100000.size a := fun v3518 k0_hw187 => k0_hw187

def k0_chk188 (v3523 : IVec S16 32) : Prop :=
  (∀ a x, ((![v3523] : Fin 1 → IVec S16 32) a x).toNat < S100000.size a)
theorem k0_idx188_inb : ∀ (v3523 : IVec S16 32) (k0_hw188 : k0_chk188 v3523), ∀ a x, ((![v3523] : Fin 1 → IVec S16 32) a x).toNat < S100000.size a := fun v3523 k0_hw188 => k0_hw188

def k0_chk189 (v3528 : IVec S16 32) : Prop :=
  (∀ a x, ((![v3528] : Fin 1 → IVec S16 32) a x).toNat < S100000.size a)
theorem k0_idx189_inb : ∀ (v3528 : IVec S16 32) (k0_hw189 : k0_chk189 v3528), ∀ a x, ((![v3528] : Fin 1 → IVec S16 32) a x).toNat < S100000.size a := fun v3528 k0_hw189 => k0_hw189

def k0_chk190 (v3533 : IVec S16 32) : Prop :=
  (∀ a x, ((![v3533] : Fin 1 → IVec S16 32) a x).toNat < S100000.size a)
theorem k0_idx190_inb : ∀ (v3533 : IVec S16 32) (k0_hw190 : k0_chk190 v3533), ∀ a x, ((![v3533] : Fin 1 → IVec S16 32) a x).toNat < S100000.size a := fun v3533 k0_hw190 => k0_hw190

def k0_chk191 (v3538 : IVec S16 32) : Prop :=
  (∀ a x, ((![v3538] : Fin 1 → IVec S16 32) a x).toNat < S100000.size a)
theorem k0_idx191_inb : ∀ (v3538 : IVec S16 32) (k0_hw191 : k0_chk191 v3538), ∀ a x, ((![v3538] : Fin 1 → IVec S16 32) a x).toNat < S100000.size a := fun v3538 k0_hw191 => k0_hw191

def k0_chk192 (v3543 : IVec S16 32) : Prop :=
  (∀ a x, ((![v3543] : Fin 1 → IVec S16 32) a x).toNat < S100000.size a)
theorem k0_idx192_inb : ∀ (v3543 : IVec S16 32) (k0_hw192 : k0_chk192 v3543), ∀ a x, ((![v3543] : Fin 1 → IVec S16 32) a x).toNat < S100000.size a := fun v3543 k0_hw192 => k0_hw192
def k0_off26 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_2545 : BitVec 32 := 24#32
  let v3547 : BitVec 32 := Scalar.addi v2 c24_i32_2545
  let c0_i32_2809_r25 : BitVec 32 := 0#32
  ![v3547.toNat, 0]

def k0_chk193 (v3549 : IVec S16 32) : Prop :=
  (∀ a x, ((![v3549] : Fin 1 → IVec S16 32) a x).toNat < S100000.size a)
theorem k0_idx193_inb : ∀ (v3549 : IVec S16 32) (k0_hw193 : k0_chk193 v3549), ∀ a x, ((![v3549] : Fin 1 → IVec S16 32) a x).toNat < S100000.size a := fun v3549 k0_hw193 => k0_hw193

def k0_chk194 (v3554 : IVec S16 32) : Prop :=
  (∀ a x, ((![v3554] : Fin 1 → IVec S16 32) a x).toNat < S100000.size a)
theorem k0_idx194_inb : ∀ (v3554 : IVec S16 32) (k0_hw194 : k0_chk194 v3554), ∀ a x, ((![v3554] : Fin 1 → IVec S16 32) a x).toNat < S100000.size a := fun v3554 k0_hw194 => k0_hw194

def k0_chk195 (v3559 : IVec S16 32) : Prop :=
  (∀ a x, ((![v3559] : Fin 1 → IVec S16 32) a x).toNat < S100000.size a)
theorem k0_idx195_inb : ∀ (v3559 : IVec S16 32) (k0_hw195 : k0_chk195 v3559), ∀ a x, ((![v3559] : Fin 1 → IVec S16 32) a x).toNat < S100000.size a := fun v3559 k0_hw195 => k0_hw195

def k0_chk196 (v3564 : IVec S16 32) : Prop :=
  (∀ a x, ((![v3564] : Fin 1 → IVec S16 32) a x).toNat < S100000.size a)
theorem k0_idx196_inb : ∀ (v3564 : IVec S16 32) (k0_hw196 : k0_chk196 v3564), ∀ a x, ((![v3564] : Fin 1 → IVec S16 32) a x).toNat < S100000.size a := fun v3564 k0_hw196 => k0_hw196

def k0_chk197 (v3569 : IVec S16 32) : Prop :=
  (∀ a x, ((![v3569] : Fin 1 → IVec S16 32) a x).toNat < S100000.size a)
theorem k0_idx197_inb : ∀ (v3569 : IVec S16 32) (k0_hw197 : k0_chk197 v3569), ∀ a x, ((![v3569] : Fin 1 → IVec S16 32) a x).toNat < S100000.size a := fun v3569 k0_hw197 => k0_hw197

def k0_chk198 (v3574 : IVec S16 32) : Prop :=
  (∀ a x, ((![v3574] : Fin 1 → IVec S16 32) a x).toNat < S100000.size a)
theorem k0_idx198_inb : ∀ (v3574 : IVec S16 32) (k0_hw198 : k0_chk198 v3574), ∀ a x, ((![v3574] : Fin 1 → IVec S16 32) a x).toNat < S100000.size a := fun v3574 k0_hw198 => k0_hw198

def k0_chk199 (v3579 : IVec S16 32) : Prop :=
  (∀ a x, ((![v3579] : Fin 1 → IVec S16 32) a x).toNat < S100000.size a)
theorem k0_idx199_inb : ∀ (v3579 : IVec S16 32) (k0_hw199 : k0_chk199 v3579), ∀ a x, ((![v3579] : Fin 1 → IVec S16 32) a x).toNat < S100000.size a := fun v3579 k0_hw199 => k0_hw199

def k0_chk200 (v3584 : IVec S16 32) : Prop :=
  (∀ a x, ((![v3584] : Fin 1 → IVec S16 32) a x).toNat < S100000.size a)
theorem k0_idx200_inb : ∀ (v3584 : IVec S16 32) (k0_hw200 : k0_chk200 v3584), ∀ a x, ((![v3584] : Fin 1 → IVec S16 32) a x).toNat < S100000.size a := fun v3584 k0_hw200 => k0_hw200
def k0_off27 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c25_i32_2578 : BitVec 32 := 25#32
  let v3588 : BitVec 32 := Scalar.addi v2 c25_i32_2578
  let c0_i32_2809_r26 : BitVec 32 := 0#32
  ![v3588.toNat, 0]

def k0_chk201 (v3590 : IVec S16 32) : Prop :=
  (∀ a x, ((![v3590] : Fin 1 → IVec S16 32) a x).toNat < S100000.size a)
theorem k0_idx201_inb : ∀ (v3590 : IVec S16 32) (k0_hw201 : k0_chk201 v3590), ∀ a x, ((![v3590] : Fin 1 → IVec S16 32) a x).toNat < S100000.size a := fun v3590 k0_hw201 => k0_hw201

def k0_chk202 (v3595 : IVec S16 32) : Prop :=
  (∀ a x, ((![v3595] : Fin 1 → IVec S16 32) a x).toNat < S100000.size a)
theorem k0_idx202_inb : ∀ (v3595 : IVec S16 32) (k0_hw202 : k0_chk202 v3595), ∀ a x, ((![v3595] : Fin 1 → IVec S16 32) a x).toNat < S100000.size a := fun v3595 k0_hw202 => k0_hw202

def k0_chk203 (v3600 : IVec S16 32) : Prop :=
  (∀ a x, ((![v3600] : Fin 1 → IVec S16 32) a x).toNat < S100000.size a)
theorem k0_idx203_inb : ∀ (v3600 : IVec S16 32) (k0_hw203 : k0_chk203 v3600), ∀ a x, ((![v3600] : Fin 1 → IVec S16 32) a x).toNat < S100000.size a := fun v3600 k0_hw203 => k0_hw203

def k0_chk204 (v3605 : IVec S16 32) : Prop :=
  (∀ a x, ((![v3605] : Fin 1 → IVec S16 32) a x).toNat < S100000.size a)
theorem k0_idx204_inb : ∀ (v3605 : IVec S16 32) (k0_hw204 : k0_chk204 v3605), ∀ a x, ((![v3605] : Fin 1 → IVec S16 32) a x).toNat < S100000.size a := fun v3605 k0_hw204 => k0_hw204

def k0_chk205 (v3610 : IVec S16 32) : Prop :=
  (∀ a x, ((![v3610] : Fin 1 → IVec S16 32) a x).toNat < S100000.size a)
theorem k0_idx205_inb : ∀ (v3610 : IVec S16 32) (k0_hw205 : k0_chk205 v3610), ∀ a x, ((![v3610] : Fin 1 → IVec S16 32) a x).toNat < S100000.size a := fun v3610 k0_hw205 => k0_hw205

def k0_chk206 (v3615 : IVec S16 32) : Prop :=
  (∀ a x, ((![v3615] : Fin 1 → IVec S16 32) a x).toNat < S100000.size a)
theorem k0_idx206_inb : ∀ (v3615 : IVec S16 32) (k0_hw206 : k0_chk206 v3615), ∀ a x, ((![v3615] : Fin 1 → IVec S16 32) a x).toNat < S100000.size a := fun v3615 k0_hw206 => k0_hw206

def k0_chk207 (v3620 : IVec S16 32) : Prop :=
  (∀ a x, ((![v3620] : Fin 1 → IVec S16 32) a x).toNat < S100000.size a)
theorem k0_idx207_inb : ∀ (v3620 : IVec S16 32) (k0_hw207 : k0_chk207 v3620), ∀ a x, ((![v3620] : Fin 1 → IVec S16 32) a x).toNat < S100000.size a := fun v3620 k0_hw207 => k0_hw207

def k0_chk208 (v3625 : IVec S16 32) : Prop :=
  (∀ a x, ((![v3625] : Fin 1 → IVec S16 32) a x).toNat < S100000.size a)
theorem k0_idx208_inb : ∀ (v3625 : IVec S16 32) (k0_hw208 : k0_chk208 v3625), ∀ a x, ((![v3625] : Fin 1 → IVec S16 32) a x).toNat < S100000.size a := fun v3625 k0_hw208 => k0_hw208
def k0_off28 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c26_i32_2611 : BitVec 32 := 26#32
  let v3629 : BitVec 32 := Scalar.addi v2 c26_i32_2611
  let c0_i32_2809_r27 : BitVec 32 := 0#32
  ![v3629.toNat, 0]

def k0_chk209 (v3631 : IVec S16 32) : Prop :=
  (∀ a x, ((![v3631] : Fin 1 → IVec S16 32) a x).toNat < S100000.size a)
theorem k0_idx209_inb : ∀ (v3631 : IVec S16 32) (k0_hw209 : k0_chk209 v3631), ∀ a x, ((![v3631] : Fin 1 → IVec S16 32) a x).toNat < S100000.size a := fun v3631 k0_hw209 => k0_hw209

def k0_chk210 (v3636 : IVec S16 32) : Prop :=
  (∀ a x, ((![v3636] : Fin 1 → IVec S16 32) a x).toNat < S100000.size a)
theorem k0_idx210_inb : ∀ (v3636 : IVec S16 32) (k0_hw210 : k0_chk210 v3636), ∀ a x, ((![v3636] : Fin 1 → IVec S16 32) a x).toNat < S100000.size a := fun v3636 k0_hw210 => k0_hw210

def k0_chk211 (v3641 : IVec S16 32) : Prop :=
  (∀ a x, ((![v3641] : Fin 1 → IVec S16 32) a x).toNat < S100000.size a)
theorem k0_idx211_inb : ∀ (v3641 : IVec S16 32) (k0_hw211 : k0_chk211 v3641), ∀ a x, ((![v3641] : Fin 1 → IVec S16 32) a x).toNat < S100000.size a := fun v3641 k0_hw211 => k0_hw211

def k0_chk212 (v3646 : IVec S16 32) : Prop :=
  (∀ a x, ((![v3646] : Fin 1 → IVec S16 32) a x).toNat < S100000.size a)
theorem k0_idx212_inb : ∀ (v3646 : IVec S16 32) (k0_hw212 : k0_chk212 v3646), ∀ a x, ((![v3646] : Fin 1 → IVec S16 32) a x).toNat < S100000.size a := fun v3646 k0_hw212 => k0_hw212

def k0_chk213 (v3651 : IVec S16 32) : Prop :=
  (∀ a x, ((![v3651] : Fin 1 → IVec S16 32) a x).toNat < S100000.size a)
theorem k0_idx213_inb : ∀ (v3651 : IVec S16 32) (k0_hw213 : k0_chk213 v3651), ∀ a x, ((![v3651] : Fin 1 → IVec S16 32) a x).toNat < S100000.size a := fun v3651 k0_hw213 => k0_hw213

def k0_chk214 (v3656 : IVec S16 32) : Prop :=
  (∀ a x, ((![v3656] : Fin 1 → IVec S16 32) a x).toNat < S100000.size a)
theorem k0_idx214_inb : ∀ (v3656 : IVec S16 32) (k0_hw214 : k0_chk214 v3656), ∀ a x, ((![v3656] : Fin 1 → IVec S16 32) a x).toNat < S100000.size a := fun v3656 k0_hw214 => k0_hw214

def k0_chk215 (v3661 : IVec S16 32) : Prop :=
  (∀ a x, ((![v3661] : Fin 1 → IVec S16 32) a x).toNat < S100000.size a)
theorem k0_idx215_inb : ∀ (v3661 : IVec S16 32) (k0_hw215 : k0_chk215 v3661), ∀ a x, ((![v3661] : Fin 1 → IVec S16 32) a x).toNat < S100000.size a := fun v3661 k0_hw215 => k0_hw215

def k0_chk216 (v3666 : IVec S16 32) : Prop :=
  (∀ a x, ((![v3666] : Fin 1 → IVec S16 32) a x).toNat < S100000.size a)
theorem k0_idx216_inb : ∀ (v3666 : IVec S16 32) (k0_hw216 : k0_chk216 v3666), ∀ a x, ((![v3666] : Fin 1 → IVec S16 32) a x).toNat < S100000.size a := fun v3666 k0_hw216 => k0_hw216
def k0_off29 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c27_i32_2644 : BitVec 32 := 27#32
  let v3670 : BitVec 32 := Scalar.addi v2 c27_i32_2644
  let c0_i32_2809_r28 : BitVec 32 := 0#32
  ![v3670.toNat, 0]

def k0_chk217 (v3672 : IVec S16 32) : Prop :=
  (∀ a x, ((![v3672] : Fin 1 → IVec S16 32) a x).toNat < S100000.size a)
theorem k0_idx217_inb : ∀ (v3672 : IVec S16 32) (k0_hw217 : k0_chk217 v3672), ∀ a x, ((![v3672] : Fin 1 → IVec S16 32) a x).toNat < S100000.size a := fun v3672 k0_hw217 => k0_hw217

def k0_chk218 (v3677 : IVec S16 32) : Prop :=
  (∀ a x, ((![v3677] : Fin 1 → IVec S16 32) a x).toNat < S100000.size a)
theorem k0_idx218_inb : ∀ (v3677 : IVec S16 32) (k0_hw218 : k0_chk218 v3677), ∀ a x, ((![v3677] : Fin 1 → IVec S16 32) a x).toNat < S100000.size a := fun v3677 k0_hw218 => k0_hw218

def k0_chk219 (v3682 : IVec S16 32) : Prop :=
  (∀ a x, ((![v3682] : Fin 1 → IVec S16 32) a x).toNat < S100000.size a)
theorem k0_idx219_inb : ∀ (v3682 : IVec S16 32) (k0_hw219 : k0_chk219 v3682), ∀ a x, ((![v3682] : Fin 1 → IVec S16 32) a x).toNat < S100000.size a := fun v3682 k0_hw219 => k0_hw219

def k0_chk220 (v3687 : IVec S16 32) : Prop :=
  (∀ a x, ((![v3687] : Fin 1 → IVec S16 32) a x).toNat < S100000.size a)
theorem k0_idx220_inb : ∀ (v3687 : IVec S16 32) (k0_hw220 : k0_chk220 v3687), ∀ a x, ((![v3687] : Fin 1 → IVec S16 32) a x).toNat < S100000.size a := fun v3687 k0_hw220 => k0_hw220

def k0_chk221 (v3692 : IVec S16 32) : Prop :=
  (∀ a x, ((![v3692] : Fin 1 → IVec S16 32) a x).toNat < S100000.size a)
theorem k0_idx221_inb : ∀ (v3692 : IVec S16 32) (k0_hw221 : k0_chk221 v3692), ∀ a x, ((![v3692] : Fin 1 → IVec S16 32) a x).toNat < S100000.size a := fun v3692 k0_hw221 => k0_hw221

def k0_chk222 (v3697 : IVec S16 32) : Prop :=
  (∀ a x, ((![v3697] : Fin 1 → IVec S16 32) a x).toNat < S100000.size a)
theorem k0_idx222_inb : ∀ (v3697 : IVec S16 32) (k0_hw222 : k0_chk222 v3697), ∀ a x, ((![v3697] : Fin 1 → IVec S16 32) a x).toNat < S100000.size a := fun v3697 k0_hw222 => k0_hw222

def k0_chk223 (v3702 : IVec S16 32) : Prop :=
  (∀ a x, ((![v3702] : Fin 1 → IVec S16 32) a x).toNat < S100000.size a)
theorem k0_idx223_inb : ∀ (v3702 : IVec S16 32) (k0_hw223 : k0_chk223 v3702), ∀ a x, ((![v3702] : Fin 1 → IVec S16 32) a x).toNat < S100000.size a := fun v3702 k0_hw223 => k0_hw223

def k0_chk224 (v3707 : IVec S16 32) : Prop :=
  (∀ a x, ((![v3707] : Fin 1 → IVec S16 32) a x).toNat < S100000.size a)
theorem k0_idx224_inb : ∀ (v3707 : IVec S16 32) (k0_hw224 : k0_chk224 v3707), ∀ a x, ((![v3707] : Fin 1 → IVec S16 32) a x).toNat < S100000.size a := fun v3707 k0_hw224 => k0_hw224
def k0_off30 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c28_i32_2677 : BitVec 32 := 28#32
  let v3711 : BitVec 32 := Scalar.addi v2 c28_i32_2677
  let c0_i32_2809_r29 : BitVec 32 := 0#32
  ![v3711.toNat, 0]

def k0_chk225 (v3713 : IVec S16 32) : Prop :=
  (∀ a x, ((![v3713] : Fin 1 → IVec S16 32) a x).toNat < S100000.size a)
theorem k0_idx225_inb : ∀ (v3713 : IVec S16 32) (k0_hw225 : k0_chk225 v3713), ∀ a x, ((![v3713] : Fin 1 → IVec S16 32) a x).toNat < S100000.size a := fun v3713 k0_hw225 => k0_hw225

def k0_chk226 (v3718 : IVec S16 32) : Prop :=
  (∀ a x, ((![v3718] : Fin 1 → IVec S16 32) a x).toNat < S100000.size a)
theorem k0_idx226_inb : ∀ (v3718 : IVec S16 32) (k0_hw226 : k0_chk226 v3718), ∀ a x, ((![v3718] : Fin 1 → IVec S16 32) a x).toNat < S100000.size a := fun v3718 k0_hw226 => k0_hw226

def k0_chk227 (v3723 : IVec S16 32) : Prop :=
  (∀ a x, ((![v3723] : Fin 1 → IVec S16 32) a x).toNat < S100000.size a)
theorem k0_idx227_inb : ∀ (v3723 : IVec S16 32) (k0_hw227 : k0_chk227 v3723), ∀ a x, ((![v3723] : Fin 1 → IVec S16 32) a x).toNat < S100000.size a := fun v3723 k0_hw227 => k0_hw227

def k0_chk228 (v3728 : IVec S16 32) : Prop :=
  (∀ a x, ((![v3728] : Fin 1 → IVec S16 32) a x).toNat < S100000.size a)
theorem k0_idx228_inb : ∀ (v3728 : IVec S16 32) (k0_hw228 : k0_chk228 v3728), ∀ a x, ((![v3728] : Fin 1 → IVec S16 32) a x).toNat < S100000.size a := fun v3728 k0_hw228 => k0_hw228

def k0_chk229 (v3733 : IVec S16 32) : Prop :=
  (∀ a x, ((![v3733] : Fin 1 → IVec S16 32) a x).toNat < S100000.size a)
theorem k0_idx229_inb : ∀ (v3733 : IVec S16 32) (k0_hw229 : k0_chk229 v3733), ∀ a x, ((![v3733] : Fin 1 → IVec S16 32) a x).toNat < S100000.size a := fun v3733 k0_hw229 => k0_hw229

def k0_chk230 (v3738 : IVec S16 32) : Prop :=
  (∀ a x, ((![v3738] : Fin 1 → IVec S16 32) a x).toNat < S100000.size a)
theorem k0_idx230_inb : ∀ (v3738 : IVec S16 32) (k0_hw230 : k0_chk230 v3738), ∀ a x, ((![v3738] : Fin 1 → IVec S16 32) a x).toNat < S100000.size a := fun v3738 k0_hw230 => k0_hw230

def k0_chk231 (v3743 : IVec S16 32) : Prop :=
  (∀ a x, ((![v3743] : Fin 1 → IVec S16 32) a x).toNat < S100000.size a)
theorem k0_idx231_inb : ∀ (v3743 : IVec S16 32) (k0_hw231 : k0_chk231 v3743), ∀ a x, ((![v3743] : Fin 1 → IVec S16 32) a x).toNat < S100000.size a := fun v3743 k0_hw231 => k0_hw231

def k0_chk232 (v3748 : IVec S16 32) : Prop :=
  (∀ a x, ((![v3748] : Fin 1 → IVec S16 32) a x).toNat < S100000.size a)
theorem k0_idx232_inb : ∀ (v3748 : IVec S16 32) (k0_hw232 : k0_chk232 v3748), ∀ a x, ((![v3748] : Fin 1 → IVec S16 32) a x).toNat < S100000.size a := fun v3748 k0_hw232 => k0_hw232
def k0_off31 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c29_i32_2710 : BitVec 32 := 29#32
  let v3752 : BitVec 32 := Scalar.addi v2 c29_i32_2710
  let c0_i32_2809_r30 : BitVec 32 := 0#32
  ![v3752.toNat, 0]

def k0_chk233 (v3754 : IVec S16 32) : Prop :=
  (∀ a x, ((![v3754] : Fin 1 → IVec S16 32) a x).toNat < S100000.size a)
theorem k0_idx233_inb : ∀ (v3754 : IVec S16 32) (k0_hw233 : k0_chk233 v3754), ∀ a x, ((![v3754] : Fin 1 → IVec S16 32) a x).toNat < S100000.size a := fun v3754 k0_hw233 => k0_hw233

def k0_chk234 (v3759 : IVec S16 32) : Prop :=
  (∀ a x, ((![v3759] : Fin 1 → IVec S16 32) a x).toNat < S100000.size a)
theorem k0_idx234_inb : ∀ (v3759 : IVec S16 32) (k0_hw234 : k0_chk234 v3759), ∀ a x, ((![v3759] : Fin 1 → IVec S16 32) a x).toNat < S100000.size a := fun v3759 k0_hw234 => k0_hw234

def k0_chk235 (v3764 : IVec S16 32) : Prop :=
  (∀ a x, ((![v3764] : Fin 1 → IVec S16 32) a x).toNat < S100000.size a)
theorem k0_idx235_inb : ∀ (v3764 : IVec S16 32) (k0_hw235 : k0_chk235 v3764), ∀ a x, ((![v3764] : Fin 1 → IVec S16 32) a x).toNat < S100000.size a := fun v3764 k0_hw235 => k0_hw235

def k0_chk236 (v3769 : IVec S16 32) : Prop :=
  (∀ a x, ((![v3769] : Fin 1 → IVec S16 32) a x).toNat < S100000.size a)
theorem k0_idx236_inb : ∀ (v3769 : IVec S16 32) (k0_hw236 : k0_chk236 v3769), ∀ a x, ((![v3769] : Fin 1 → IVec S16 32) a x).toNat < S100000.size a := fun v3769 k0_hw236 => k0_hw236

def k0_chk237 (v3774 : IVec S16 32) : Prop :=
  (∀ a x, ((![v3774] : Fin 1 → IVec S16 32) a x).toNat < S100000.size a)
theorem k0_idx237_inb : ∀ (v3774 : IVec S16 32) (k0_hw237 : k0_chk237 v3774), ∀ a x, ((![v3774] : Fin 1 → IVec S16 32) a x).toNat < S100000.size a := fun v3774 k0_hw237 => k0_hw237

def k0_chk238 (v3779 : IVec S16 32) : Prop :=
  (∀ a x, ((![v3779] : Fin 1 → IVec S16 32) a x).toNat < S100000.size a)
theorem k0_idx238_inb : ∀ (v3779 : IVec S16 32) (k0_hw238 : k0_chk238 v3779), ∀ a x, ((![v3779] : Fin 1 → IVec S16 32) a x).toNat < S100000.size a := fun v3779 k0_hw238 => k0_hw238

def k0_chk239 (v3784 : IVec S16 32) : Prop :=
  (∀ a x, ((![v3784] : Fin 1 → IVec S16 32) a x).toNat < S100000.size a)
theorem k0_idx239_inb : ∀ (v3784 : IVec S16 32) (k0_hw239 : k0_chk239 v3784), ∀ a x, ((![v3784] : Fin 1 → IVec S16 32) a x).toNat < S100000.size a := fun v3784 k0_hw239 => k0_hw239

def k0_chk240 (v3789 : IVec S16 32) : Prop :=
  (∀ a x, ((![v3789] : Fin 1 → IVec S16 32) a x).toNat < S100000.size a)
theorem k0_idx240_inb : ∀ (v3789 : IVec S16 32) (k0_hw240 : k0_chk240 v3789), ∀ a x, ((![v3789] : Fin 1 → IVec S16 32) a x).toNat < S100000.size a := fun v3789 k0_hw240 => k0_hw240
def k0_off32 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c30_i32_2743 : BitVec 32 := 30#32
  let v3793 : BitVec 32 := Scalar.addi v2 c30_i32_2743
  let c0_i32_2809_r31 : BitVec 32 := 0#32
  ![v3793.toNat, 0]

def k0_chk241 (v3795 : IVec S16 32) : Prop :=
  (∀ a x, ((![v3795] : Fin 1 → IVec S16 32) a x).toNat < S100000.size a)
theorem k0_idx241_inb : ∀ (v3795 : IVec S16 32) (k0_hw241 : k0_chk241 v3795), ∀ a x, ((![v3795] : Fin 1 → IVec S16 32) a x).toNat < S100000.size a := fun v3795 k0_hw241 => k0_hw241

def k0_chk242 (v3800 : IVec S16 32) : Prop :=
  (∀ a x, ((![v3800] : Fin 1 → IVec S16 32) a x).toNat < S100000.size a)
theorem k0_idx242_inb : ∀ (v3800 : IVec S16 32) (k0_hw242 : k0_chk242 v3800), ∀ a x, ((![v3800] : Fin 1 → IVec S16 32) a x).toNat < S100000.size a := fun v3800 k0_hw242 => k0_hw242

def k0_chk243 (v3805 : IVec S16 32) : Prop :=
  (∀ a x, ((![v3805] : Fin 1 → IVec S16 32) a x).toNat < S100000.size a)
theorem k0_idx243_inb : ∀ (v3805 : IVec S16 32) (k0_hw243 : k0_chk243 v3805), ∀ a x, ((![v3805] : Fin 1 → IVec S16 32) a x).toNat < S100000.size a := fun v3805 k0_hw243 => k0_hw243

def k0_chk244 (v3810 : IVec S16 32) : Prop :=
  (∀ a x, ((![v3810] : Fin 1 → IVec S16 32) a x).toNat < S100000.size a)
theorem k0_idx244_inb : ∀ (v3810 : IVec S16 32) (k0_hw244 : k0_chk244 v3810), ∀ a x, ((![v3810] : Fin 1 → IVec S16 32) a x).toNat < S100000.size a := fun v3810 k0_hw244 => k0_hw244

def k0_chk245 (v3815 : IVec S16 32) : Prop :=
  (∀ a x, ((![v3815] : Fin 1 → IVec S16 32) a x).toNat < S100000.size a)
theorem k0_idx245_inb : ∀ (v3815 : IVec S16 32) (k0_hw245 : k0_chk245 v3815), ∀ a x, ((![v3815] : Fin 1 → IVec S16 32) a x).toNat < S100000.size a := fun v3815 k0_hw245 => k0_hw245

def k0_chk246 (v3820 : IVec S16 32) : Prop :=
  (∀ a x, ((![v3820] : Fin 1 → IVec S16 32) a x).toNat < S100000.size a)
theorem k0_idx246_inb : ∀ (v3820 : IVec S16 32) (k0_hw246 : k0_chk246 v3820), ∀ a x, ((![v3820] : Fin 1 → IVec S16 32) a x).toNat < S100000.size a := fun v3820 k0_hw246 => k0_hw246

def k0_chk247 (v3825 : IVec S16 32) : Prop :=
  (∀ a x, ((![v3825] : Fin 1 → IVec S16 32) a x).toNat < S100000.size a)
theorem k0_idx247_inb : ∀ (v3825 : IVec S16 32) (k0_hw247 : k0_chk247 v3825), ∀ a x, ((![v3825] : Fin 1 → IVec S16 32) a x).toNat < S100000.size a := fun v3825 k0_hw247 => k0_hw247

def k0_chk248 (v3830 : IVec S16 32) : Prop :=
  (∀ a x, ((![v3830] : Fin 1 → IVec S16 32) a x).toNat < S100000.size a)
theorem k0_idx248_inb : ∀ (v3830 : IVec S16 32) (k0_hw248 : k0_chk248 v3830), ∀ a x, ((![v3830] : Fin 1 → IVec S16 32) a x).toNat < S100000.size a := fun v3830 k0_hw248 => k0_hw248
def k0_off33 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c31_i32_2776 : BitVec 32 := 31#32
  let v3834 : BitVec 32 := Scalar.addi v2 c31_i32_2776
  let c0_i32_2809_r32 : BitVec 32 := 0#32
  ![v3834.toNat, 0]

def k0_chk249 (v3836 : IVec S16 32) : Prop :=
  (∀ a x, ((![v3836] : Fin 1 → IVec S16 32) a x).toNat < S100000.size a)
theorem k0_idx249_inb : ∀ (v3836 : IVec S16 32) (k0_hw249 : k0_chk249 v3836), ∀ a x, ((![v3836] : Fin 1 → IVec S16 32) a x).toNat < S100000.size a := fun v3836 k0_hw249 => k0_hw249

def k0_chk250 (v3841 : IVec S16 32) : Prop :=
  (∀ a x, ((![v3841] : Fin 1 → IVec S16 32) a x).toNat < S100000.size a)
theorem k0_idx250_inb : ∀ (v3841 : IVec S16 32) (k0_hw250 : k0_chk250 v3841), ∀ a x, ((![v3841] : Fin 1 → IVec S16 32) a x).toNat < S100000.size a := fun v3841 k0_hw250 => k0_hw250

def k0_chk251 (v3846 : IVec S16 32) : Prop :=
  (∀ a x, ((![v3846] : Fin 1 → IVec S16 32) a x).toNat < S100000.size a)
theorem k0_idx251_inb : ∀ (v3846 : IVec S16 32) (k0_hw251 : k0_chk251 v3846), ∀ a x, ((![v3846] : Fin 1 → IVec S16 32) a x).toNat < S100000.size a := fun v3846 k0_hw251 => k0_hw251

def k0_chk252 (v3851 : IVec S16 32) : Prop :=
  (∀ a x, ((![v3851] : Fin 1 → IVec S16 32) a x).toNat < S100000.size a)
theorem k0_idx252_inb : ∀ (v3851 : IVec S16 32) (k0_hw252 : k0_chk252 v3851), ∀ a x, ((![v3851] : Fin 1 → IVec S16 32) a x).toNat < S100000.size a := fun v3851 k0_hw252 => k0_hw252

def k0_chk253 (v3856 : IVec S16 32) : Prop :=
  (∀ a x, ((![v3856] : Fin 1 → IVec S16 32) a x).toNat < S100000.size a)
theorem k0_idx253_inb : ∀ (v3856 : IVec S16 32) (k0_hw253 : k0_chk253 v3856), ∀ a x, ((![v3856] : Fin 1 → IVec S16 32) a x).toNat < S100000.size a := fun v3856 k0_hw253 => k0_hw253

def k0_chk254 (v3861 : IVec S16 32) : Prop :=
  (∀ a x, ((![v3861] : Fin 1 → IVec S16 32) a x).toNat < S100000.size a)
theorem k0_idx254_inb : ∀ (v3861 : IVec S16 32) (k0_hw254 : k0_chk254 v3861), ∀ a x, ((![v3861] : Fin 1 → IVec S16 32) a x).toNat < S100000.size a := fun v3861 k0_hw254 => k0_hw254

def k0_chk255 (v3866 : IVec S16 32) : Prop :=
  (∀ a x, ((![v3866] : Fin 1 → IVec S16 32) a x).toNat < S100000.size a)
theorem k0_idx255_inb : ∀ (v3866 : IVec S16 32) (k0_hw255 : k0_chk255 v3866), ∀ a x, ((![v3866] : Fin 1 → IVec S16 32) a x).toNat < S100000.size a := fun v3866 k0_hw255 => k0_hw255

def k0_chk256 (v3871 : IVec S16 32) : Prop :=
  (∀ a x, ((![v3871] : Fin 1 → IVec S16 32) a x).toNat < S100000.size a)
theorem k0_idx256_inb : ∀ (v3871 : IVec S16 32) (k0_hw256 : k0_chk256 v3871), ∀ a x, ((![v3871] : Fin 1 → IVec S16 32) a x).toNat < S100000.size a := fun v3871 k0_hw256 => k0_hw256
def k0_off34 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_2809_r33 : BitVec 32 := 0#32
  ![v2.toNat, 0]
abbrev grid1 : Pipeline.Grid := ⟨2, ![4, 13], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg1 : BitVec 32 := BitVec.ofNat 32 (i 1).val
  let c12_i32 : BitVec 32 := 12#32
  let v12 : BitVec 1 := Scalar.cmpi .slt arg1 c12_i32
  let v13 : BitVec 32 := Scalar.extui v12
  let c0_i32_3 : BitVec 32 := 0#32
  let v14 : BitVec 1 := Scalar.cmpi .ne v13 c0_i32_3
  v14

def k1_cond3 (i : grid1.Coords) : BitVec 1 :=
  let arg1 : BitVec 32 := BitVec.ofNat 32 (i 1).val
  let c12_i32_4 : BitVec 32 := 12#32
  let v15 : BitVec 1 := Scalar.cmpi .eq arg1 c12_i32_4
  let v16 : BitVec 32 := Scalar.extui v15
  let c0_i32_5 : BitVec 32 := 0#32
  let v17 : BitVec 1 := Scalar.cmpi .ne v16 c0_i32_5
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S32x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S32x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S32x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "gain" => some ((899999 / 1000000 : ℝ) : EReal)
  | "neg_coef" => some ((-1 / 1000000 : ℝ) : EReal)
  | _ => none
-- ==== ReferenceIdeal.lean ====
abbrev S1024x100000 : Shape := ⟨2, ![1024, 100000]⟩
abbrev S1024x50 : Shape := ⟨2, ![1024, 50]⟩
abbrev S_ : Shape := ⟨0, ![]⟩
abbrev S1024x100 : Shape := ⟨2, ![1024, 100]⟩
abbrev S1024x100001 : Shape := ⟨2, ![1024, 100001]⟩
abbrev S1024 : Shape := ⟨1, ![1024]⟩
abbrev S1024x1 : Shape := ⟨2, ![1024, 1]⟩
abbrev S1024x100x1 : Shape := ⟨3, ![1024, 100, 1]⟩
abbrev S1024x100x2 : Shape := ⟨3, ![1024, 100, 2]⟩

abbrev nBuf : Space → Nat
  | .hbm => 75
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024x50, .i32⟩
  | .hbm, ⟨2, _⟩ => ⟨S1024x50, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x100, .i32⟩
  | .hbm, ⟨7, _⟩ => ⟨S_, .i32⟩
  | .hbm, ⟨8, _⟩ => ⟨S1024x100, .i32⟩
  | .hbm, ⟨9, _⟩ => ⟨S1024x100, .i1⟩
  | .hbm, ⟨10, _⟩ => ⟨S_, .i32⟩
  | .hbm, ⟨11, _⟩ => ⟨S1024x100, .i32⟩
  | .hbm, ⟨12, _⟩ => ⟨S1024x100, .i32⟩
  | .hbm, ⟨13, _⟩ => ⟨S_, .i32⟩
  | .hbm, ⟨14, _⟩ => ⟨S_, .i32⟩
  | .hbm, ⟨15, _⟩ => ⟨S1024x100, .i32⟩
  | .hbm, ⟨16, _⟩ => ⟨S1024x100, .i32⟩
  | .hbm, ⟨17, _⟩ => ⟨S_, .f32⟩
  | .hbm, ⟨18, _⟩ => ⟨S1024x100001, .f32⟩
  | .hbm, ⟨19, _⟩ => ⟨S1024, .i32⟩
  | .hbm, ⟨20, _⟩ => ⟨S1024x1, .i32⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S_, .i32⟩
  | .hbm, ⟨25, _⟩ => ⟨S1024x1, .i32⟩
  | .hbm, ⟨26, _⟩ => ⟨S1024x1, .i32⟩
  | .hbm, ⟨27, _⟩ => ⟨S1024x1, .i32⟩
  | .hbm, ⟨28, _⟩ => ⟨S_, .i32⟩
  | .hbm, ⟨29, _⟩ => ⟨S1024x100, .i32⟩
  | .hbm, ⟨30, _⟩ => ⟨S1024x100, .i1⟩
  | .hbm, ⟨31, _⟩ => ⟨S_, .i32⟩
  | .hbm, ⟨32, _⟩ => ⟨S1024x100, .i32⟩
  | .hbm, ⟨33, _⟩ => ⟨S1024x100, .i32⟩
  | .hbm, ⟨34, _⟩ => ⟨S1024x100, .i32⟩
  | .hbm, ⟨35, _⟩ => ⟨S1024x100, .i32⟩
  | .hbm, ⟨36, _⟩ => ⟨S1024x100x1, .i32⟩
  | .hbm, ⟨37, _⟩ => ⟨S1024x100x1, .i32⟩
  | .hbm, ⟨38, _⟩ => ⟨S1024x100x2, .i32⟩
  | .hbm, ⟨39, _⟩ => ⟨S_, .f32⟩
  | .hbm, ⟨40, _⟩ => ⟨S1024x100, .f32⟩
  | .hbm, ⟨41, _⟩ => ⟨S1024x100001, .f32⟩
  | .hbm, ⟨42, _⟩ => ⟨S1024x100000, .f32⟩
  | .hbm, ⟨43, _⟩ => ⟨S_, .f32⟩
  | .hbm, ⟨44, _⟩ => ⟨S_, .f32⟩
  | .hbm, ⟨45, _⟩ => ⟨S1024x100000, .f32⟩
  | .hbm, ⟨46, _⟩ => ⟨S1024x100000, .f32⟩
  | .hbm, ⟨47, _⟩ => ⟨S_, .f32⟩
  | .hbm, ⟨48, _⟩ => ⟨S1024x100000, .f32⟩
  | .hbm, ⟨49, _⟩ => ⟨S1024x100000, .f32⟩
  | .hbm, ⟨50, _⟩ => ⟨S_, .f32⟩
  | .hbm, ⟨51, _⟩ => ⟨S_, .f32⟩
  | .hbm, ⟨52, _⟩ => ⟨S1024x100000, .f32⟩
  | .hbm, ⟨53, _⟩ => ⟨S1024x100000, .f32⟩
  | .hbm, ⟨54, _⟩ => ⟨S1024x100000, .f32⟩
  | .hbm, ⟨55, _⟩ => ⟨S1024x100000, .f32⟩
  | .hbm, ⟨56, _⟩ => ⟨S_, .f32⟩
  | .hbm, ⟨57, _⟩ => ⟨S1024x100000, .f32⟩
  | .hbm, ⟨58, _⟩ => ⟨S1024x100000, .f32⟩
  | .hbm, ⟨59, _⟩ => ⟨S1024x100000, .f32⟩
  | .hbm, ⟨60, _⟩ => ⟨S1024x100000, .f32⟩
  | .hbm, ⟨61, _⟩ => ⟨S1024x100000, .i1⟩
  | .hbm, ⟨62, _⟩ => ⟨S1024x100000, .f32⟩
  | .hbm, ⟨63, _⟩ => ⟨S1024x100000, .f32⟩
  | .hbm, ⟨64, _⟩ => ⟨S1024x100000, .f32⟩
  | .hbm, ⟨65, _⟩ => ⟨S1024x100000, .f32⟩
  | .hbm, ⟨66, _⟩ => ⟨S1024x100000, .f32⟩
  | .hbm, ⟨67, _⟩ => ⟨S1024x100000, .f32⟩
  | .hbm, ⟨68, _⟩ => ⟨S1024x100000, .f32⟩
  | .hbm, ⟨69, _⟩ => ⟨S1024x100000, .f32⟩
  | .hbm, ⟨70, _⟩ => ⟨S1024x100000, .f32⟩
  | .hbm, ⟨71, _⟩ => ⟨S1024x100000, .f32⟩
  | .hbm, ⟨72, _⟩ => ⟨S_, .f32⟩
  | .hbm, ⟨73, _⟩ => ⟨S1024, .f32⟩
  | .hbm, ⟨74, _⟩ => ⟨S1024, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_v16 : Ref sig .tc := ⟨.hbm, 30, rfl⟩
abbrev main_c_7 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_10 : Ref sig .tc := ⟨.hbm, 47, rfl⟩
abbrev main_v30 : Ref sig .tc := ⟨.hbm, 48, rfl⟩
abbrev main_v31 : Ref sig .tc := ⟨.hbm, 49, rfl⟩
abbrev main_cst_11 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_v0 : Ref sig .tc := ⟨.hbm, 55, rfl⟩
abbrev main_call1_call0_cst : Ref sig .tc := ⟨.hbm, 56, rfl⟩
abbrev main_call1_call0_v0 : Ref sig .tc := ⟨.hbm, 57, rfl⟩
abbrev main_call1_call0_v1 : Ref sig .tc := ⟨.hbm, 58, rfl⟩
abbrev main_call1_call0_v2 : Ref sig .tc := ⟨.hbm, 59, rfl⟩
abbrev main_call1_call0_v3 : Ref sig .tc := ⟨.hbm, 60, rfl⟩
abbrev main_call1_call0_v4 : Ref sig .tc := ⟨.hbm, 61, rfl⟩
abbrev main_call1_call0_v5 : Ref sig .tc := ⟨.hbm, 62, rfl⟩
abbrev main_call1_call0_v6 : Ref sig .tc := ⟨.hbm, 63, rfl⟩
abbrev main_call1_call0_v7 : Ref sig .tc := ⟨.hbm, 64, rfl⟩
abbrev main_call1_call0_v8 : Ref sig .tc := ⟨.hbm, 65, rfl⟩
abbrev main_call1_call0_v9 : Ref sig .tc := ⟨.hbm, 66, rfl⟩
abbrev main_call1_call0_v10 : Ref sig .tc := ⟨.hbm, 67, rfl⟩
abbrev main_call1_call0_v11 : Ref sig .tc := ⟨.hbm, 68, rfl⟩
abbrev main_call1_v1 : Ref sig .tc := ⟨.hbm, 69, rfl⟩
abbrev main_v36 : Ref sig .tc := ⟨.hbm, 70, rfl⟩
abbrev main_v37 : Ref sig .tc := ⟨.hbm, 71, rfl⟩
abbrev main_cst_12 : Ref sig .tc := ⟨.hbm, 72, rfl⟩
abbrev main_v38 : Ref sig .tc := ⟨.hbm, 73, rfl⟩
abbrev main_v39 : Ref sig .tc := ⟨.hbm, 74, rfl⟩

abbrev nD : Nat := 1
abbrev τ : Topo := Topo.v7x

variable {F : FTy → Type} [FloatOps F]
-- ==== Proof.Setup.lean ====
/-
  The launch of the idealized kernel as the SparseCore launch theorem sees it, and the values one vector subcore's task
  computes: the class words its rows name and the row entries those words pick.
-/
module

public import proofs.«01_k».proof.Defs
public import Idealize.ShloMosaic.Lib.SparseCore.Quiescent
public import Idealize.ShloMosaic.Lib.SparseCore.Ops
public import Idealize.ShloMosaic.Lib.Transfers
public import Idealize.ShloMosaic.Lib.StableHlo.Run
public import Idealize.ShloMosaic.Lib.Pipeline.Kit
public import Idealize.ShloMosaic.Lib.Pipeline.Value
public import Idealize.ShloMosaic.Lib.ValueLayout
public import Idealize.ShloMosaic.Lib.ValueIdx
public import Idealize.ShloMosaic.Lib.WritesUnit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Nll

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

section Launch
variable [FloatOps F] [Named F]

/-- The labels of the pipelined calls. -/
abbrev ΛP : Labels := Pipeline.Sig Λ₀ (Fin 2) fun p => (pcfgs (F := F) p).Adm
/-- The SparseCore configuration. -/
abbrev K : SparseCore.Cfg τ sig (ΛP (F := F)) 1 := sc (F := F)
/-- The bodies with the pipelined calls' in them. -/
abbrev D : Defs nD τ sig (Elt F) (ΛP (F := F)) := Pipeline.defs pcfgs defs₀
/-- No loop needs a variant of its own. -/
abbrev 𝒱₀ : Variants := Variants.none
/-- The variants, with the SparseCore's. -/
abbrev 𝒱 : Variants := 𝒱₀.lift
/-- The variant of a straight run. -/
abbrev v₀ : 𝒱.V := Sum.inl none

/-- The configuration's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Launch

/-! ## The resource algebra: the handshakes' rounds, the pipelines' rounds and the transfers' counters -/

/-- The ghost state of the handshakes. -/
abbrev UH : Type := URounds (GSem nD τ sig) ℕ
/-- The ghost state of the pipelines. -/
abbrev UP : Type := URounds (GSem nD τ sig) Unit
/-- The whole ghost state. -/
abbrev UU : Type := UH × (UP × Counters)

/-- The algebra every assertion of this program lives in. -/
abbrev MM (F : FTy → Type) : Type := MT nD τ sig (HIx 1) (Elt F) ℕ UU ℕ

local notation "𝕄" => MM F

/-- The handshakes' part of it. -/
abbrev EH : Emb UH (MM F) := embL
/-- The pipelines' rounds, the middle factor. -/
abbrev EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
/-- The pipelines' part lies inside the whole. -/
instance EP_landsIn : (EP : Emb UP 𝕄).LandsIn (upEmb : UEmb _ 𝕄) := by unfold EP; infer_instance

/-! ## The buffers -/

/-- The scores, in main memory. -/
abbrev oLoc (d : Dev nD) : Loc nD τ sig := (SparseCore.T d).loc main_arg0
/-- The label table, in main memory. -/
abbrev tLoc (d : Dev nD) : Loc nD τ sig := (SparseCore.T d).loc main_v1
/-- The gathered scores, in main memory. -/
abbrev gLoc (d : Dev nD) : Loc nD τ sig := (SparseCore.T d).loc main_v2

/-- A grid point's SparseCore. -/
abbrev cV (L : grid0.Coords) : Fin τ.nSC := (L 0).castLE hcore0
/-- A grid point's subcore. -/
abbrev jV (L : grid0.Coords) : Fin τ.nSub := (L 1).castLE hsub0

/-! ## The values -/

/-- The class index an entry names: a zero is the padding and names class 0 (its gather is dropped later), any other
    word `w` names class `w - 1`. -/
def hot (w : BitVec 32) : BitVec 32 := if w = 0#32 then 0#32 else w - 1#32

/-- The first row of the task of tile `L`. -/
def base (L : grid0.Coords) : ℕ := 64 * (L 1).val + 32 * (L 0).val

/-- A subcore's rows are rows of the arrays. -/
theorem base_lt (L : grid0.Coords) (r : ℕ) (h : r < 32) : base L + r < 1024 := by
  have h0 : (L 0).val < 2 := (L 0).isLt
  have h1 : (L 1).val < 16 := (L 1).isLt
  unfold base; omega

/-- The row of the arrays a local row is. -/
def rowAt (L : grid0.Coords) (r : Fin 32) : Fin 1024 := ⟨base L + r.val, base_lt L r.val r.isLt⟩

/-- The same row for a plain number. -/
def rowN (L : grid0.Coords) (r : ℕ) : Fin 1024 := ⟨(base L + r) % 1024, Nat.mod_lt _ (by decide)⟩

/-- The label table's rows of the task. -/
def tRows (fT : S1024x128.Idx → BitVec 32) (L : grid0.Coords) : S32x128.Idx → BitVec 32 :=
  fun p => fT (ix2 (rowAt L (p 0)) (p 1))

/-- The class words of the task's rows. -/
def hots (fT : S1024x128.Idx → BitVec 32) (L : grid0.Coords) : S32x128.Idx → BitVec 32 :=
  fun p => hot (tRows fT L p)

/-- One row of the scores. -/
def rowOf (fO : S1024x100000.Idx → F .f32) (b : Fin 1024) : S100000.Idx → F .f32 :=
  fun j => fO (ix2 b (j 0))

/-- The lane of a row a class word names. -/
def lane (w : BitVec 32) : S100000.Idx := ix1 (⟨w.toNat % 100000, Nat.mod_lt _ (by decide)⟩ : Fin 100000)

/-- What the gather leaves at an entry of the whole table. -/
def gAll (fO : S1024x100000.Idx → F .f32) (fT : S1024x128.Idx → BitVec 32) : S1024x128.Idx → F .f32 :=
  fun p => rowOf fO (p 0) (lane (hot (fT p)))

/-- The same, on a task's own rows. -/
def gRows (fO : S1024x100000.Idx → F .f32) (fT : S1024x128.Idx → BitVec 32) (L : grid0.Coords) : S32x128.Idx → F .f32 :=
  fun p => rowOf fO (rowAt L (p 0)) (lane (hots fT L p))

end Cert.Proof.Nll

end
-- ==== Proof.Tile.lean ====
/-
  One vector subcore's task, effect by effect: what its scratches hold between the steps, and for each kind of step the
  rule that moves one such state to the next.
-/
module

public import proofs.«01_k».proof.Proof.Setup

@[expose] public section

noncomputable section

namespace Cert.Proof.Nll

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MM F
/-- The scores, as a subcore names them. -/
abbrev aO : Memref sig .scVector .hbm S1024x100000 .f32 := Memref.whole main_arg0_scv
/-- The label table, as a subcore names it. -/
abbrev aT : Memref sig .scVector .hbm S1024x128 .i32 := Memref.whole main_v1_scv
/-- The gathered scores, as a subcore names them. -/
abbrev aG : Memref sig .scVector .hbm S1024x128 .f32 := Memref.whole main_v2_scv
/-- The staged labels. -/
abbrev sT : Memref sig .scVector .vmem S32x128 .i32 := Memref.whole cc0_scratch0
/-- The staged class words. -/
abbrev sI : Memref sig .scVector .vmem S32x128 .i32 := Memref.whole cc0_scratch1
/-- The staged gathered scores. -/
abbrev sG : Memref sig .scVector .vmem S32x128 .f32 := Memref.whole cc0_scratch2
/-- The staged row. -/
abbrev sR : Memref sig .scVector .vmem S100000 .f32 := Memref.whole cc0_scratch3

/-- The thread of tile `L`. -/
abbrev thr (d : Dev nD) (L : grid0.Coords) : Thread nD τ := V d (cV L) (jV L)

section Steps

variable (d : Dev nD) (L : grid0.Coords)
variable (fO : S1024x100000.Idx → Elt F .f32) (fT : S1024x128.Idx → BitVec 32)
variable (qO qT : PosShare TreeShare)
variable (O : CellTallies nD τ sig (HIx 1)) (W : Waits sig (HIx 1))

/-! ## The states -/

/-- The rest of the subcore's own buffers, which no step touches. -/
def restBufs : sProp 𝕄 :=
  bigSep (((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2)).erase
      ((Proc.scVector (cV L) (jV L)).devRef cc0_scratch3))
      fun b => iprop(∃ f, ((d, b) : Loc nD τ sig) ↦{fullShare} f)

/-- What every step keeps: the waits' evidence, a read share of both arrays, the own semaphores at zero, the record of waits. -/
def Keep : sProp 𝕄 :=
  iprop(levAts (K (F := F)).L (K (F := F)).lev ∗ (oLoc d ↦{qO} fO) ∗ (tLoc d ↦{qT} fT) ∗ restBufs d L
    ∗ ownSems0 (thr d L) ∗ ∃ W', ⌜∀ p ∈ W', p ∈ W ∨ p.2 = none⌝ ∗ owes (thr d L) O W')

/-- Row-major position within a 32 × 128 scratch. -/
def pos (p : S32x128.Idx) : ℕ := 128 * (p 0).val + (p 1).val

/-- The task's rows of the result. -/
abbrev outRect : Rect S1024x128 := Rect.unit (s := S1024x128) (k0_off34 L) S32x128.size (k0_off34_inb L)
/-- The part of the gathered scores that a subcore writes. -/
def outSet : Finset S1024x128.Idx := ((aG).slice (outRect L) (fun _ => rfl)).view.set

/-- The scratch `sT` at `f`, and so on. -/
abbrev tPt (f : Buf (Elt F) ((thr d L).loc cc0_scratch0)) : sProp 𝕄 := (thr d L).loc cc0_scratch0 ↦{fullShare} f
/-- The class words' buffer, holding `f`. -/
abbrev iPt (f : Buf (Elt F) ((thr d L).loc cc0_scratch1)) : sProp 𝕄 := (thr d L).loc cc0_scratch1 ↦{fullShare} f
/-- The gathered scores' buffer, holding `f`. -/
abbrev gPt (f : Buf (Elt F) ((thr d L).loc cc0_scratch2)) : sProp 𝕄 := (thr d L).loc cc0_scratch2 ↦{fullShare} f
/-- The row's buffer, holding `f`. -/
abbrev rPt (f : Buf (Elt F) ((thr d L).loc cc0_scratch3)) : sProp 𝕄 := (thr d L).loc cc0_scratch3 ↦{fullShare} f
/-- The subcore's part of the result, holding `f`. -/
abbrev oPt (f : Buf (Elt F) (gLoc d)) : sProp 𝕄 := gLoc d ↦[outSet L]{fullShare} f

/-- At the start: nothing known of the scratches. -/
def St0 : sProp 𝕄 :=
  iprop(Keep d L fO fT qO qT O W ∗ (∃ f, oPt d L f) ∗ (∃ f, tPt d L f) ∗ (∃ f, iPt d L f) ∗ (∃ f, gPt d L f) ∗ ∃ f, rPt d L f)

/-- While the class words are computed: the first `n` entries are there. -/
def StM (n : ℕ) : sProp 𝕄 :=
  iprop(Keep d L fO fT qO qT O W ∗ (∃ f, oPt d L f) ∗ tPt d L (tRows fT L)
    ∗ (∃ f : S32x128.Idx → BitVec 32, ⌜∀ p, pos p < n → f p = hots fT L p⌝ ∗ iPt d L f) ∗ (∃ f, gPt d L f) ∗ ∃ f, rPt d L f)

/-- While the entries are gathered: all class words, the row being read, and the first `n` entries. -/
def StG (r n : ℕ) : sProp 𝕄 :=
  iprop(Keep d L fO fT qO qT O W ∗ (∃ f, oPt d L f) ∗ tPt d L (tRows fT L)
    ∗ iPt d L (hots fT L) ∗ (∃ f : S32x128.Idx → Elt F .f32, ⌜∀ p, pos p < n → f p = gRows fO fT L p⌝ ∗ gPt d L f)
    ∗ rPt d L (rowOf fO (rowN L r)))

/-- Between two rows. -/
def StR (n : ℕ) : sProp 𝕄 :=
  iprop(Keep d L fO fT qO qT O W ∗ (∃ f, oPt d L f) ∗ tPt d L (tRows fT L)
    ∗ iPt d L (hots fT L) ∗ (∃ f : S32x128.Idx → Elt F .f32, ⌜∀ p, pos p < n → f p = gRows fO fT L p⌝ ∗ gPt d L f)
    ∗ ∃ f, rPt d L f)

/-- At the end: the rows of the result are the gathered entries. -/
def StE : sProp 𝕄 :=
  iprop(Keep d L fO fT qO qT O W ∗ oPt d L (gAll fO fT) ∗ (∃ f, tPt d L f) ∗ (∃ f, iPt d L f) ∗ (∃ f, gPt d L f) ∗ ∃ f, rPt d L f)

variable {d L fO fT qO qT O W}
variable {α β : Type}

/-! ## Program structure -/

/-- A run of one program after another. -/
theorem go_bind {p : Prog (TpuEff nD τ sig (Elt F) Λ₀ (thr d L).2) α} {k : α → Prog (TpuEff nD τ sig (Elt F) Λ₀ (thr d L).2) β}
    {Q : β → sProp 𝕄} {P : sProp 𝕄}
    (h : P ⊢ wp frame (wpE (defs₀ (F := F)) 𝒱₀ (thr d L) none) Set.univ p fun x => wp frame (wpE (defs₀ (F := F)) 𝒱₀ (thr d L) none) Set.univ (k x) Q) :
    P ⊢ wp frame (wpE (defs₀ (F := F)) 𝒱₀ (thr d L) none) Set.univ (p >>= k) Q := by
  rw [wp_bind]; exact h

/-- A run of a program that returns at once. -/
theorem go_pure {x : α} {Q : α → sProp 𝕄} {P : sProp 𝕄} (h : P ⊢ Q x) :
    P ⊢ wp frame (wpE (defs₀ (F := F)) 𝒱₀ (thr d L) none) Set.univ (pure x) Q := by
  rw [wp_pure]; exact h.trans fupd_intro

/-- A window run for every continuation, then the rest. -/
theorem go_part {p : Prog (TpuEff nD τ sig (Elt F) Λ₀ (thr d L).2) α} {k : α → Prog (TpuEff nD τ sig (Elt F) Λ₀ (thr d L).2) β}
    {Q : β → sProp 𝕄} {A B : sProp 𝕄}
    (h : ∀ Q' : α → sProp 𝕄, (∀ x, B ⊢ Q' x) → A ⊢ wp frame (wpE (defs₀ (F := F)) 𝒱₀ (thr d L) none) Set.univ p Q')
    (h' : ∀ x, B ⊢ wp frame (wpE (defs₀ (F := F)) 𝒱₀ (thr d L) none) Set.univ (k x) Q) :
    A ⊢ wp frame (wpE (defs₀ (F := F)) 𝒱₀ (thr d L) none) Set.univ (p >>= k) Q :=
  go_bind (h _ h')

/-! ## A write through a row's rectangle -/

/-- Sixteen lanes of row `r` from column `c`, written over contents whose entries before them are `G`'s: the entries before
    the last of them are `G`'s. -/
theorem lanes_write {κ : Kind} {sp : Space} {e : EltTy} (v : View sig κ sp S32x128 e) (f : v.ty.Contents (Elt F))
    (g : S32x128.Idx → Elt F e) {r c n : ℕ} (inb : ∀ a, (![r, c] : Fin 2 → ℕ) a + S1x16.size a ≤ S32x128.size a)
    (w : (Rect.unit (s := S32x128) ![r, c] S1x16.size inb).shape.Idx → Elt F e) (hn : n = 128 * r + c)
    (hf : ∀ p, pos p < n → v.read (Elt F) f p = g p)
    (hw : ∀ l : Fin 16, ∀ p : S32x128.Idx, (p 0).val = r → (p 1).val = c + l.val → w (ix2 (0 : Fin 1) l) = g p) :
    ∀ p, pos p < n + 16 → v.read (Elt F) ((v.slice (Rect.unit (s := S32x128) ![r, c] S1x16.size inb)).write (Elt F) f w Finset.univ) p = g p := by
  intro p hp
  have hr : r + 1 ≤ 32 := inb 0
  have hc : c + 16 ≤ 128 := inb 1
  have h1 : (p 1).val < 128 := (p 1).isLt
  rw [← View.writes_singleton, View.read_writes_cons_unit v f inb w [] p rfl]
  unfold pos at hp
  split
  · rename_i h
    have e0 := h 0
    have e1 := h 1
    replace e0 : r ≤ (p 0).val ∧ (p 0).val < r + 1 := e0
    replace e1 : c ≤ (p 1).val ∧ (p 1).val < c + 16 := e1
    have := hw ⟨(p 1).val - c, by omega⟩ p (by omega) (by show (p 1).val = c + ((p 1).val - c); omega)
    rw [← this]
    congr 1
    funext a
    apply Fin.ext
    match a with
    | ⟨0, _⟩ => show (p 0).val - r = 0; omega
    | ⟨1, _⟩ => rfl
  · rename_i h
    refine hf p ?_
    unfold pos
    by_contra hlt
    refine h fun a => ?_
    match a with
    | ⟨0, _⟩ => show r ≤ (p 0).val ∧ (p 0).val < r + 1; omega
    | ⟨1, _⟩ => show c ≤ (p 1).val ∧ (p 1).val < c + 16; omega

/-- Sixteen lanes of row `r` from column `c`, read. -/
theorem lanes_read {κ : Kind} {sp : Space} {e : EltTy} (v : View sig κ sp S32x128 e) (f : v.ty.Contents (Elt F))
    {r c : ℕ} (inb : ∀ a, (![r, c] : Fin 2 → ℕ) a + S1x16.size a ≤ S32x128.size a) (l : Fin 16) (p : S32x128.Idx)
    (h0 : (p 0).val = r) (h1 : (p 1).val = c + l.val) :
    v.readAt (Elt F) (Rect.unit (s := S32x128) ![r, c] S1x16.size inb).toLoadRect f (ix2 (0 : Fin 1) l) = v.read (Elt F) f p := by
  rw [View.readAt_apply]
  congr 1
  funext a
  apply Fin.ext
  rw [LoadRect.idx_apply]
  match a with
  | ⟨0, _⟩ => show r + 1 * 0 = (p 0).val; omega
  | ⟨1, _⟩ => show c + 1 * l.val = (p 1).val; omega

/-! ## The class words -/

/-- Lane `l` of `x` is the label at `(r, c + l)`. -/
def IsLab (fT : S1024x128.Idx → BitVec 32) (L : grid0.Coords) (r c : ℕ) (x : S1x16.Idx → BitVec 32) : Prop :=
  ∀ l : Fin 16, ∀ p : S32x128.Idx, (p 0).val = r → (p 1).val = c + l.val → x (ix2 (0 : Fin 1) l) = tRows fT L p

/-- Reading sixteen labels. -/
theorem step_labels {r c n : ℕ} {inb : ∀ a, (![r, c] : Fin 2 → ℕ) a + S1x16.size a ≤ S32x128.size a} {hl}
    {Q : (S1x16.Idx → BitVec 32) → sProp 𝕄}
    (h : ∀ x, IsLab fT L r c x → StM (F := F) d L fO fT qO qT O W n ⊢ Q x) :
    StM (F := F) d L fO fT qO qT O W n ⊢ wp frame (wpE (defs₀ (F := F)) 𝒱₀ (thr d L) none) Set.univ
      (Prog.lift (.load sT (Rect.unit (s := S32x128) ![r, c] S1x16.size inb).toLoadRect hl)) Q := by
  have h := h _ fun l p h0 h1 => lanes_read (F := F) (sT).view (tRows fT L) inb l p h0 h1
  unfold StM at h ⊢
  unfold Prog.lift
  iintro ⟨H1, H2, H3, H4, H5, H6⟩
  iapply (wp_load 𝒱₀ (thr d L) none Set.univ (m := sT) (S := Finset.univ) (q := fullShare) (f := tRows fT L) (Finset.subset_univ _)) $$ H3
  iintro H3
  rw [wp_ret]
  imodintro
  iapply h
  iframe

/-- A load of the word scratch whose value is not used. -/
theorem step_old {r c n : ℕ} {inb : ∀ a, (![r, c] : Fin 2 → ℕ) a + S1x16.size a ≤ S32x128.size a} {hl}
    {Q : (S1x16.Idx → BitVec 32) → sProp 𝕄}
    (h : ∀ x, StM (F := F) d L fO fT qO qT O W n ⊢ Q x) :
    StM (F := F) d L fO fT qO qT O W n ⊢ wp frame (wpE (defs₀ (F := F)) 𝒱₀ (thr d L) none) Set.univ
      (Prog.lift (.load sI (Rect.unit (s := S32x128) ![r, c] S1x16.size inb).toLoadRect hl)) Q := by
  unfold StM at h ⊢
  unfold Prog.lift
  iintro ⟨H1, H2, H3, ⟨%f, %hf, H4⟩, H5, H6⟩
  iapply (wp_load 𝒱₀ (thr d L) none Set.univ (m := sI) (S := Finset.univ) (q := fullShare) (f := f) (Finset.subset_univ _)) $$ H4
  iintro H4
  rw [wp_ret]
  imodintro
  iapply (h _)
  iframe
  iexists f
  isplitr; · ipureintro; exact hf
  iexact H4

/-- Sixteen class words stored. -/
theorem step_words {r c n : ℕ} {inb : ∀ a, (![r, c] : Fin 2 → ℕ) a + S1x16.size a ≤ S32x128.size a} {hx hm}
    {w : S1x16.Idx → BitVec 32} {Q : PUnit → sProp 𝕄} (hn : n = 128 * r + c)
    (hw : ∀ l : Fin 16, ∀ p : S32x128.Idx, (p 0).val = r → (p 1).val = c + l.val → w (ix2 (0 : Fin 1) l) = hots fT L p)
    (h : StM (F := F) d L fO fT qO qT O W (128 * r + c + 16) ⊢ Q ⟨⟩) :
    StM (F := F) d L fO fT qO qT O W n ⊢ wp frame (wpE (defs₀ (F := F)) 𝒱₀ (thr d L) none) Set.univ
      (Prog.lift (.store sI (Rect.unit (s := S32x128) ![r, c] S1x16.size inb) w Finset.univ hx hm)) Q := by
  subst hn
  unfold StM at h ⊢
  unfold Prog.lift
  iintro ⟨H1, H2, H3, ⟨%f, %hf, H4⟩, H5, H6⟩
  iapply (wp_store 𝒱₀ (thr d L) none Set.univ (m := sI) (r := Rect.unit (s := S32x128) ![r, c] S1x16.size inb) (S := Finset.univ) (f := f) (Finset.subset_univ _)) $$ H4
  iintro H4
  rw [wp_ret]
  imodintro
  iapply h
  iframe
  iexists _
  isplitr
  · ipureintro
    exact lanes_write (F := F) (sI).view f (hots fT L) inb w rfl hf hw
  iexact H4

/-- The stored payload is the class words of the loaded labels. -/
theorem pay_words {r c : ℕ} {x : S1x16.Idx → BitVec 32} (hx : IsLab fT L r c x) (l : Fin 16) (p : S32x128.Idx)
    (h0 : (p 0).val = r) (h1 : (p 1).val = c + l.val) :
    shapeCast S1x16 (k0_pay1 (F := F) x) shapeCasts_S16_S1x16 (ix2 (0 : Fin 1) l) = hots fT L p := by
  refine (shapeCast_a_1a_apply _ _ _ _).trans ?_
  unfold k0_pay1 hots hot
  rw [← hx l p h0 h1]
  have e : shapeCast S16 x shapeCasts_S1x16_S16 (ix1 l) = x (ix2 (0 : Fin 1) l) := shapeCast_1a_a_apply x _ l
  show (if BitVec.ofBool (shapeCast S16 x shapeCasts_S1x16_S16 (ix1 l) != 0#32) = 1 then shapeCast S16 x shapeCasts_S1x16_S16 (ix1 l) - 1#32 else 0#32) = _
  rw [e]
  by_cases hz : x (ix2 (0 : Fin 1) l) = 0#32
  · rw [hz]; rfl
  · rw [if_neg hz, if_pos]
    rw [(bne_iff_ne (a := x (ix2 (0 : Fin 1) l)) (b := 0#32)).mpr hz]; rfl

/-! ## Transfers -/

/-- A transfer of the subcore's own and its wait: the destination holds what the source reads, all else as before. -/
theorem go_copy {sp sp' sp₁ sp₂ : Space} {s s₁ s₂ : Shape} {e e₁ e₂ : EltTy} {κ₂ : Kind}
    {src : Memref sig (thr d L).2.kind sp s e} {dst : Memref sig (thr d L).2.kind sp' s e} {sem : DmaSem sig} {hsrc hdst hsm}
    {srcw : Memref sig (thr d L).2.kind sp₁ s₁ e₁} {dstw : Memref sig κ₂ sp₂ s₂ e₂} {hsrcw hdstw}
    {k : PUnit → Prog (TpuEff nD τ sig (Elt F) Λ₀ (thr d L).2) α} {Q : α → sProp 𝕄}
    {q : PosShare TreeShare} {fs : Buf (Elt F) (src.view.loc (thr d L))} {fd : Buf (Elt F) (dst.view.loc (thr d L))}
    {Ss : Finset (Idx (src.view.loc (thr d L)))} {Sd : Finset (Idx (dst.view.loc (thr d L)))}
    (hO : ∀ g, O g none = 0) (hsem : (SemLoc.dma sem : SemLoc sig).isScoped .scVector = true)
    (hN : dstw.view.dmaCredit = dst.view.amount (.dma sem)) (hN0 : 0 < dst.view.amount (.dma sem))
    (hSs : src.view.set ⊆ Ss) (hSd : dst.view.set ⊆ Sd) :
    iprop((src.view.loc (thr d L) ↦[Ss]{q} fs) ∗ (dst.view.loc (thr d L) ↦[Sd]{fullShare} fd)
        ∗ levAts (K (F := F)).L (K (F := F)).lev ∗ ownSems0 (thr d L) ∗ ∃ W', ⌜∀ p ∈ W', p ∈ W ∨ p.2 = none⌝ ∗ owes (thr d L) O W')
      ⊢ (iprop((iprop((src.view.loc (thr d L) ↦[Ss]{q} fs)
            ∗ (dst.view.loc (thr d L) ↦[Sd]{fullShare} dst.view.write (Elt F) fd (src.view.read (Elt F) fs) Finset.univ)
            ∗ levAts (K (F := F)).L (K (F := F)).lev ∗ ownSems0 (thr d L) ∗ ∃ W', ⌜∀ p ∈ W', p ∈ W ∨ p.2 = none⌝ ∗ owes (thr d L) O W')
          -∗ wp frame (wpE (defs₀ (F := F)) 𝒱₀ (thr d L) none) Set.univ (k ⟨⟩) Q)
        -∗ wp frame (wpE (defs₀ (F := F)) 𝒱₀ (thr d L) none) Set.univ (Prog.lift (.enqueueDma src (.here dst) (.dma sem) hsrc hdst hsm))
            fun _ => wp frame (wpE (defs₀ (F := F)) 𝒱₀ (thr d L) none) Set.univ (Prog.lift (.waitDma2 sem srcw dstw hsrcw hdstw) >>= k) Q) : sProp 𝕄) := by
  have hs : (ownSems0 (thr d L) : sProp 𝕄) = iprop(semVal (thr d L, .dma sem) 0 ∗ bigSep ((ownCells (thr d L)).erase (thr d L, .dma sem)) fun g => semVal g 0) :=
    SparseCore.bigSep_erase' ((mem_ownCells (g := (thr d L, .dma sem))).mpr ⟨rfl, hsem⟩)
  rw [hs]
  unfold Prog.lift
  simp only [Prog.bind_op, Prog.bind_ret]
  iintro ⟨Hs, Hd, #Hlv, ⟨Hv, Hvs⟩, %W', %hW', HO⟩ Hk
  ihave Hs := (pointsTo_split_subset hSs).1 $$ Hs
  icases Hs with ⟨Hs, Hs'⟩
  iapply (Transfers.wp_dmaLocal countersEmb 𝒱₀ (thr d L) none none _ rfl hN0 hSd) $$ [Hs Hd Hv]
  · iframe
  iintro Hf
  rw [wp_ret]
  imodintro
  iapply (Transfers.wp_waitLocalO countersEmb 𝒱₀ (thr d L) none none hN) $$ [Hf HO]
  · isplitl [Hf]; · iexact Hf
    isplitl [HO]; · iexact HO
    iapply ((K (F := F)).mayWait_none (SemLoc.dma sem) hO); iexact Hlv
  iintro ⟨⟨Hd, Hs⟩, Hv, HO⟩
  iapply Hk
  isplitl [Hs Hs']
  · iapply (pointsTo_split_subset hSs).2
    iframe
  isplitl [Hd]; · iexact Hd
  isplitr; · iexact Hlv
  isplitl [Hv Hvs]; · iframe
  iexists (insert ((SemLoc.dma sem, none) : SemLoc sig × HIx 1) W')
  isplitr
  · ipureintro
    intro p hp
    rcases Finset.mem_insert.mp hp with hp | hp
    · exact .inr (by rw [hp])
    · exact hW' p hp
  iexact HO

/-- A row by number is the row. -/
theorem rowN_eq {r : ℕ} (h : r < 32) : rowN L r = rowAt L ⟨r, h⟩ :=
  Fin.ext (Nat.mod_eq_of_lt (base_lt L r h))

/-- What the labels' fetch lands. -/
theorem fetch_eq (fT : S1024x128.Idx → BitVec 32) (L : grid0.Coords) (f : S32x128.Idx → BitVec 32) :
    sT.view.write (Elt F) f (((aT).slice (Rect.unit (s := S1024x128) (k0_off1 L) S32x128.size (k0_off1_inb L)) (fun _ => rfl)).view.read (Elt F) fT)
      Finset.univ = tRows fT L := by
  refine (View.write_whole_univ _ _ _).trans ?_
  funext p
  show fT _ = fT _
  congr 1
  funext a
  apply Fin.ext
  have h := k0_off1_eq L
  match a with
  | ⟨0, _⟩ =>
    have h0 : k0_off1 L 0 = 64 * (L 1).val + 32 * (L 0).val := congrFun h 0
    show k0_off1 L 0 + 1 * (p 0).val = base L + (p 0).val
    unfold base; omega
  | ⟨1, _⟩ =>
    have h1 : k0_off1 L 1 = 0 := congrFun h 1
    show k0_off1 L 1 + 1 * (p 1).val = (p 1).val
    omega

/-- What a row's fetch lands. -/
theorem row_eq (fO : S1024x100000.Idx → Elt F .f32) (L : grid0.Coords) (f : S100000.Idx → Elt F .f32) {off : Fin 2 → ℕ}
    {inb : ∀ a, off a + S1x100000.size a ≤ S1024x100000.size a} {r : ℕ} (h : off = ![base L + r, 0]) :
    sR.view.write (Elt F) f ((((aO).slice (Rect.unit (s := S1024x100000) off S1x100000.size inb) (fun _ => rfl)).squeeze S100000
      squeezes_S1x100000_S100000).view.read (Elt F) fO) Finset.univ = rowOf fO (rowN L r) := by
  subst h
  refine (View.write_whole_univ _ _ _).trans ?_
  rw [Memref.read_squeeze_slice (hc := Shape.Squeezes.numel_eq squeezes_S1x100000_S100000)]
  funext j
  rw [eq_ix1 j]
  refine (shapeCast_1a_a_apply _ _ _).trans ?_
  show fO _ = fO _
  congr 1
  have hr : base L + r + 1 ≤ 1024 := inb 0
  funext a
  apply Fin.ext
  match a with
  | ⟨0, _⟩ => show base L + r + 1 * 0 = (base L + r) % 1024; rw [Nat.mod_eq_of_lt (by omega)]; omega
  | ⟨1, _⟩ => show 0 + 1 * (j 0).val = (j 0).val; omega

/-- The labels' fetch. -/
theorem step_fetch {sem : DmaSem sig} {hsrc hdst hsm} {hsrcw hdstw}
    {k : PUnit → Prog (TpuEff nD τ sig (Elt F) Λ₀ (thr d L).2) α} {Q : α → sProp 𝕄}
    (hO : ∀ g, O g none = 0) (hsem : (SemLoc.dma sem : SemLoc sig).isScoped .scVector = true)
    (h : StM (F := F) d L fO fT qO qT O W 0 ⊢ wp frame (wpE (defs₀ (F := F)) 𝒱₀ (thr d L) none) Set.univ (k ⟨⟩) Q) :
    St0 (F := F) d L fO fT qO qT O W ⊢ wp frame (wpE (defs₀ (F := F)) 𝒱₀ (thr d L) none) Set.univ
      (Prog.lift (.enqueueDma (aT.slice (Rect.unit (s := S1024x128) (k0_off1 L) S32x128.size (k0_off1_inb L)) (fun _ => rfl))
        (.here sT) (.dma sem) hsrc hdst hsm))
      fun _ => wp frame (wpE (defs₀ (F := F)) 𝒱₀ (thr d L) none) Set.univ
        (Prog.lift (.waitDma2 sem (aT.slice (Rect.unit (s := S1024x128) (k0_off1 L) S32x128.size (k0_off1_inb L)) (fun _ => rfl)) sT hsrcw hdstw) >>= k) Q := by
  unfold StM at h
  unfold St0 Keep
  iintro ⟨⟨H1, H2, H3, H4, H5, H6⟩, H7, ⟨%f, H8⟩, ⟨%f', H9⟩, H10, H11⟩
  iapply (go_copy (dst := sT) (fd := f) (fs := fT) (q := qT) (Ss := Finset.univ) (Sd := Finset.univ) hO hsem rfl (show 0 < sT.view.dmaCredit by decide) (Finset.subset_univ _) (Finset.subset_univ _)) $$ [H1 H3 H5 H6 H8]
  · iframe
  iintro ⟨H3, H8, H1, H5, H6⟩
  iapply h
  unfold Keep
  iframe
  isplitl [H8]
  · iapply (Entails.of_eq (congrArg (fun g => tPt (F := F) d L g) (fetch_eq (F := F) fT L f))) $$ H8
  iexists f'
  iframe
  ipureintro
  exact fun p hp => absurd hp (Nat.not_lt_zero _)

/-- One row's fetch. -/
theorem step_row {off : Fin 2 → ℕ} {r n : ℕ} {inb inb' : ∀ a, off a + S1x100000.size a ≤ S1024x100000.size a} {sem : DmaSem sig} {hsrc hdst hsm} {hsrcw hdstw}
    {k : PUnit → Prog (TpuEff nD τ sig (Elt F) Λ₀ (thr d L).2) α} {Q : α → sProp 𝕄}
    (hO : ∀ g, O g none = 0) (hsem : (SemLoc.dma sem : SemLoc sig).isScoped .scVector = true) (hoff : off = ![base L + r, 0])
    (h : StG (F := F) d L fO fT qO qT O W r n ⊢ wp frame (wpE (defs₀ (F := F)) 𝒱₀ (thr d L) none) Set.univ (k ⟨⟩) Q) :
    StR (F := F) d L fO fT qO qT O W n ⊢ wp frame (wpE (defs₀ (F := F)) 𝒱₀ (thr d L) none) Set.univ
      (Prog.lift (.enqueueDma (((aO).slice (Rect.unit (s := S1024x100000) off S1x100000.size inb) (fun _ => rfl)).squeeze S100000 squeezes_S1x100000_S100000)
        (.here sR) (.dma sem) hsrc hdst hsm))
      fun _ => wp frame (wpE (defs₀ (F := F)) 𝒱₀ (thr d L) none) Set.univ
        (Prog.lift (.waitDma2 sem (((aO).slice (Rect.unit (s := S1024x100000) off S1x100000.size inb') (fun _ => rfl)).squeeze S100000 squeezes_S1x100000_S100000)
          sR hsrcw hdstw) >>= k) Q := by
  unfold StG at h
  unfold StR Keep
  iintro ⟨⟨H1, H2, H3, H4, H5, H6⟩, H7, H8, H9, H10, %f, H11⟩
  iapply (go_copy (dst := sR) (fd := f) (fs := fO) (q := qO) (Ss := Finset.univ) (Sd := Finset.univ) hO hsem rfl (show 0 < sR.view.dmaCredit by decide) (Finset.subset_univ _) (Finset.subset_univ _)) $$ [H1 H2 H5 H6 H11]
  · iframe
  iintro ⟨H2, H11, H1, H5, H6⟩
  iapply h
  unfold Keep
  iframe
  iapply (Entails.of_eq (congrArg (fun g => rPt (F := F) d L g) (row_eq (F := F) fO L f hoff))) $$ H11

/-- With every class word made, no row is gathered yet. -/
theorem StM_StR (hz : ∀ p : S32x128.Idx, pos p < 4096) : StM (F := F) d L fO fT qO qT O W 4096 ⊢ StR (F := F) d L fO fT qO qT O W 0 := by
  unfold StM StR
  iintro ⟨H1, H2, H3, ⟨%f, %hf, H4⟩, ⟨%g, H5⟩, H6⟩
  have e : f = hots fT L := funext fun p => hf p (hz p)
  subst e
  iframe
  iexists g
  iframe
  ipureintro
  exact fun p hp => absurd hp (Nat.not_lt_zero _)

/-- With a row gathered, what comes next may begin. -/
theorem StG_StR {r n : ℕ} : StG (F := F) d L fO fT qO qT O W r n ⊢ StR (F := F) d L fO fT qO qT O W n := by
  unfold StG StR
  iintro ⟨H1, H2, H3, H4, H5, H6⟩
  isplitl [H1]; · iexact H1
  isplitl [H2]; · iexact H2
  isplitl [H3]; · iexact H3
  isplitl [H4]; · iexact H4
  isplitl [H5]; · iexact H5
  iexists _
  iexact H6

/-- A staged entry's position is below their number. -/
theorem pos_lt (p : S32x128.Idx) : pos p < 4096 := by
  have h0 : (p 0).val < 32 := (p 0).isLt
  have h1 : (p 1).val < 128 := (p 1).isLt
  unfold pos; omega

/-- The first row's fetch, after the last class words. -/
theorem step_row_first {off : Fin 2 → ℕ} {n : ℕ} {inb inb' : ∀ a, off a + S1x100000.size a ≤ S1024x100000.size a} {sem : DmaSem sig} {hsrc hdst hsm} {hsrcw hdstw}
    {k : PUnit → Prog (TpuEff nD τ sig (Elt F) Λ₀ (thr d L).2) α} {Q : α → sProp 𝕄}
    (hn : n = 4096)
    (hO : ∀ g, O g none = 0) (hsem : (SemLoc.dma sem : SemLoc sig).isScoped .scVector = true) (hoff : off = ![base L + 0, 0])
    (h : StG (F := F) d L fO fT qO qT O W 0 0 ⊢ wp frame (wpE (defs₀ (F := F)) 𝒱₀ (thr d L) none) Set.univ (k ⟨⟩) Q) :
    StM (F := F) d L fO fT qO qT O W n ⊢ wp frame (wpE (defs₀ (F := F)) 𝒱₀ (thr d L) none) Set.univ
      (Prog.lift (.enqueueDma (((aO).slice (Rect.unit (s := S1024x100000) off S1x100000.size inb) (fun _ => rfl)).squeeze S100000 squeezes_S1x100000_S100000)
        (.here sR) (.dma sem) hsrc hdst hsm))
      fun _ => wp frame (wpE (defs₀ (F := F)) 𝒱₀ (thr d L) none) Set.univ
        (Prog.lift (.waitDma2 sem (((aO).slice (Rect.unit (s := S1024x100000) off S1x100000.size inb') (fun _ => rfl)).squeeze S100000 squeezes_S1x100000_S100000)
          sR hsrcw hdstw) >>= k) Q := by
  subst hn
  exact (StM_StR pos_lt).trans (step_row hO hsem hoff h)

/-- A later row's fetch, after the last gather of the row before it. -/
theorem step_row_next {off : Fin 2 → ℕ} {r n : ℕ} {inb inb' : ∀ a, off a + S1x100000.size a ≤ S1024x100000.size a} {sem : DmaSem sig} {hsrc hdst hsm} {hsrcw hdstw}
    {k : PUnit → Prog (TpuEff nD τ sig (Elt F) Λ₀ (thr d L).2) α} {Q : α → sProp 𝕄}
    (hO : ∀ g, O g none = 0) (hsem : (SemLoc.dma sem : SemLoc sig).isScoped .scVector = true) (hoff : off = ![base L + (r + 1), 0])
    (h : StG (F := F) d L fO fT qO qT O W (r + 1) n ⊢ wp frame (wpE (defs₀ (F := F)) 𝒱₀ (thr d L) none) Set.univ (k ⟨⟩) Q) :
    StG (F := F) d L fO fT qO qT O W r n ⊢ wp frame (wpE (defs₀ (F := F)) 𝒱₀ (thr d L) none) Set.univ
      (Prog.lift (.enqueueDma (((aO).slice (Rect.unit (s := S1024x100000) off S1x100000.size inb) (fun _ => rfl)).squeeze S100000 squeezes_S1x100000_S100000)
        (.here sR) (.dma sem) hsrc hdst hsm))
      fun _ => wp frame (wpE (defs₀ (F := F)) 𝒱₀ (thr d L) none) Set.univ
        (Prog.lift (.waitDma2 sem (((aO).slice (Rect.unit (s := S1024x100000) off S1x100000.size inb') (fun _ => rfl)).squeeze S100000 squeezes_S1x100000_S100000)
          sR hsrcw hdstw) >>= k) Q :=
  StG_StR.trans (step_row hO hsem hoff h)

/-! ## The gathers -/

/-- Lane `l` of `x` is the class word at `(r, c + l)`. -/
def IsWord (fT : S1024x128.Idx → BitVec 32) (L : grid0.Coords) (r c : ℕ) (x : S1x16.Idx → BitVec 32) : Prop :=
  (r < 32 ∧ c + 16 ≤ 128) ∧ ∀ l : Fin 16, ∀ p : S32x128.Idx, (p 0).val = r → (p 1).val = c + l.val → x (ix2 (0 : Fin 1) l) = hots fT L p

/-- Lane `l` of `y` is the entry at `(r, c + l)`. -/
def IsGot (fO : S1024x100000.Idx → Elt F .f32) (fT : S1024x128.Idx → BitVec 32) (L : grid0.Coords) (r c : ℕ) (y : S16.Idx → Elt F .f32) : Prop :=
  ∀ l : Fin 16, ∀ p : S32x128.Idx, (p 0).val = r → (p 1).val = c + l.val → y (ix1 l) = gRows fO fT L p

/-- A window that ends at a gather, run for every continuation, then the rest. -/
theorem go_part_got {p : Prog (TpuEff nD τ sig (Elt F) Λ₀ (thr d L).2) (S16.Idx → Elt F .f32)}
    {k : (S16.Idx → Elt F .f32) → Prog (TpuEff nD τ sig (Elt F) Λ₀ (thr d L).2) β} {r c : ℕ}
    {Q : β → sProp 𝕄} {A B : sProp 𝕄}
    (h : ∀ Q' : (S16.Idx → Elt F .f32) → sProp 𝕄, (∀ y, IsGot fO fT L r c y → B ⊢ Q' y) →
      A ⊢ wp frame (wpE (defs₀ (F := F)) 𝒱₀ (thr d L) none) Set.univ p Q')
    (h' : ∀ y, IsGot fO fT L r c y → B ⊢ wp frame (wpE (defs₀ (F := F)) 𝒱₀ (thr d L) none) Set.univ (k y) Q) :
    A ⊢ wp frame (wpE (defs₀ (F := F)) 𝒱₀ (thr d L) none) Set.univ (p >>= k) Q :=
  go_bind (h _ h')

/-- Reading sixteen class words. -/
theorem step_word {r₀ r c n : ℕ} {inb : ∀ a, (![r, c] : Fin 2 → ℕ) a + S1x16.size a ≤ S32x128.size a} {hl}
    {Q : (S1x16.Idx → BitVec 32) → sProp 𝕄}
    (h : ∀ x, IsWord fT L r c x → StG (F := F) d L fO fT qO qT O W r₀ n ⊢ Q x) :
    StG (F := F) d L fO fT qO qT O W r₀ n ⊢ wp frame (wpE (defs₀ (F := F)) 𝒱₀ (thr d L) none) Set.univ
      (Prog.lift (.load sI (Rect.unit (s := S32x128) ![r, c] S1x16.size inb).toLoadRect hl)) Q := by
  have hb : r < 32 ∧ c + 16 ≤ 128 := ⟨inb 0, inb 1⟩
  have h := h _ ⟨hb, fun l p h0 h1 => lanes_read (F := F) (sI).view (hots fT L) inb l p h0 h1⟩
  unfold StG at h ⊢
  unfold Prog.lift
  iintro ⟨H1, H2, H3, H4, H5, H6⟩
  iapply (wp_load 𝒱₀ (thr d L) none Set.univ (m := sI) (S := Finset.univ) (q := fullShare) (f := hots fT L) (Finset.subset_univ _)) $$ H4
  iintro H4
  rw [wp_ret]
  imodintro
  iapply h
  iframe

/-- A load of the gathered entries whose value is not used. -/
theorem step_gold {r₀ r c n : ℕ} {inb : ∀ a, (![r, c] : Fin 2 → ℕ) a + S1x16.size a ≤ S32x128.size a} {hl}
    {Q : (S1x16.Idx → Elt F .f32) → sProp 𝕄}
    (h : ∀ x, StG (F := F) d L fO fT qO qT O W r₀ n ⊢ Q x) :
    StG (F := F) d L fO fT qO qT O W r₀ n ⊢ wp frame (wpE (defs₀ (F := F)) 𝒱₀ (thr d L) none) Set.univ
      (Prog.lift (.load sG (Rect.unit (s := S32x128) ![r, c] S1x16.size inb).toLoadRect hl)) Q := by
  unfold StG at h ⊢
  unfold Prog.lift
  iintro ⟨H1, H2, H3, H4, ⟨%f, %hf, H5⟩, H6⟩
  iapply (wp_load 𝒱₀ (thr d L) none Set.univ (m := sG) (S := Finset.univ) (q := fullShare) (f := f) (Finset.subset_univ _)) $$ H5
  iintro H5
  rw [wp_ret]
  imodintro
  iapply (h _)
  iframe
  iexists f
  isplitr; · ipureintro; exact hf
  iexact H5

/-- Sixteen gathered entries stored. -/
theorem step_gstore {r₀ r c n : ℕ} {inb : ∀ a, (![r, c] : Fin 2 → ℕ) a + S1x16.size a ≤ S32x128.size a} {hx hm}
    {y : S16.Idx → Elt F .f32} {Q : PUnit → sProp 𝕄} (hn : n = 128 * r + c) (hy : IsGot fO fT L r c y)
    (h : StG (F := F) d L fO fT qO qT O W r₀ (128 * r + c + 16) ⊢ Q ⟨⟩) :
    StG (F := F) d L fO fT qO qT O W r₀ n ⊢ wp frame (wpE (defs₀ (F := F)) 𝒱₀ (thr d L) none) Set.univ
      (Prog.lift (.store sG (Rect.unit (s := S32x128) ![r, c] S1x16.size inb) (shapeCast S1x16 y shapeCasts_S16_S1x16) Finset.univ hx hm)) Q := by
  subst hn
  unfold StG at h ⊢
  unfold Prog.lift
  iintro ⟨H1, H2, H3, H4, ⟨%f, %hf, H5⟩, H6⟩
  iapply (wp_store 𝒱₀ (thr d L) none Set.univ (m := sG) (r := Rect.unit (s := S32x128) ![r, c] S1x16.size inb) (S := Finset.univ) (f := f) (Finset.subset_univ _)) $$ H5
  iintro H5
  rw [wp_ret]
  imodintro
  iapply h
  iframe
  iexists _
  isplitr
  · ipureintro
    exact lanes_write (F := F) (sG).view f (gRows fO fT L) inb (shapeCast S1x16 y shapeCasts_S16_S1x16) rfl hf
      fun l p h0 h1 => (shapeCast_a_1a_apply y _ (0 : Fin 1) l).trans (hy l p h0 h1)
  iexact H5

/-- The class words name lanes of a row. -/
theorem chk_words (hM : ∀ p, (hots fT L p).toNat < 100000) {r c : ℕ} {x : S1x16.Idx → BitVec 32} (hx : IsWord fT L r c x) :
    k0_chk1 (shapeCast S16 x shapeCasts_S1x16_S16) := by
  obtain ⟨⟨hr, hc⟩, hx⟩ := hx
  intro a j
  obtain rfl : a = 0 := Subsingleton.elim _ _
  obtain ⟨l, rfl⟩ : ∃ l : Fin 16, j = ix1 l := ⟨j 0, eq_ix1 j⟩
  have e : shapeCast S16 x shapeCasts_S1x16_S16 (ix1 l) = x (ix2 (0 : Fin 1) l) := shapeCast_1a_a_apply x _ l
  have hl : l.val < 16 := l.isLt
  show (shapeCast S16 x shapeCasts_S1x16_S16 (ix1 l)).toNat < 100000
  rw [e, hx l (ix2 (⟨r, hr⟩ : Fin 32) (⟨c + l.val, by omega⟩ : Fin 128)) rfl rfl]
  exact hM _

omit [FloatOps F] [Named F] in
/-- A gather out of a row at class words is the entries there. -/
theorem got_words {f : S100000.Idx → Elt F .f32} (hM : ∀ p, (hots fT L p).toNat < 100000) {r c : ℕ} {x : S1x16.Idx → BitVec 32} (hx : IsWord fT L r c x)
    (hf : f = rowOf fO (rowN L r))
    (h : ∀ a j, ((![shapeCast S16 x shapeCasts_S1x16_S16] : Fin 1 → IVec S16 32) a j).toNat < S100000.size a) :
    IsGot (F := F) fO fT L r c (loadIdx (F := F) (e := .f32) f (![shapeCast S16 x shapeCasts_S1x16_S16] : Fin 1 → IVec S16 32) h) := by
  intro l p h0 h1
  obtain ⟨⟨hr, hc⟩, hx⟩ := hx
  subst hf
  have e : shapeCast S16 x shapeCasts_S1x16_S16 (ix1 l) = x (ix2 (0 : Fin 1) l) := shapeCast_1a_a_apply x _ l
  have hw := (hx l p h0 h1)
  rw [rowN_eq hr]
  have hp : (⟨r, hr⟩ : Fin 32) = p 0 := Fin.ext h0.symm
  rw [hp]
  show rowOf fO (rowAt L (p 0)) _ = rowOf fO (rowAt L (p 0)) _
  congr 1
  funext a
  obtain rfl : a = 0 := Subsingleton.elim _ _
  apply Fin.ext
  show (shapeCast S16 x shapeCasts_S1x16_S16 (ix1 l)).toNat = (hots fT L p).toNat % 100000
  rw [e, hw, Nat.mod_eq_of_lt (hM p)]

/-- A check that holds is passed. -/
theorem step_check {P : Prop} {dec : Decidable P} {A : sProp 𝕄} {Q : PLift P → sProp 𝕄} (hP : P) (h : A ⊢ Q ⟨hP⟩) :
    A ⊢ wp frame (wpE (defs₀ (F := F)) 𝒱₀ (thr d L) none) Set.univ (Prog.lift (TpuEff.assume P dec)) Q := by
  unfold Prog.lift
  rw [wp_assume_of _ _ _ _ hP, wp_ret]
  exact h.trans fupd_intro

/-- Gathering sixteen scores from the staged row. -/
theorem step_gather (hM : ∀ p, (hots fT L p).toNat < 100000) {r c n : ℕ} {x : S1x16.Idx → BitVec 32} (hx : IsWord fT L r c x)
    {hi : ∀ a j, ((![shapeCast S16 x shapeCasts_S1x16_S16] : Fin 1 → IVec S16 32) a j).toNat < S100000.size a} {hl}
    {k : (S16.Idx → Elt F .f32) → Prog (TpuEff nD τ sig (Elt F) Λ₀ (thr d L).2) α} {Q : α → sProp 𝕄}
    (h : ∀ y, IsGot fO fT L r c y → StG (F := F) d L fO fT qO qT O W r n ⊢ wp frame (wpE (defs₀ (F := F)) 𝒱₀ (thr d L) none) Set.univ (k y) Q) :
    StG (F := F) d L fO fT qO qT O W r n ⊢ wp frame (wpE (defs₀ (F := F)) 𝒱₀ (thr d L) none) Set.univ
      (SparseCore.vectorLoadIdx sR (![shapeCast S16 x shapeCasts_S1x16_S16] : Fin 1 → IVec S16 32) hi hl >>= k) Q := by
  have h := h _ (got_words (F := F) (f := (sR.access (.whole S100000)).read (Elt F) (rowOf fO (rowN L r))) hM hx
    (funext fun j => congrArg (rowOf fO (rowN L r)) (funext fun a => Fin.ext (by
      show 0 + 1 * (j a).val = (j a).val; omega))) hi)
  unfold StG at h ⊢
  iintro ⟨H1, H2, H3, H4, H5, H6⟩
  iapply (SparseCore.wp_vectorLoadIdx 𝒱₀ (thr d L) none Set.univ (base := sR) (S := Finset.univ) (q := fullShare) (f := rowOf fO (rowN L r)) (Finset.subset_univ _)) $$ H6
  iintro H6
  iapply h
  iframe

/-! ## The way out -/

/-- What the rows' write leaves. -/
theorem out_eq (fO : S1024x100000.Idx → Elt F .f32) (fT : S1024x128.Idx → BitVec 32) (L : grid0.Coords) (f : S1024x128.Idx → Elt F .f32)
    (i : S1024x128.Idx) (hi : i ∈ outSet L) :
    ((aG).slice (outRect L) (fun _ => rfl)).view.write (Elt F) f (sG.view.read (Elt F) (gRows fO fT L)) Finset.univ i = gAll fO fT i := by
  obtain ⟨p, -, rfl⟩ := Finset.mem_map.mp hi
  refine (View.write_emb_of_mem (v := ((aG).slice (outRect L) (fun _ => rfl)).view) (Val := Elt F) f _ (Finset.mem_univ p)).trans ?_
  have h := k0_off34_eq L
  have e : ∀ a, (((aG).slice (outRect L) (fun _ => rfl)).view.emb p a).val = (ix2 (rowAt L (p 0)) (p 1) a : Fin _).val := fun a => by
    match a with
    | ⟨0, _⟩ =>
      have h0 : k0_off34 L 0 = 64 * (L 1).val + 32 * (L 0).val := congrFun h 0
      show k0_off34 L 0 + 1 * (p 0).val = base L + (p 0).val
      unfold base; omega
    | ⟨1, _⟩ =>
      have h1 : k0_off34 L 1 = 0 := congrFun h 1
      show k0_off34 L 1 + 1 * (p 1).val = (p 1).val
      omega
  have e' : ((aG).slice (outRect L) (fun _ => rfl)).view.emb p = ix2 (rowAt L (p 0)) (p 1) := funext fun a => Fin.ext (e a)
  show gRows fO fT L p = gAll fO fT (((aG).slice (outRect L) (fun _ => rfl)).view.emb p)
  rw [e']
  rfl

/-- The rows written back. -/
theorem step_out {r n : ℕ} {sem : DmaSem sig} {hsrc hdst hsm} {hsrcw hdstw}
    {k : PUnit → Prog (TpuEff nD τ sig (Elt F) Λ₀ (thr d L).2) α} {Q : α → sProp 𝕄}
    (hn : n = 4096)
    (hO : ∀ g, O g none = 0) (hsem : (SemLoc.dma sem : SemLoc sig).isScoped .scVector = true)
    (h : StE (F := F) d L fO fT qO qT O W ⊢ wp frame (wpE (defs₀ (F := F)) 𝒱₀ (thr d L) none) Set.univ (k ⟨⟩) Q) :
    StG (F := F) d L fO fT qO qT O W r n ⊢ wp frame (wpE (defs₀ (F := F)) 𝒱₀ (thr d L) none) Set.univ
      (Prog.lift (.enqueueDma sG (.here ((aG).slice (outRect L) (fun _ => rfl))) (.dma sem) hsrc hdst hsm))
      fun _ => wp frame (wpE (defs₀ (F := F)) 𝒱₀ (thr d L) none) Set.univ
        (Prog.lift (.waitDma2 sem sG ((aG).slice (outRect L) (fun _ => rfl)) hsrcw hdstw) >>= k) Q := by
  subst hn
  unfold StE at h
  unfold StG Keep
  iintro ⟨⟨H1, H2, H3, H4, H5, H6⟩, ⟨%fo, H7⟩, H8, H9, ⟨%f, %hf, H10⟩, H11⟩
  have e : f = gRows fO fT L := funext fun p => hf p (pos_lt p)
  subst e
  iapply (go_copy (d := d) (L := L) (dst := (aG).slice (outRect L) (fun _ => rfl)) (fd := fo) (fs := gRows fO fT L) (q := fullShare) (Ss := Finset.univ) (Sd := outSet L) hO hsem rfl
    (show 0 < sG.view.dmaCredit by decide) (Finset.subset_univ _) (Finset.Subset.refl _)) $$ [H1 H5 H6 H7 H10]
  · iframe
  iintro ⟨H10, H7, H1, H5, H6⟩
  iapply h
  unfold Keep
  iframe
  isplitl [H7]; · iapply (Entails.of_eq (pointsTo_congr fun i hi => out_eq (F := F) fO fT L fo i hi)) $$ H7
  isplitl [H8]; · iexists _; iexact H8
  isplitl [H9]; · iexists _; iexact H9
  isplitl [H10]; · iexists _; iexact H10
  iexists _; iexact H11

end Steps

attribute [irreducible] St0 StM StG StR StE IsLab IsWord IsGot

end Cert.Proof.Nll

end
-- ==== Proof.TileRun.lean ====
/-
  One vector subcore's task run through: its program is cut into windows, and each effect of each window is one of the
  steps.
-/
module

public import proofs.«01_k».proof.Proof.Tile

@[expose] public section

noncomputable section

namespace Cert.Proof.Nll

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MM F

section Run

variable {d : Dev nD} {L : grid0.Coords}
variable {fO : S1024x100000.Idx → Elt F .f32} {fT : S1024x128.Idx → BitVec 32}
variable {qO qT : PosShare TreeShare}
variable {O : CellTallies nD τ sig (HIx 1)} {W : Waits sig (HIx 1)}

set_option maxRecDepth 65536 in
set_option maxHeartbeats 40000000 in
/-- The first windows: the labels' fetch and the class words of the rows from the first. -/
theorem part150_run (hO : ∀ g, O g none = 0) {Q : BitVec 32 → sProp 𝕄}
    (h : ∀ v, StM (F := F) d L fO fT qO qT O W 2864 ⊢ Q v) :
    St0 (F := F) d L fO fT qO qT O W ⊢ wp frame (wpE (defs₀ (F := F)) 𝒱₀ (thr d L) none) Set.univ
      (k0_part150 (F := F) L aO (Memref.isWhole_whole _) aT (Memref.isWhole_whole _) aG (Memref.isWhole_whole _) sT (Memref.isWhole_whole _)
        sI (Memref.isWhole_whole _) sG (Memref.isWhole_whole _) sR (Memref.isWhole_whole _) cc0_scoped0 cc0_scoped1 cc0_scoped2 cc0_scoped3
        cc0_scoped4 cc0_scoped5 cc0_scoped6 cc0_scoped7 cc0_scoped8 cc0_scoped9 cc0_scoped10 cc0_scoped11 cc0_scoped12 cc0_scoped13
        cc0_scoped14 cc0_scoped15 cc0_scoped16 cc0_scoped17 cc0_scoped18 cc0_scoped19 cc0_scoped20 cc0_scoped21 cc0_scoped22 cc0_scoped23
        cc0_scoped24 cc0_scoped25 cc0_scoped26 cc0_scoped27 cc0_scoped28 cc0_scoped29 cc0_scoped30 cc0_scoped31 cc0_scoped32 cc0_scoped33) Q := by
  apply go_part
  · intro Q' h'
    refine go_bind ?_
    refine step_fetch hO (by decide) ?_
    iterate 2
      refine go_bind (step_labels fun x hx => ?_)
      refine go_bind (step_old fun _ => ?_)
      refine go_bind (step_words rfl (pay_words hx) ?_)
      clear hx x
    exact go_pure (h' _)
  intro v2
  iterate 59
    apply go_part
    · intro Q' h'
      iterate 3
        refine go_bind (step_labels fun x hx => ?_)
        refine go_bind (step_old fun _ => ?_)
        refine go_bind (step_words rfl (pay_words hx) ?_)
        clear hx x
      exact go_pure (h' _)
    intro _
  exact go_pure (h _)

set_option maxRecDepth 65536 in
set_option maxHeartbeats 40000000 in
/-- The next windows: the rest of the class words, and the rows' gathers from the first. -/
theorem part151_run (hO : ∀ g, O g none = 0) (hM : ∀ p, (hots fT L p).toNat < 100000) (v2 : BitVec 32) {Q : (S16.Idx → Elt F .f32) → sProp 𝕄}
    (h : ∀ y, IsGot fO fT L 17 0 y → StG (F := F) d L fO fT qO qT O W 17 2176 ⊢ Q y) :
    StM (F := F) d L fO fT qO qT O W 2864 ⊢ wp frame (wpE (defs₀ (F := F)) 𝒱₀ (thr d L) none) Set.univ
      (k0_part151 (F := F) L aO (Memref.isWhole_whole _) aT (Memref.isWhole_whole _) aG (Memref.isWhole_whole _) sT (Memref.isWhole_whole _)
        sI (Memref.isWhole_whole _) sG (Memref.isWhole_whole _) sR (Memref.isWhole_whole _) cc0_scoped0 cc0_scoped1 cc0_scoped2 cc0_scoped3
        cc0_scoped4 cc0_scoped5 cc0_scoped6 cc0_scoped7 cc0_scoped8 cc0_scoped9 cc0_scoped10 cc0_scoped11 cc0_scoped12 cc0_scoped13
        cc0_scoped14 cc0_scoped15 cc0_scoped16 cc0_scoped17 cc0_scoped18 cc0_scoped19 cc0_scoped20 cc0_scoped21 cc0_scoped22 cc0_scoped23
        cc0_scoped24 cc0_scoped25 cc0_scoped26 cc0_scoped27 cc0_scoped28 cc0_scoped29 cc0_scoped30 cc0_scoped31 cc0_scoped32 cc0_scoped33 v2) Q := by
  iterate 25
    apply go_part
    · intro Q' h'
      iterate 3
        refine go_bind (step_labels fun x hx => ?_)
        refine go_bind (step_old fun _ => ?_)
        refine go_bind (step_words rfl (pay_words hx) ?_)
        clear hx x
      exact go_pure (h' _)
    intro _
  apply go_part_got
  · intro Q' h'
    iterate 2
      refine go_bind (step_labels fun x hx => ?_)
      refine go_bind (step_old fun _ => ?_)
      refine go_bind (step_words rfl (pay_words hx) ?_)
      clear hx x
    refine go_bind (step_row_first rfl hO (by decide) (by exact ClosedOff.eq) ?_)
    refine go_bind (step_word fun x hx => ?_)
    refine go_bind (step_check (chk_words hM hx) ?_)
    refine step_gather hM hx (hl := View.loads_vmem h_S100000) (k := Prog.ret) fun y hy => ?_
    clear hx x
    exact go_pure (h' _ hy)
  intro y hy
  iterate 16
    apply go_part
    · intro Q' h'
      refine go_bind (step_gold fun _ => ?_)
      refine go_bind (step_gstore rfl hy ?_)
      iterate 4
        refine go_bind (step_word fun x hx => ?_)
        refine go_bind (step_check (chk_words hM hx) ?_)
        refine step_gather hM hx fun y hy => ?_
        clear hx x
        refine go_bind (step_gold fun _ => ?_)
        refine go_bind (step_gstore rfl hy ?_)
        clear hy y
      exact go_pure (h' _)
    intro _
    apply go_part_got
    · intro Q' h'
      iterate 3
        refine go_bind (step_word fun x hx => ?_)
        refine go_bind (step_check (chk_words hM hx) ?_)
        refine step_gather hM hx fun y hy => ?_
        clear hx x
        refine go_bind (step_gold fun _ => ?_)
        refine go_bind (step_gstore rfl hy ?_)
        clear hy y
      refine go_bind (step_row_next hO (by decide) (by exact ClosedOff.eq) ?_)
      refine go_bind (step_word fun x hx => ?_)
      refine go_bind (step_check (chk_words hM hx) ?_)
      refine step_gather hM hx (hl := View.loads_vmem h_S100000) (k := Prog.ret) fun y hy => ?_
      clear hx x
      exact go_pure (h' _ hy)
    intro y hy
  apply go_part
  · intro Q' h'
    refine go_bind (step_gold fun _ => ?_)
    refine go_bind (step_gstore rfl hy ?_)
    iterate 4
      refine go_bind (step_word fun x hx => ?_)
      refine go_bind (step_check (chk_words hM hx) ?_)
      refine step_gather hM hx fun y hy => ?_
      clear hx x
      refine go_bind (step_gold fun _ => ?_)
      refine go_bind (step_gstore rfl hy ?_)
      clear hy y
    exact go_pure (h' _)
  intro _
  iterate 3
    refine go_bind (step_word fun x hx => ?_)
    refine go_bind (step_check (chk_words hM hx) ?_)
    refine step_gather hM hx fun y hy => ?_
    clear hx x
    refine go_bind (step_gold fun _ => ?_)
    refine go_bind (step_gstore rfl hy ?_)
    clear hy y
  refine go_bind (step_row_next hO (by decide) (by exact ClosedOff.eq) ?_)
  refine go_bind (step_word fun x hx => ?_)
  refine go_bind (step_check (chk_words hM hx) ?_)
  refine step_gather hM hx (hl := View.loads_vmem h_S100000) (k := Prog.ret) fun y hy => ?_
  clear hx x
  exact go_pure (h _ hy)

set_option maxRecDepth 65536 in
set_option maxHeartbeats 40000000 in
/-- The last windows: the gathers of the rest of the rows. -/
theorem part152_run (hO : ∀ g, O g none = 0) (hM : ∀ p, (hots fT L p).toNat < 100000) (v2 : BitVec 32) {y : S16.Idx → Elt F .f32} (hy : IsGot fO fT L 17 0 y)
    {Q : (S16.Idx → Elt F .f32) → sProp 𝕄}
    (h : ∀ y, IsGot fO fT L 31 112 y → StG (F := F) d L fO fT qO qT O W 31 4080 ⊢ Q y) :
    StG (F := F) d L fO fT qO qT O W 17 2176 ⊢ wp frame (wpE (defs₀ (F := F)) 𝒱₀ (thr d L) none) Set.univ
      (k0_part152 (F := F) L aO (Memref.isWhole_whole _) aT (Memref.isWhole_whole _) aG (Memref.isWhole_whole _) sT (Memref.isWhole_whole _)
        sI (Memref.isWhole_whole _) sG (Memref.isWhole_whole _) sR (Memref.isWhole_whole _) cc0_scoped0 cc0_scoped1 cc0_scoped2 cc0_scoped3
        cc0_scoped4 cc0_scoped5 cc0_scoped6 cc0_scoped7 cc0_scoped8 cc0_scoped9 cc0_scoped10 cc0_scoped11 cc0_scoped12 cc0_scoped13
        cc0_scoped14 cc0_scoped15 cc0_scoped16 cc0_scoped17 cc0_scoped18 cc0_scoped19 cc0_scoped20 cc0_scoped21 cc0_scoped22 cc0_scoped23
        cc0_scoped24 cc0_scoped25 cc0_scoped26 cc0_scoped27 cc0_scoped28 cc0_scoped29 cc0_scoped30 cc0_scoped31 cc0_scoped32 cc0_scoped33 v2 y) Q := by
  iterate 14
    apply go_part
    · intro Q' h'
      refine go_bind (step_gold fun _ => ?_)
      refine go_bind (step_gstore rfl hy ?_)
      iterate 4
        refine go_bind (step_word fun x hx => ?_)
        refine go_bind (step_check (chk_words hM hx) ?_)
        refine step_gather hM hx fun y hy => ?_
        clear hx x
        refine go_bind (step_gold fun _ => ?_)
        refine go_bind (step_gstore rfl hy ?_)
        clear hy y
      exact go_pure (h' _)
    intro _
    apply go_part_got
    · intro Q' h'
      iterate 3
        refine go_bind (step_word fun x hx => ?_)
        refine go_bind (step_check (chk_words hM hx) ?_)
        refine step_gather hM hx fun y hy => ?_
        clear hx x
        refine go_bind (step_gold fun _ => ?_)
        refine go_bind (step_gstore rfl hy ?_)
        clear hy y
      refine go_bind (step_row_next hO (by decide) (by exact ClosedOff.eq) ?_)
      refine go_bind (step_word fun x hx => ?_)
      refine go_bind (step_check (chk_words hM hx) ?_)
      refine step_gather hM hx (hl := View.loads_vmem h_S100000) (k := Prog.ret) fun y hy => ?_
      clear hx x
      exact go_pure (h' _ hy)
    intro y hy
  apply go_part
  · intro Q' h'
    refine go_bind (step_gold fun _ => ?_)
    refine go_bind (step_gstore rfl hy ?_)
    iterate 4
      refine go_bind (step_word fun x hx => ?_)
      refine go_bind (step_check (chk_words hM hx) ?_)
      refine step_gather hM hx fun y hy => ?_
      clear hx x
      refine go_bind (step_gold fun _ => ?_)
      refine go_bind (step_gstore rfl hy ?_)
      clear hy y
    exact go_pure (h' _)
  intro _
  iterate 2
    refine go_bind (step_word fun x hx => ?_)
    refine go_bind (step_check (chk_words hM hx) ?_)
    refine step_gather hM hx fun y hy => ?_
    clear hx x
    refine go_bind (step_gold fun _ => ?_)
    refine go_bind (step_gstore rfl hy ?_)
    clear hy y
  refine go_bind (step_word fun x hx => ?_)
  refine go_bind (step_check (chk_words hM hx) ?_)
  refine step_gather hM hx (hl := View.loads_vmem h_S100000) (k := Prog.ret) fun y hy => ?_
  clear hx x
  exact go_pure (h _ hy)

set_option maxRecDepth 65536 in
set_option maxHeartbeats 40000000 in
/-- The whole task. -/
theorem body_run (hO : ∀ g, O g none = 0) (hM : ∀ p, (hots fT L p).toNat < 100000) {Q : PUnit → sProp 𝕄}
    (h : StE (F := F) d L fO fT qO qT O W ⊢ Q ⟨⟩) :
    St0 (F := F) d L fO fT qO qT O W ⊢ wp frame (wpE (defs₀ (F := F)) 𝒱₀ (thr d L) none) Set.univ
      (cc0__sc_gather_body (F := F) L aO (Memref.isWhole_whole _) aT (Memref.isWhole_whole _) aG (Memref.isWhole_whole _) sT (Memref.isWhole_whole _)
        sI (Memref.isWhole_whole _) sG (Memref.isWhole_whole _) sR (Memref.isWhole_whole _) cc0_scoped0 cc0_scoped1 cc0_scoped2 cc0_scoped3
        cc0_scoped4 cc0_scoped5 cc0_scoped6 cc0_scoped7 cc0_scoped8 cc0_scoped9 cc0_scoped10 cc0_scoped11 cc0_scoped12 cc0_scoped13
        cc0_scoped14 cc0_scoped15 cc0_scoped16 cc0_scoped17 cc0_scoped18 cc0_scoped19 cc0_scoped20 cc0_scoped21 cc0_scoped22 cc0_scoped23
        cc0_scoped24 cc0_scoped25 cc0_scoped26 cc0_scoped27 cc0_scoped28 cc0_scoped29 cc0_scoped30 cc0_scoped31 cc0_scoped32 cc0_scoped33) Q := by
  refine go_bind (part150_run hO fun v2 => ?_)
  refine go_bind (part151_run hO hM v2 fun y hy => ?_)
  refine go_bind (part152_run hO hM v2 hy fun y hy => ?_)
  refine go_bind (step_gold fun _ => ?_)
  refine go_bind (step_gstore rfl hy ?_)
  refine go_bind (step_out rfl hO (by decide) ?_)
  exact go_pure h

end Run

end Cert.Proof.Nll

end
-- ==== Proof.TileObl.lean ====
/-
  The vector subcores' task as the launch theorem asks for it, and what the one SparseCore call takes and brings back:
  each subcore a read share of the scores and of the labels and its own 32 rows of the result.
-/
module

public import proofs.«01_k».proof.Proof.TileRun

@[expose] public section

noncomputable section

namespace Cert.Proof.Nll

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MM F

/-! ## The task -/

section Task

variable (d : Dev nD) (L : grid0.Coords)
variable (fO : S1024x100000.Idx → Elt F .f32) (fT : S1024x128.Idx → BitVec 32)
variable (qO qT : PosShare TreeShare)
variable (O : CellTallies nD τ sig (HIx 1)) (W : Waits sig (HIx 1))

/-- The four scratches are among the subcore's own buffers. -/
theorem ownBufs_tile :
    (ownBufs (thr d L) : sProp 𝕄)
      = iprop((∃ f, tPt d L f) ∗ (∃ f, iPt d L f) ∗ (∃ f, gPt d L f) ∗ (∃ f, rPt d L f) ∗ restBufs d L) := by
  unfold SparseCore.Cfg.ownBufs restBufs
  have own (r : Ref sig .scVector) (h : ((Proc.scVector (cV L) (jV L)).devRef r).owner = .proc (Proc.scVector (cV L) (jV L))) :=
    SparseCore.Cfg.mem_ownRefs_of_owner (p := Proc.scVector (cV L) (jV L)) (b := (Proc.scVector (cV L) (jV L)).devRef r) h
  have ne {r r' : Ref sig .scVector} (h : r ≠ r') : (Proc.scVector (cV L) (jV L)).devRef r ≠ (Proc.scVector (cV L) (jV L)).devRef r' :=
    fun e => h (Proc.devRef_injective _ e)
  refine (SparseCore.bigSep_erase' (own cc0_scratch0 rfl)).trans ?_
  rw [SparseCore.bigSep_erase' (Finset.mem_erase.mpr ⟨ne (show cc0_scratch1 ≠ cc0_scratch0 by decide), own cc0_scratch1 rfl⟩),
    SparseCore.bigSep_erase' (Finset.mem_erase.mpr ⟨ne (show cc0_scratch2 ≠ cc0_scratch1 by decide), Finset.mem_erase.mpr
      ⟨ne (show cc0_scratch2 ≠ cc0_scratch0 by decide), own cc0_scratch2 rfl⟩⟩),
    SparseCore.bigSep_erase' (Finset.mem_erase.mpr ⟨ne (show cc0_scratch3 ≠ cc0_scratch2 by decide), Finset.mem_erase.mpr
      ⟨ne (show cc0_scratch3 ≠ cc0_scratch1 by decide), Finset.mem_erase.mpr
      ⟨ne (show cc0_scratch3 ≠ cc0_scratch0 by decide), own cc0_scratch3 rfl⟩⟩⟩)]

/-- The task, from what the call hands it to what it brings back. -/
theorem tile_body (hO : ∀ g, O g none = 0) (hM : ∀ p, (hots fT L p).toNat < 100000) :
    iprop(levAts (K (F := F)).L (K (F := F)).lev ∗ ((oLoc d ↦{qO} fO) ∗ (tLoc d ↦{qT} fT) ∗ ∃ f, oPt d L f)
        ∗ scopedBufs (thr d L) ∗ scopedSems0 (thr d L) ∗ owes (thr d L) O W)
      ⊢ wp frame (wpE (defs₀ (F := F)) 𝒱₀ (thr d L) none) Set.univ
          (cc0__sc_gather_body (F := F) L aO (Memref.isWhole_whole _) aT (Memref.isWhole_whole _) aG (Memref.isWhole_whole _) sT (Memref.isWhole_whole _)
            sI (Memref.isWhole_whole _) sG (Memref.isWhole_whole _) sR (Memref.isWhole_whole _) cc0_scoped0 cc0_scoped1 cc0_scoped2 cc0_scoped3
            cc0_scoped4 cc0_scoped5 cc0_scoped6 cc0_scoped7 cc0_scoped8 cc0_scoped9 cc0_scoped10 cc0_scoped11 cc0_scoped12 cc0_scoped13
            cc0_scoped14 cc0_scoped15 cc0_scoped16 cc0_scoped17 cc0_scoped18 cc0_scoped19 cc0_scoped20 cc0_scoped21 cc0_scoped22 cc0_scoped23
            cc0_scoped24 cc0_scoped25 cc0_scoped26 cc0_scoped27 cc0_scoped28 cc0_scoped29 cc0_scoped30 cc0_scoped31 cc0_scoped32 cc0_scoped33)
          fun _ => iprop(((oLoc d ↦{qO} fO) ∗ (tLoc d ↦{qT} fT) ∗ oPt d L (gAll fO fT)) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownBufs_tile]
  refine (show _ ⊢ St0 (F := F) d L fO fT qO qT O W from ?_).trans (body_run (F := F) (d := d) (L := L) (fO := fO) (fT := fT) (qO := qO) (qT := qT) (O := O) (W := W) hO hM ?_)
  · unfold St0 Keep
    iintro ⟨H1, ⟨H2, H3, H4⟩, ⟨H5, H6, H7, H8, H9⟩, H10, H11⟩
    iframe
    iexists W
    isplitr; · ipureintro; exact fun p hp => Or.inl hp
    iexact H11
  · unfold StE Keep
    iintro ⟨⟨-, H2, H3, H4, H5, H6⟩, H7, H8, H9, H10, H11⟩
    iframe

end Task

/-! ## What the call takes and brings back -/

/-- The coordinates of the subcore `s` of core `c`. -/
def crd (c : Fin (grid0.bound 0)) (s : Fin (grid0.bound 1)) : grid0.Coords :=
  fun | 0 => c | 1 => s | ⟨_ + 2, h⟩ => absurd h (Nat.not_lt.2 (Nat.le_add_left _ _))

/-- The number of the subcore among the 32. -/
def wid (c : Fin (grid0.bound 0)) (s : Fin (grid0.bound 1)) : Fin 32 :=
  ⟨2 * s.val + c.val, by have := show c.val < 2 from c.isLt; have := show s.val < 16 from s.isLt; omega⟩

section Call

variable (fO : Dev nD → S1024x100000.Idx → Elt F .f32) (fT : Dev nD → S1024x128.Idx → BitVec 32)

/-- What the subcore takes. -/
abbrev goV (d : Dev nD) (c : Fin (grid0.bound 0)) (s : Fin (grid0.bound 1)) : sProp 𝕄 :=
  iprop((oLoc d ↦{Transfers.shareTok fullShare 32 (wid c s)} fO d) ∗ (tLoc d ↦{Transfers.shareTok fullShare 32 (wid c s)} fT d) ∗ ∃ f, oPt d (crd c s) f)

/-- What it brings back. -/
abbrev tdV (d : Dev nD) (c : Fin (grid0.bound 0)) (s : Fin (grid0.bound 1)) : sProp 𝕄 :=
  iprop((oLoc d ↦{Transfers.shareTok fullShare 32 (wid c s)} fO d) ∗ (tLoc d ↦{Transfers.shareTok fullShare 32 (wid c s)} fT d) ∗ oPt d (crd c s) (gAll (fO d) (fT d)))

/-- The call: each core takes what its sixteen subcores take. -/
def P : (K (F := F)).Pay (nD := nD) (Val := Elt F) (Name := ℕ) (U := UU) where
  st := fun q d c => match q with | 0 => bigSep Finset.univ fun i : Fin (grid0.bound 1) => goV fO fT d c i
  dn := fun q d c => match q with | 0 => bigSep Finset.univ fun i : Fin (grid0.bound 1) => tdV fO fT d c i
  go := fun q d c i => match q with | 0 => goV fO fT d c i
  td := fun q d c i => match q with | 0 => tdV fO fT d c i
  x := fun _ _ => iprop(emp)

/-- What the handshakes carry can be stored. -/
instance P_storable : (P fO fT).IsStorable where
  st q d c := match q with
    | 0 => (inferInstance : BI.Storable (upEmb : UEmb _ 𝕄) (bigSep Finset.univ fun i : Fin (grid0.bound 1) => goV fO fT d c i))
  dn q d c := match q with
    | 0 => (inferInstance : BI.Storable (upEmb : UEmb _ 𝕄) (bigSep Finset.univ fun i : Fin (grid0.bound 1) => tdV fO fT d c i))
  go q d c i := match q with
    | 0 => (inferInstance : BI.Storable (upEmb : UEmb _ 𝕄) (goV fO fT d c i))
  td q d c i := match q with
    | 0 => (inferInstance : BI.Storable (upEmb : UEmb _ 𝕄) (tdV fO fT d c i))

/-- The task's program on the subcore at `L`. -/
def bodyAt (L : grid0.Coords) :=
  cc0__sc_gather_body (F := F) L aO (Memref.isWhole_whole _) aT (Memref.isWhole_whole _) aG (Memref.isWhole_whole _) sT (Memref.isWhole_whole _)
            sI (Memref.isWhole_whole _) sG (Memref.isWhole_whole _) sR (Memref.isWhole_whole _) cc0_scoped0 cc0_scoped1 cc0_scoped2 cc0_scoped3
            cc0_scoped4 cc0_scoped5 cc0_scoped6 cc0_scoped7 cc0_scoped8 cc0_scoped9 cc0_scoped10 cc0_scoped11 cc0_scoped12 cc0_scoped13
            cc0_scoped14 cc0_scoped15 cc0_scoped16 cc0_scoped17 cc0_scoped18 cc0_scoped19 cc0_scoped20 cc0_scoped21 cc0_scoped22 cc0_scoped23
            cc0_scoped24 cc0_scoped25 cc0_scoped26 cc0_scoped27 cc0_scoped28 cc0_scoped29 cc0_scoped30 cc0_scoped31 cc0_scoped32 cc0_scoped33

/-- The subcore's body is the task proved. -/
theorem defs₀_tile (c : Fin τ.nSC) (s : Fin τ.nSub) :
    defs₀ (F := F) (.scVector c s) 0 ()
      = SparseCore.onTile hcore0 hsub0 (fun c s =>
          bodyAt (F := F) (crd c s)) ⟨⟩ c s := rfl

/-- A run under a weaker start and a stronger end. -/
theorem wp_post {t : Thread nD τ} {A B : sProp 𝕄} {X} {Q Q' : PUnit → sProp 𝕄} (hQ : ∀ x, Q x ⊢ Q' x) (hA : A ⊢ B)
    (h : B ⊢ wp Idealize.ShloMosaic.frame (wpE (defs₀ (F := F)) 𝒱₀ t none) Set.univ X Q) :
    A ⊢ wp Idealize.ShloMosaic.frame (wpE (defs₀ (F := F)) 𝒱₀ t none) Set.univ X Q' :=
  hA.trans (h.trans (wp_mono frame _ _ hQ))

/-- The task at its share of the call. -/
theorem task_body (hM : ∀ d p, (hot (fT d p)).toNat < 100000) (d : Dev nD) (c : Fin (grid0.bound 0)) (s : Fin (grid0.bound 1))
    (O : CellTallies nD τ sig (HIx 1)) (W : Waits sig (HIx 1)) (hO : ∀ g, O g none = 0) :
    iprop(levAts (K (F := F)).L (K (F := F)).lev ∗ emp ∗ goV fO fT d c s
        ∗ scopedBufs (thr d (crd c s)) ∗ scopedSems0 (thr d (crd c s)) ∗ owes (thr d (crd c s)) O W)
      ⊢ wp frame (wpE (defs₀ (F := F)) 𝒱₀ (thr d (crd c s)) none) Set.univ
          (bodyAt (crd c s))
          fun _ => iprop(tdV fO fT d c s ∗ scopedBufs (thr d (crd c s)) ∗ scopedSems0 (thr d (crd c s))
            ∗ ∃ W', ⌜∀ p ∈ W', p ∈ W ∨ p.2 = none⌝ ∗ owes (thr d (crd c s)) O W') := by
  have hM' : ∀ p, (hots (fT d) (crd c s) p).toNat < 100000 := by
    intro p; unfold hots; exact hM d _
  unfold bodyAt
  have h := tile_body d (crd c s) (fO d) (fT d) (Transfers.shareTok fullShare 32 (wid c s)) (Transfers.shareTok fullShare 32 (wid c s)) O W hO hM'
  refine wp_post ?_ ?_ h
  · exact fun _ => BI.Entails.refl _
  iintro ⟨H0, -, H1, H2⟩
  isplitl [H0]; · iexact H0
  isplitl [H1]; · iexact H1
  iexact H2

/-- The waits a task records are among those its handshake allows. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  iframe
  iexists W'; isplitr
  · ipureintro; exact fun p hp => (hW' p hp).imp_right Or.inl
  · iexact HO

attribute [local irreducible] bodyAt in
/-- Every subcore's task meets its obligation, when every label names a class. -/
theorem tileObl (hM : ∀ d p, (hot (fT d p)).toNat < 100000) : (K (F := F)).TileObl (D (F := F)) 𝒱 (P fO fT) v₀ 0 := by
  intro d c i O W hO _ _
  simp only [show (P fO fT).ox = fun _ _ => 0 from rfl, show (P fO fT).x = fun _ _ => iprop(emp) from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  have h := task_body fO fT hM d ⟨_, hc.1⟩ ⟨_, hc.2⟩ O W hO
  refine wp_post ?_ ?_ h
  · exact fun _ => obl_post
  · exact BI.Entails.refl _

/-- The operands split among the subcores and join again. -/
theorem vecSplit : (K (F := F)).VecSplit' (P fO fT) 0 := by
  intro d c
  show (bigSep Finset.univ fun i : Fin (grid0.bound 1) => goV fO fT d c i) ⊢ |={Set.univ}=> iprop(
    (bigSep Finset.univ fun i : Fin (grid0.bound 1) => goV fO fT d c i)
      ∗ ((bigSep Finset.univ fun i : Fin (grid0.bound 1) => tdV fO fT d c i) -∗ bigSep Finset.univ fun i : Fin (grid0.bound 1) => tdV fO fT d c i))
  iintro H; imodintro
  isplitl [H]; · iexact H
  iintro H; iexact H

/-! ## The arrays as the 32 subcores' parts -/

/-- A subcore's part is its thirty-two rows. -/
theorem mem_outSet (L : grid0.Coords) (i : S1024x128.Idx) : i ∈ outSet L ↔ base L ≤ (i 0).val ∧ (i 0).val < base L + 32 := by
  unfold outSet
  rw [show ((aG).slice (outRect L) (fun _ => rfl)).view.set = (outRect L).set from by
    show ((View.whole (main_v2_scv : Ref sig .scVector)).slice (outRect L)).set = _
    rw [View.set_slice]; exact Finset.map_refl]
  rw [Rect.mem_set_unit]
  have h1 : (i 1).val < 128 := (i 1).isLt
  have e0 : k0_off34 L 0 = base L := congrFun (k0_off34_eq L) 0
  have e1 : k0_off34 L 1 = 0 := congrFun (k0_off34_eq L) 1
  constructor
  · intro h
    have := h 0
    rw [e0] at this
    exact this
  · intro h a
    match a with
    | ⟨0, _⟩ => show k0_off34 L 0 ≤ (i 0).val ∧ (i 0).val < k0_off34 L 0 + 32; rw [e0]; exact h
    | ⟨1, _⟩ => show k0_off34 L 1 ≤ (i 1).val ∧ (i 1).val < k0_off34 L 1 + 128; rw [e1]; exact ⟨Nat.zero_le _, by omega⟩

/-- The 32 subcores as the pairs of a core and a subcore of it. -/
def pairs : Fin (grid0.bound 0) × Fin (grid0.bound 1) ≃ Fin 32 where
  toFun p := wid p.1 p.2
  invFun w := (⟨w.val % 2, show _ < 2 from Nat.mod_lt _ (by decide)⟩, ⟨w.val / 2, show _ < 16 by have := w.isLt; omega⟩)
  left_inv p := by
    have h : p.1.val < 2 := p.1.isLt
    refine Prod.ext (Fin.ext ?_) (Fin.ext ?_)
    · show (2 * p.2.val + p.1.val) % 2 = p.1.val; omega
    · show (2 * p.2.val + p.1.val) / 2 = p.2.val; omega
  right_inv w := Fin.ext (show 2 * (w.val / 2) + w.val % 2 = w.val by omega)

/-- A subcore's first row from its number. -/
theorem base_crd (c : Fin (grid0.bound 0)) (s : Fin (grid0.bound 1)) : base (crd c s) = 32 * (wid c s).val := by
  show 64 * s.val + 32 * c.val = 32 * (2 * s.val + c.val); omega

/-- Different subcores write different rows. -/
theorem out_disjoint : ∀ p ∈ (Finset.univ : Finset (Fin (grid0.bound 0) × Fin (grid0.bound 1))), ∀ p' ∈ (Finset.univ : Finset (Fin (grid0.bound 0) × Fin (grid0.bound 1))),
    p ≠ p' → Disjoint (outSet (crd p.1 p.2)) (outSet (crd p'.1 p'.2)) := by
  intro p _ p' _ hne
  refine Finset.disjoint_left.mpr fun i h h' => hne (pairs.injective (Fin.ext ?_))
  rw [mem_outSet, base_crd] at h h'
  show (wid p.1 p.2).val = (wid p'.1 p'.2).val
  omega

/-- Together they write every row. -/
theorem out_cover : (Finset.univ : Finset (Fin (grid0.bound 0) × Fin (grid0.bound 1))).biUnion (fun p => outSet (crd p.1 p.2)) = Finset.univ := by
  refine Finset.eq_univ_iff_forall.mpr fun i => ?_
  have hi : (i 0).val < 1024 := (i 0).isLt
  refine Finset.mem_biUnion.mpr ⟨pairs.symm ⟨(i 0).val / 32, by omega⟩, Finset.mem_univ _, ?_⟩
  rw [mem_outSet, base_crd, show wid (pairs.symm ⟨(i 0).val / 32, by omega⟩).1 (pairs.symm ⟨(i 0).val / 32, by omega⟩).2
    = (⟨(i 0).val / 32, by omega⟩ : Fin 32) from pairs.apply_symm_apply _]
  show 32 * ((i 0).val / 32) ≤ (i 0).val ∧ (i 0).val < 32 * ((i 0).val / 32) + 32
  omega

/-- The result whole is the 32 blocks of it. -/
theorem out_blocks (d : Dev nD) (f : Buf (Elt F) (gLoc d)) :
    (gLoc d ↦{fullShare} f : sProp 𝕄) = bigSep Finset.univ fun p : Fin (grid0.bound 0) × Fin (grid0.bound 1) => oPt d (crd p.1 p.2) f := by
  rw [← pointsTo_biUnion Finset.univ (ℓ := gLoc d) (fun p : Fin (grid0.bound 0) × Fin (grid0.bound 1) => outSet (crd p.1 p.2)) out_disjoint, out_cover]; try rfl

/-- The subcores' parts of the result, their contents forgotten. -/
theorem out_some (d : Dev nD) (g : Buf (Elt F) (gLoc d)) :
    (bigSep Finset.univ fun p : Fin (grid0.bound 0) × Fin (grid0.bound 1) => oPt d (crd p.1 p.2) g)
      ⊢ (bigSep Finset.univ fun p : Fin (grid0.bound 0) × Fin (grid0.bound 1) => iprop(∃ f, oPt d (crd p.1 p.2) f) : sProp 𝕄) :=
  bigSep_mono fun p _ => show oPt d (crd p.1 p.2) g ⊢ iprop(∃ f, oPt d (crd p.1 p.2) f) from by iintro H; iexists g; iexact H

/-- What stays with the caller while the call runs: what is left of the shares of the two arrays read. -/
def held0 (d : Dev nD) : sProp 𝕄 := iprop((oLoc d ↦{Transfers.shareDrop fullShare 32} fO d) ∗ (tLoc d ↦{Transfers.shareDrop fullShare 32} fT d))

/-- Three families over cores and subcores, taken apart. -/
theorem pair_sep (Φ Ψ Ξ : Fin (grid0.bound 0) → Fin (grid0.bound 1) → sProp 𝕄) :
    (bigSep Finset.univ fun c : Fin (grid0.bound 0) => bigSep Finset.univ fun i : Fin (grid0.bound 1) => iprop(Φ c i ∗ Ψ c i ∗ Ξ c i))
      = iprop((bigSep Finset.univ fun p : Fin (grid0.bound 0) × Fin (grid0.bound 1) => Φ p.1 p.2)
        ∗ (bigSep Finset.univ fun p : Fin (grid0.bound 0) × Fin (grid0.bound 1) => Ψ p.1 p.2)
        ∗ bigSep Finset.univ fun p : Fin (grid0.bound 0) × Fin (grid0.bound 1) => Ξ p.1 p.2) := by
  rw [← bigSep_sep', ← bigSep_sep', ← Finset.univ_product_univ, SparseCore.bigSep_product]

omit [FloatOps F] [Named F] in
/-- An array read by all is what stays with the caller and a share for each of the 32 subcores. -/
theorem toks_in {ℓ : Loc nD τ sig} (f : Buf (Elt F) ℓ) :
    (ℓ ↦{fullShare} f : sProp 𝕄) ⊢ iprop((ℓ ↦{Transfers.shareDrop fullShare 32} f)
      ∗ bigSep Finset.univ fun p : Fin (grid0.bound 0) × Fin (grid0.bound 1) => ℓ ↦{Transfers.shareTok fullShare 32 (wid p.1 p.2)} f) :=
  (Transfers.pointsTo_toks_split fullShare 32).trans (by rw [bigSep_univ_equiv pairs]; exact BI.Entails.refl _)

omit [FloatOps F] [Named F] in
/-- And joined back. -/
theorem toks_out {ℓ : Loc nD τ sig} (f : Buf (Elt F) ℓ) :
    iprop((ℓ ↦{Transfers.shareDrop fullShare 32} f)
      ∗ bigSep Finset.univ fun p : Fin (grid0.bound 0) × Fin (grid0.bound 1) => ℓ ↦{Transfers.shareTok fullShare 32 (wid p.1 p.2)} f) ⊢ (ℓ ↦{fullShare} f : sProp 𝕄) :=
  BI.Entails.trans (by rw [bigSep_univ_equiv pairs]; exact BI.Entails.refl _) (Transfers.pointsTo_toks_join fullShare 32)

/-- What the SparseCores are given. -/
theorem st0_eq (d : Dev nD) : (bigSep Finset.univ fun c : Fin ((K (F := F)).nCore 0) => (P fO fT).st 0 d c)
    = (bigSep (Finset.univ : Finset (Fin (grid0.bound 0))) fun c => bigSep Finset.univ fun i : Fin (grid0.bound 1) => goV fO fT d c i) := rfl

/-- What the SparseCores give back. -/
theorem dn0_eq (d : Dev nD) : (bigSep Finset.univ fun c : Fin ((K (F := F)).nCore 0) => (P fO fT).dn 0 d c)
    = (bigSep (Finset.univ : Finset (Fin (grid0.bound 0))) fun c => bigSep Finset.univ fun i : Fin (grid0.bound 1) => tdV fO fT d c i) := rfl

/-- The caller's three arrays are what the call takes and what stays. -/
theorem call_in (d : Dev nD) (g : Buf (Elt F) (gLoc d)) :
    iprop((oLoc d ↦{fullShare} fO d) ∗ (tLoc d ↦{fullShare} fT d) ∗ gLoc d ↦{fullShare} g)
      ⊢ (iprop((bigSep Finset.univ fun c : Fin ((K (F := F)).nCore 0) => (P fO fT).st 0 d c) ∗ held0 fO fT d) : sProp 𝕄) := by
  rw [st0_eq, pair_sep, out_blocks]
  unfold held0
  iintro ⟨H1, H2, H3⟩
  ihave H1 := toks_in (fO d) $$ H1
  icases H1 with ⟨H1, H1'⟩
  ihave H2 := toks_in (fT d) $$ H2
  icases H2 with ⟨H2, H2'⟩
  isplitr [H1 H2]
  · isplitl [H1']; · iexact H1'
    isplitl [H2']; · iexact H2'
    iapply (out_some d g) $$ H3
  isplitl [H1]; · iexact H1
  iexact H2

/-- What the call brings back and what stayed are the three arrays, the result at the gathered entries. -/
theorem call_out (d : Dev nD) :
    iprop((bigSep Finset.univ fun c : Fin ((K (F := F)).nCore 0) => (P fO fT).dn 0 d c) ∗ held0 fO fT d)
      ⊢ (iprop((oLoc d ↦{fullShare} fO d) ∗ (tLoc d ↦{fullShare} fT d) ∗ gLoc d ↦{fullShare} gAll (fO d) (fT d)) : sProp 𝕄) := by
  rw [dn0_eq, pair_sep, out_blocks]
  unfold held0
  iintro ⟨⟨H1', H2', H3⟩, H1, H2⟩
  isplitl [H1 H1']
  · iapply (toks_out (fO d))
    isplitl [H1]; · iexact H1
    iexact H1'
  isplitl [H2 H2']
  · iapply (toks_out (fT d))
    isplitl [H2]; · iexact H2
    iexact H2'
  iexact H3

end Call

end Cert.Proof.Nll

end
-- ==== Proof.Region.lean ====
/-
  What the two dense kernels' regions share: whole-buffer loads and stores at the level of owned memrefs, proof data
  for the pipeline an entry does not run, and the unscoped buffers read as a held valuation.
-/
module

public import proofs.«01_k».proof.Proof.Setup
public import proofs.«01_k».proof.Proof.Gen.KernelIdeal.Points
public import Idealize.ShloMosaic.Lib.Pipeline.RegionsLoop
public import Idealize.ShloMosaic.Lib.VecWindow

@[expose] public section

noncomputable section

namespace Cert.Proof.Nll

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation BodyObligationLoose)

variable {F : FTy → Type} [FloatOps F] [Named F]

local notation "𝕄" => MM F

/-! ## Whole-buffer loads and stores of an owned memref -/

section Whole
variable {c : Dev nD} {sp : CoreSpace} {s : Shape} {e : EltTy} {M : Memref sig .tc sp s e} {α : Type}

/-- A load of the whole memref continues at what is owned. -/
theorem owns_load {off : Fin s.rank → ℕ} (h0 : off = fun _ => 0) (inb : ∀ a, off a + s.size a ≤ s.size a)
    (hl : M.view.LoadsAt (Rect.unit (s := s) off s.size inb).toLoadRect)
    (k : (s.Idx → Elt F e) → Prog (TpuEff nD τ sig (Elt F) Λ₀ .tc) α) {q : PosShare TreeShare} {X : s.Idx → Elt F e} {E : Set ℕ} {Q : α → sProp 𝕄} :
    (owns (c : Thread nD τ) M q X : sProp 𝕄)
      ⊢ iprop((owns (c : Thread nD τ) M q X -∗ wp frame (wpE (defs₀ (F := F)) Variants.none (c : Thread nD τ) none) E (k X) Q)
        -∗ wp frame (wpE (defs₀ (F := F)) Variants.none (c : Thread nD τ) none) E (.op (.load M (Rect.unit (s := s) off s.size inb).toLoadRect hl) k) Q) := by
  unfold owns
  iintro ⟨%f, %hf, H⟩ Hk
  have hv : M.view.readAt (Elt F) (Rect.unit (s := s) off s.size inb).toLoadRect f = X := by
    rw [View.readAt_eq_ld, hf]; exact View.ld_unit_zero h0 inb X
  iapply (wp_load (𝒱 := Variants.none) (c := (c : Thread nD τ)) (bd := none) (E := E) (defs := defs₀ (F := F)) (m := M) (r := (Rect.unit (s := s) off s.size inb).toLoadRect) (hl := hl) (k := k) (Q := Q) (S := M.view.set) (f := f) (q := q) (Finset.map_subset_map.mpr (Finset.subset_univ _))) $$ H
  iintro H
  rw [hv]
  iapply Hk
  iexists f; isplitr; · ipureintro; exact hf
  iexact H

/-- A store over the whole memref leaves it owned at what is stored. -/
theorem owns_store {off : Fin s.rank → ℕ} (h0 : off = fun _ => 0) (inb : ∀ a, off a + s.size a ≤ s.size a)
    (w : s.Idx → Elt F e) (hx : (M.access (Rect.unit (s := s) off s.size inb)).Stores Finset.univ) (hm : Finset.univ = Finset.univ ∨ ∀ a, (Rect.unit (s := s) off s.size inb).stride a = 1)
    (k : PUnit → Prog (TpuEff nD τ sig (Elt F) Λ₀ .tc) α) {X : s.Idx → Elt F e} {E : Set ℕ} {Q : α → sProp 𝕄} :
    (owns (c : Thread nD τ) M fullShare X : sProp 𝕄)
      ⊢ iprop((owns (c : Thread nD τ) M fullShare w -∗ wp frame (wpE (defs₀ (F := F)) Variants.none (c : Thread nD τ) none) E (k ⟨⟩) Q)
        -∗ wp frame (wpE (defs₀ (F := F)) Variants.none (c : Thread nD τ) none) E (.op (.store M (Rect.unit (s := s) off s.size inb) w Finset.univ hx hm) k) Q) := by
  subst h0
  unfold owns
  iintro ⟨%f, -, H⟩ Hk
  iapply (wp_store (𝒱 := Variants.none) (c := (c : Thread nD τ)) (bd := none) (E := E) (defs := defs₀ (F := F)) (m := M) (r := Rect.unit (s := s) (fun _ => 0) s.size inb) (w := w) (Mk := Finset.univ) (hx := hx) (hm := hm) (k := k) (Q := Q) (S := M.view.set) (f := f) (by
    show (M.view.slice _).set ⊆ _
    rw [View.set_slice]; exact Finset.map_subset_map.mpr (Finset.subset_univ _))) $$ H
  iintro H
  iapply Hk
  iexists _; isplitr; swap; · iexact H
  ipureintro
  funext x
  have h := congrFun (View.read_write_univ (v := M.access (Rect.unit (s := s) (fun _ => 0) s.size inb)) (Val := Elt F) f w) x
  refine Eq.trans ?_ h
  show _ = M.view.read (Elt F) _ ((Rect.whole s).emb x)
  rw [Rect.emb_whole_apply]

end Whole

/-- Proof data for the pipeline an entry does not run. -/
def junkDat {cfg : Pipeline.Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The TensorCore's unscoped references. -/
def ucRefs : Finset (DevRef τ sig) := (StableHlo.tcRefs τ sig).filter fun b => ¬ b.isScoped

/-- The unscoped buffers at a valuation are that set of references held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The pairs a TensorCore's waits may have recorded at levels up to `b`. -/
def recSet (b : ℕ) (c : Dev nD) : Set (SemLoc sig × HIx 1) := {p | (K (F := F)).lev ((c : Thread nD τ), p.1) p.2 ≤ b}

end Cert.Proof.Nll

end
-- ==== Proof.Dense.lean ====
/-
  The dense kernel's region: one block of scores folded into the row block's 128 partial sums per grid point, its
  proof data, its body obligation, and the array the region leaves.
-/
module

public import proofs.«01_k».proof.Proof.Region

@[expose] public section

noncomputable section

namespace Cert.Proof.Nll

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Window BodyObligation BodyObligationLoose)

variable {F : FTy → Type} [FloatOps F] [Named F]

local notation "𝕄" => MM F

/-! ## The conditions, by the column of the grid point -/

/-- The first branch is taken at the first column block. -/
theorem cond1_iff (i : grid1.Coords) : k1_cond1 i = 1#1 ↔ (i 1).val = 0 := by
  have h : ∀ n : Fin 13, (Scalar.cmpi .ne (Scalar.extui (Scalar.cmpi .eq (BitVec.ofNat 32 n.val) 0#32) : BitVec 32) 0#32 : BitVec 1) = 1#1 ↔ n.val = 0 := by decide
  exact h (i 1)

/-- The second branch is taken at every column block but the last. -/
theorem cond2_iff (i : grid1.Coords) : k1_cond2 i = 1#1 ↔ (i 1).val < 12 := by
  have h : ∀ n : Fin 13, (Scalar.cmpi .ne (Scalar.extui (Scalar.cmpi .slt (BitVec.ofNat 32 n.val) 12#32) : BitVec 32) 0#32 : BitVec 1) = 1#1 ↔ n.val < 12 := by decide
  exact h (i 1)

/-- The third branch is taken at the last column block. -/
theorem cond3_iff (i : grid1.Coords) : k1_cond3 i = 1#1 ↔ (i 1).val = 12 := by
  have h : ∀ n : Fin 13, (Scalar.cmpi .ne (Scalar.extui (Scalar.cmpi .eq (BitVec.ofNat 32 n.val) 12#32) : BitVec 32) 0#32 : BitVec 1) = 1#1 ↔ n.val = 12 := by decide
  exact h (i 1)

/-- Every grid point stores the accumulator. -/
theorem live_out : ∀ i : grid1.Coords, idle1 1 i = false := by
  intro i
  have h : (i 1).val < 13 := (i 1).isLt
  show (!(k1_cond1 i == 1#1) && !(k1_cond2 i == 1#1) && !(k1_cond3 i == 1#1)) = false
  by_cases h2 : (i 1).val < 12
  · have := (cond2_iff i).mpr h2; simp [this]
  · have := (cond3_iff i).mpr (by omega); simp [this]

/-! ## What one point leaves in the accumulator -/

/-- Whether a column of a block lies inside the scores, as the kernel computes it. -/
def inBit (n : ℕ) : IVec S256x8192 1 :=
  cmpi .slt (addi (broadcast S256x8192 (Scalar.muli (BitVec.ofNat 32 n) 8192#32)) (iota .tc S256x8192 32 [1] iota_S256x8192_d1_w32)) (broadcast S256x8192 100000#32)

/-- The mask, entry by entry: whether the column is a class. -/
theorem inBit_apply {n : ℕ} (hn : n < 13) (x : S256x8192.Idx) : inBit n x = if 8192 * n + (x 1).val < 100000 then 1#1 else 0#1 := by
  have hx : (x 1).val < 8192 := (x 1).isLt
  have hw : IntOp.addi (Scalar.muli (BitVec.ofNat 32 n) 8192#32) (BitVec.ofNat 32 (x 1).val) = BitVec.ofNat 32 (8192 * n + (x 1).val) := by
    show BitVec.ofNat 32 n * 8192#32 + BitVec.ofNat 32 (x 1).val = _
    apply BitVec.eq_of_toNat_eq
    simp only [BitVec.toNat_add, BitVec.toNat_mul, BitVec.toNat_ofNat]
    omega
  show IntOp.cmpi .slt (IntOp.addi (Scalar.muli (BitVec.ofNat 32 n) 8192#32) (iota .tc S256x8192 32 [1] iota_S256x8192_d1_w32 x)) 100000#32 = _
  rw [iota_single_apply, hw]
  by_cases h : 8192 * n + (x 1).val < 100000
  · rw [if_pos h]
    simp only [IntOp.cmpi, BitVec.slt_eq_decide, BitVec.toInt_eq_toNat_cond, BitVec.toNat_ofNat]
    rw [decide_eq_true (by omega)]; rfl
  · rw [if_neg h]
    simp only [IntOp.cmpi, BitVec.slt_eq_decide, BitVec.toInt_eq_toNat_cond, BitVec.toNat_ofNat]
    rw [decide_eq_false (by omega)]; rfl

/-- What a block contributes, entry by entry: its log-sigmoid, at the last column zeroed past the end of the scores. -/
def contrib (n : ℕ) (X : S256x8192.Idx → F .f32) : S256x8192.Idx → F .f32 :=
  if n < 12 then k1_pay2 X else select (inBit n) (k1_pay2 X) (broadcast S256x8192 (Scalar.ofBits .f32 0x00000000#32 : F .f32))

/-- A block's contributions added onto the accumulator, 64 columns to each of its 128 lanes. -/
def accum (Z : S256x8192.Idx → F .f32) (A : S256x128.Idx → F .f32) : S256x128.Idx → F .f32 :=
  addf (shapeCast S256x128 A shapeCasts_S256x128_S256x128 : FVec F S256x128 .f32)
    (multiReduction .add [1] S256x128 (shapeCast S256x64x128 Z shapeCasts_S256x8192_S256x64x128 : FVec F S256x64x128 .f32) 0x00000000#32 reduces_S256x64x128_S256x128 (.inl rfl) rfl)

/-- The accumulator's contents after a point of column `n`, over the staged block `X` and the contents `A` found. -/
def denseStep (n : ℕ) (X : S256x8192.Idx → F .f32) (A : S256x128.Idx → F .f32) : S256x128.Idx → F .f32 :=
  accum (contrib n X) (if n = 0 then k1_pay1 else A)

/-- What an inner block stores: the accumulator with the block added. -/
theorem pay3_eq {n : ℕ} (h : n < 12) (X : S256x8192.Idx → F .f32) (A : S256x128.Idx → F .f32) : k1_pay3 X A = accum (contrib n X) A := by
  unfold contrib; rw [if_pos h]; rfl

/-- What the last block stores: the accumulator with the masked block added. -/
theorem pay4_eq (i : grid1.Coords) (h : ¬ (i 1).val < 12) (X : S256x8192.Idx → F .f32) (A : S256x128.Idx → F .f32) : k1_pay4 i X A = accum (contrib (i 1).val X) A := by
  unfold contrib; rw [if_neg h]; rfl

/-- The body run over two owned staging buffers. -/
theorem dense_run (c : Dev nD) (i : grid1.Coords) (M2 : Memref sig .tc .vmem S256x8192 .f32) (h2 : M2.IsWhole) (M3 : Memref sig .tc .vmem S256x128 .f32) (h3 : M3.IsWhole)
    (X : S256x8192.Idx → F .f32) (A : S256x128.Idx → F .f32) (E : Set ℕ) (Q : PUnit → sProp 𝕄) :
    iprop(owns (c : Thread nD τ) M2 fullShare X ∗ owns (c : Thread nD τ) M3 fullShare A
        ∗ (iprop(owns (c : Thread nD τ) M2 fullShare X ∗ owns (c : Thread nD τ) M3 fullShare (denseStep (i 1).val X A)) -∗ Q ⟨⟩))
      ⊢ wp frame (wpE (defs₀ (F := F)) Variants.none (c : Thread nD τ) none) E (cc1__dense_body i M2 h2 M3 h3) Q := by
  have hz : (![0, 0] : Fin 2 → ℕ) = fun _ => 0 := by decide
  have h13 : (i 1).val < 13 := (i 1).isLt
  rw [cc1__dense_body_eq_skeleton]
  unfold cc1__dense_body_skel denseStep
  by_cases c1 : (i 1).val = 0
  · have e1 := (cond1_iff i).mpr c1
    have e2 := (cond2_iff i).mpr (by omega)
    have e3 : ¬ k1_cond3 i = 1#1 := fun h => by have := (cond3_iff i).mp h; omega
    simp only [dif_pos e1, dif_pos e2, dif_neg e3, if_pos c1]
    iintro ⟨H2, H3, Hk⟩
    iapply (owns_load hz _ _ _) $$ H3; iintro H3
    iapply (owns_store hz _ _ _ _ _) $$ H3; iintro H3
    iapply (owns_load hz _ _ _) $$ H2; iintro H2
    iapply (owns_load hz _ _ _) $$ H3; iintro H3
    iapply (owns_load hz _ _ _) $$ H3; iintro H3
    iapply (owns_store hz _ _ _ _ _) $$ H3; iintro H3
    simp only [Prog.bind, Prog.bind_ret, wp_pure]
    imodintro
    iapply Hk
    rw [pay3_eq (show (i 1).val < 12 by omega)]
    isplitl [H2]; · iexact H2
    iexact H3
  · have e1 : ¬ k1_cond1 i = 1#1 := fun h => c1 ((cond1_iff i).mp h)
    by_cases c2 : (i 1).val < 12
    · have e2 := (cond2_iff i).mpr c2
      have e3 : ¬ k1_cond3 i = 1#1 := fun h => by have := (cond3_iff i).mp h; omega
      simp only [dif_neg e1, dif_pos e2, dif_neg e3, if_neg c1]
      iintro ⟨H2, H3, Hk⟩
      iapply (owns_load hz _ _ _) $$ H2; iintro H2
      iapply (owns_load hz _ _ _) $$ H3; iintro H3
      iapply (owns_load hz _ _ _) $$ H3; iintro H3
      iapply (owns_store hz _ _ _ _ _) $$ H3; iintro H3
      simp only [Prog.bind, Prog.bind_ret, wp_pure]
      imodintro
      iapply Hk
      rw [pay3_eq c2]
      isplitl [H2]; · iexact H2
      iexact H3
    · have e2 : ¬ k1_cond2 i = 1#1 := fun h => c2 ((cond2_iff i).mp h)
      have e3 := (cond3_iff i).mpr (by omega)
      simp only [dif_neg e1, dif_neg e2, dif_pos e3, if_neg c1]
      iintro ⟨H2, H3, Hk⟩
      iapply (owns_load hz _ _ _) $$ H2; iintro H2
      iapply (owns_load hz _ _ _) $$ H3; iintro H3
      iapply (owns_load hz _ _ _) $$ H3; iintro H3
      iapply (owns_store hz _ _ _ _ _) $$ H3; iintro H3
      simp only [Prog.bind, Prog.bind_ret, wp_pure]
      imodintro
      iapply Hk
      rw [pay4_eq i c2]
      isplitl [H2]; · iexact H2
      iexact H3

/-- The log-sigmoid of a block is taken entry by entry. -/
theorem pay2_congr {X Y : S256x8192.Idx → F .f32} {x : S256x8192.Idx} (h : X x = Y x) : k1_pay2 X x = k1_pay2 Y x := by
  unfold k1_pay2
  simp only [subf, minimumf, log1p, exp, absf, h]

/-- The step reads the block only at the columns inside the scores. -/
theorem denseStep_block {n : ℕ} (hn : n < 13) {X Y : S256x8192.Idx → F .f32} (A : S256x128.Idx → F .f32)
    (h : ∀ x : S256x8192.Idx, 8192 * n + (x 1).val < 100000 → X x = Y x) : denseStep n X A = denseStep n Y A := by
  have hc : contrib n X = contrib n Y := by
    funext x
    have hx : (x 1).val < 8192 := (x 1).isLt
    unfold contrib
    by_cases c2 : n < 12
    · rw [if_pos c2, if_pos c2]; exact pay2_congr (h x (by omega))
    · rw [if_neg c2, if_neg c2, select_apply, select_apply, inBit_apply hn]
      by_cases hx : 8192 * n + (x 1).val < 100000
      · rw [if_pos hx, select_one, select_one]; exact pay2_congr (h x hx)
      · rw [if_neg hx, select_zero, select_zero]
  unfold denseStep; rw [hc]

/-! ## The blocks, and the accumulator point by point -/

/-- The block of row block `r` and column `n`, as a function of the scores (zero past their end). -/
def blkAt (A : S1024x100000.Idx → F .f32) (r n : ℕ) : S256x8192.Idx → F .f32 := fun x =>
  if h : 256 * r + (x 0).val < 1024 ∧ 8192 * n + (x 1).val < 100000 then A (ix2 ⟨256 * r + (x 0).val, h.1⟩ ⟨8192 * n + (x 1).val, h.2⟩) else Scalar.ofBits .f32 0x00000000#32

/-- The accumulator of row block `r` after column `n`. -/
def accV (A : S1024x100000.Idx → F .f32) (r : ℕ) : ℕ → S256x128.Idx → F .f32
  | 0 => denseStep 0 (blkAt A r 0) k1_pay1
  | n + 1 => denseStep (n + 1) (blkAt A r (n + 1)) (accV A r n)

/-- The partial sums the region leaves. -/
def dAll (A : S1024x100000.Idx → F .f32) : S1024x128.Idx → F .f32 := fun p =>
  accV A ((p 0).val / 256) 12 (ix2 (⟨(p 0).val % 256, Nat.mod_lt _ (by decide)⟩ : Fin 256) (p 1 : Fin 128))

/-- A step's row of blocks. -/
theorem coords1_row (t : Fin grid1.N) : (grid1.coords t 0).val = t.val / 13 :=
  (by decide +kernel : ∀ t : Fin grid1.N, (grid1.coords t 0).val = t.val / 13) t
/-- A step's column block. -/
theorem coords1_col (t : Fin grid1.N) : (grid1.coords t 1).val = t.val % 13 :=
  (by decide +kernel : ∀ t : Fin grid1.N, (grid1.coords t 1).val = t.val % 13) t

variable (Vv : (c : Dev nD) → (b : Ref sig .tc) → Buf (Elt F) ((c : Thread nD τ).loc b))

/-- The scores at the entry valuation. -/
abbrev scoresAt (c : Dev nD) : S1024x100000.Idx → F .f32 := Vv c main_arg0

/-- What the fetch at point `t` reads of the scores: the block's part inside them. -/
abbrev xblk (c : Dev nD) (t : Fin cfg1.N) : (win1_0.xblock (grid1.coords t)).Idx → F .f32 :=
  (win1_0.blk t).view.read (Elt F) (Vv c main_arg0)

/-- The invariant of the dense call: the scoped memory that its windows do not take. -/
abbrev Φ1 (c : Dev nD) : sProp 𝕄 := Pipeline.scopedRest (Ix := HIx 1) (Name := ℕ) (U := UU) (Lvl := ℕ) (Val := Elt F) spec1 c

/-- The region's proof data: the scores and the partial sums' array at the entry valuation; after the body the block as
    fetched and the accumulator of the point; the scoped rest as the invariant; nothing owed. -/
def dat1 (b : ℕ) (c : Dev nD) : Dat τ (Elt F) (HIx 1) ℕ UU ℕ cfg1 c where
  A w := Vv c (Pipeline.arrRef spec1 w)
  after w t := match w with
    | ⟨0, _⟩ => win1_0.fill (grid1.coords t) (fun _ => Scalar.ofBits .f32 0x00000000#32) (xblk Vv c t)
    | ⟨1, _⟩ => accV (scoresAt Vv c) (t.val / 13) (t.val % 13)
  Φ _ := Φ1 c
  q _ := fullShare
  owed _ := 0
  recorded _ := recSet (F := F) b c

/-- What the body finds in the block's buffer: the block as fetched. -/
theorem before1_0 (b : ℕ) (c : Dev nD) (t : Fin cfg1.N) (d) :
    (dat1 Vv b c).before (0 : Fin 2) t d = win1_0.fill (grid1.coords t) d (xblk Vv c t) := by
  unfold Dat.before; rw [if_pos (fetch1_0 t)]; rfl

/-- What it finds in the accumulator's after the first column: the point before's. -/
theorem before1_1 (b : ℕ) (c : Dev nD) (t : Fin cfg1.N) (h : t.val % 13 ≠ 0) (d) :
    (dat1 Vv b c).before (1 : Fin 2) t d = accV (scoresAt Vv c) (t.val / 13) (t.val % 13 - 1) := by
  have ht : t.val ≠ 0 := fun h0 => h (by rw [h0])
  have hfl : (cfg1.win 1).flush ⟨t.val - 1, Nat.lt_of_le_of_lt (Nat.sub_le _ _) t.isLt⟩ = false := by
    rw [Bool.eq_false_iff]; intro hf
    have := (flush1_1 _).mp hf
    simp only at this; omega
  rw [(dat1 Vv b c).before_out_kept (1 : Fin 2) rfl t ht hfl live_out (fun _ _ => rfl)]
  show accV (scoresAt Vv c) ((t.val - 1) / 13) ((t.val - 1) % 13) = _
  rw [show (t.val - 1) / 13 = t.val / 13 by omega, show (t.val - 1) % 13 = t.val % 13 - 1 by omega]

/-- The fetched block is the scores' block on the columns inside the scores. -/
theorem fill_eq (c : Dev nD) (t : Fin cfg1.N) (d : S256x8192.Idx → F .f32) (x : S256x8192.Idx) (hx : 8192 * (t.val % 13) + (x 1).val < 100000) :
    win1_0.fill (grid1.coords t) d (xblk Vv c t) x = blkAt (scoresAt Vv c) (t.val / 13) (t.val % 13) x := by
  have ht : t.val < 52 := t.isLt
  have hx0 : (x 0).val < 256 := (x 0).isLt
  have hx1 : (x 1).val < 8192 := (x 1).isLt
  have i0 : win1_0.index t 0 = t.val / 13 := (by decide +kernel : ∀ t : Fin grid1.N, win1_0.index t 0 = t.val / 13) t
  have i1 : win1_0.index t 1 = t.val % 13 := (by decide +kernel : ∀ t : Fin grid1.N, win1_0.index t 1 = t.val % 13) t
  have e0 : win1_0.xsize (grid1.coords t) 0 = 256 := (by decide +kernel : ∀ t : Fin grid1.N, win1_0.xsize (grid1.coords t) 0 = 256) t
  have e1 : win1_0.xsize (grid1.coords t) 1 = if t.val % 13 < 12 then 8192 else 1696 := (by decide +kernel : ∀ t : Fin grid1.N, win1_0.xsize (grid1.coords t) 1 = if t.val % 13 < 12 then 8192 else 1696) t
  have hm : win1_0.moved (grid1.coords t) x = true := by
    refine (win1_0.moved_iff _ x).mpr fun a => ?_
    fin_cases a
    · show (x 0).val < win1_0.xsize (grid1.coords t) 0
      rw [e0]; exact hx0
    · show (x 1).val < win1_0.xsize (grid1.coords t) 1
      rw [e1]; split <;> omega
  unfold Window.fill blkAt
  rw [dif_pos hm, dif_pos ⟨by omega, hx⟩]
  show Vv c main_arg0 ((win1_0.rect t).emb _) = Vv c main_arg0 _
  congr 1
  funext a
  fin_cases a
  · apply Fin.ext
    show win1_0.index t 0 * 256 + 1 * (x 0).val = 256 * (t.val / 13) + (x 0).val
    rw [i0]; omega
  · apply Fin.ext
    show win1_0.index t 1 * 8192 + 1 * (x 1).val = 8192 * (t.val % 13) + (x 1).val
    rw [i1]; omega

/-- The step at a point takes the accumulator found to the point's. -/
theorem step_eq (b : ℕ) (c : Dev nD) (t : Fin cfg1.N) (d0 d1) :
    denseStep (grid1.coords t 1).val (win1_0.fill (grid1.coords t) d0 (xblk Vv c t)) ((dat1 Vv b c).before (1 : Fin 2) t d1)
      = accV (scoresAt Vv c) (t.val / 13) (t.val % 13) := by
  rw [coords1_col, denseStep_block (Nat.mod_lt _ (by decide)) _ (fun x hx => fill_eq Vv c t d0 x hx)]
  by_cases h : t.val % 13 = 0
  · rw [h]; unfold accV denseStep; rw [if_pos rfl, if_pos rfl]
  · rw [before1_1 Vv b c t h]
    obtain ⟨n, hn⟩ : ∃ n, t.val % 13 = n + 1 := ⟨t.val % 13 - 1, by omega⟩
    rw [hn]; rfl

/-- The library's body obligation. -/
theorem body1 (b : ℕ) (c : Dev nD) : BodyObligationLoose (dat1 (F := F) Vv b c) (defs₀ (F := F)) 𝒱₀ (none : HIx 1) Set.univ := fun t => by
  rw [bigSep_W1, bigSep_W1]
  have hl : idle1 1 (grid1.coords t) = false := live_out _
  simp only
  rw [hl]
  dsimp only
  rw [show (dat1 Vv b c).Φ t.succ = (dat1 Vv b c).Φ t.castSucc from rfl,
    show (dat1 Vv b c).owesAt (none : HIx 1) t.succ = (dat1 Vv b c).owesAt (none : HIx 1) t.castSucc from rfl]
  iintro ⟨HΦ, Ho, ⟨%d0, H0⟩, ⟨%d1, H1⟩⟩
  rw [before1_0 Vv b c t d0]
  iapply (dense_run (F := F) c (grid1.coords t) (win1_0.stage (cfg1.slots t 0)) (hstage1_0 ((cfg1.slots t 0).cast nbuf1_0)) (win1_1.stage (cfg1.slots t 1)) (hstage1_1 ((cfg1.slots t 1).cast nbuf1_1))
    (win1_0.fill (grid1.coords t) d0 (xblk Vv c t)) ((dat1 Vv b c).before (1 : Fin 2) t d1) Set.univ _)
  isplitl [H0]; · iexact H0
  isplitl [H1]; · iexact H1
  iintro ⟨H0, H1⟩
  isplitl [HΦ]; · iexact HΦ
  isplitl [Ho]; · iexact Ho
  have hx : win1_0.cut (grid1.coords t) (win1_0.fill (grid1.coords t) (fun _ => (Scalar.ofBits .f32 0x00000000#32 : F .f32)) (xblk Vv c t)) = xblk Vv c t := win1_0.cut_fill _ _ _
  isplitl [H0]
  · iexists d0
    change _ ⊢ owns (c : Thread nD τ) (stage1_0 (cfg1.slots t 0)) fullShare (win1_0.fill (grid1.coords t) d0 (win1_0.cut (grid1.coords t) (win1_0.fill (grid1.coords t) (fun _ => (Scalar.ofBits .f32 0x00000000#32 : F .f32)) (xblk Vv c t))))
    rw [hx]; try iexact H0
  · rw [step_eq Vv b c t d0 d1]; iexact H1

end Cert.Proof.Nll

end
-- ==== Proof.DenseReg.lean ====
/-
  The dense kernel's region as one step of the program: from every unscoped buffer at a valuation to the same with the
  partial sums' array at its closed form.
-/
module

public import proofs.«01_k».proof.Proof.Dense

@[expose] public section

noncomputable section

namespace Cert.Proof.Nll

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Window BodyObligation BodyObligationLoose)

variable {F : FTy → Type} [FloatOps F] [Named F]

local notation "𝕄" => MM F

variable (Vv Vp : (c : Dev nD) → (b : Ref sig .tc) → Buf (Elt F) ((c : Thread nD τ).loc b))
variable (adm : (p : Fin 2) → (pcfgs (F := F) p).Adm)

/-- The pairs the region's own waits record sit at level zero. -/
theorem waitPairs_rec {cfg : Pipeline.Cfg sig Λ₀} (b : ℕ) (c : Dev nD) {p : SemLoc sig × HIx 1} (h : p ∈ cfg.waitPairs (none : HIx 1)) : p ∈ recSet (F := F) b c := by
  obtain ⟨sm, ι⟩ := p
  have hi : ι = none := by
    unfold Pipeline.Cfg.waitPairs at h
    simp only [Set.mem_setOf_eq, Prod.mk.injEq] at h
    obtain ⟨_, _, _, h⟩ := h
    exact h
  subst hi
  exact Nat.zero_le b

/-! ## The array the region leaves -/

/-- The partial sums at an entry named by its row block and its place there. -/
theorem dAll_at (A : S1024x100000.Idx → F .f32) (p : S1024x128.Idx) (r : ℕ) (x : S256x128.Idx)
    (h0 : (p 0).val = 256 * r + (x 0).val) (h1 : (p 1).val = (x 1).val) : dAll A p = accV A r 12 x := by
  have hx : (x 0).val < 256 := (x 0).isLt
  have hr : (p 0).val / 256 = r := by omega
  unfold dAll
  rw [hr]
  congr 1
  funext a
  fin_cases a
  · apply Fin.ext; show (p 0).val % 256 = (x 0).val; omega
  · apply Fin.ext; exact h1

/-- What a point that writes back writes is its block of the partial sums. -/
theorem flushed1_eq (b : ℕ) (c : Dev nD) (t : Fin cfg1.N) (hf : (cfg1.win 1).flush t = true) :
    (dat1 Vv b c).flushed 1 t = ((cfg1.win 1).blk t).view.read (Elt F) (dAll (scoresAt Vv c)) := by
  have ht : t.val < 52 := t.isLt
  have h12 : t.val % 13 = 12 := (flush1_1 t).mp hf
  have i0 : win1_1.index t 0 = t.val / 13 := (by decide +kernel : ∀ t : Fin grid1.N, win1_1.index t 0 = t.val / 13) t
  have i1 : win1_1.index t 1 = 0 := (by decide +kernel : ∀ t : Fin grid1.N, win1_1.index t 1 = 0) t
  funext x
  have hx0 : (x 0).val < 256 := (x 0).isLt
  have e0 : ((((cfg1.win 1).blk t).view.emb x) 0).val = 256 * (t.val / 13) + (x 0).val := by
    show win1_1.index t 0 * 256 + 1 * (x 0).val = _; rw [i0]; omega
  have e1 : ((((cfg1.win 1).blk t).view.emb x) 1).val = (x 1).val := by
    show win1_1.index t 1 * 128 + 1 * (x 1).val = _; rw [i1]; omega
  show accV (scoresAt Vv c) (t.val / 13) (t.val % 13) x = dAll (scoresAt Vv c) (((cfg1.win 1).blk t).view.emb x)
  rw [h12]
  exact (dAll_at (scoresAt Vv c) (((cfg1.win 1).blk t).view.emb x) (t.val / 13) x e0 e1).symm

/-- Every entry of the partial sums is in a block some point writes back. -/
theorem covered1 (i : S1024x128.Idx) : ∃ t : Fin cfg1.N, (cfg1.win 1).flush t = true ∧ i ∈ ((cfg1.win 1).blk t).view.set := by
  have hi : (i 0).val < 1024 := (i 0).isLt
  let t : Fin cfg1.N := ⟨13 * ((i 0).val / 256) + 12, show _ < 52 by omega⟩
  have hv : t.val = 13 * ((i 0).val / 256) + 12 := rfl
  have i0 : win1_1.index t 0 = t.val / 13 := (by decide +kernel : ∀ t : Fin grid1.N, win1_1.index t 0 = t.val / 13) t
  have i1 : win1_1.index t 1 = 0 := (by decide +kernel : ∀ t : Fin grid1.N, win1_1.index t 1 = 0) t
  refine ⟨t, (flush1_1 t).mpr (by rw [hv]; omega), ?_⟩
  have h := ((cfg1.win 1).blk t).view.emb_mem_set (ix2 (⟨(i 0).val % 256, Nat.mod_lt _ (by decide)⟩ : Fin 256) (i 1 : Fin 128) : S256x128.Idx)
  have he : ((cfg1.win 1).blk t).view.emb (ix2 (⟨(i 0).val % 256, Nat.mod_lt _ (by decide)⟩ : Fin 256) (i 1 : Fin 128) : S256x128.Idx) = i := by
    funext a
    fin_cases a
    · apply Fin.ext; show win1_1.index t 0 * 256 + 1 * ((i 0).val % 256) = (i 0).val; rw [i0, hv]; omega
    · apply Fin.ext; show win1_1.index t 1 * 128 + 1 * (i 1).val = (i 1).val; rw [i1]; omega
  rwa [he] at h

/-- The region leaves the partial sums. -/
theorem final1 (b : ℕ) (c : Dev nD) : (dat1 Vv b c).arrAt 1 cfg1.N = dAll (scoresAt Vv c) :=
  (dat1 Vv b c).arrAt_eq_of_cover 1 (dAll (scoresAt Vv c)) (fun t h => flushed1_eq Vv b c t h) covered1

/-! ## The region -/

/-- The proof data of both pipelines for an entry of this region: this region's, and anything for the other. -/
def pdats1 (b : ℕ) : (p : Fin 2) → (c : Dev nD) → Dat τ (Elt F) (HIx 1) ℕ UU ℕ (Pipeline.pin (pcfgs (F := F)) adm p) c
  | ⟨0, _⟩ => fun c => dat1 Vv b c
  | ⟨1, _⟩ => fun c => junkDat c

set_option backward.isDefEq.respectTransparency.types false in
/-- The region, from every unscoped buffer at `Vv` to every one at `Vp`, which differs from it at the region's result. -/
def reg1 (b : ℕ) (hVp_out : ∀ c, Vp c main_v3 = (dat1 Vv b c).arrAt 1 cfg1.N)
    (hVp_ne : ∀ c (r : Ref sig .tc), r ≠ main_v3 → Vp c r = Vv c r) :
    Pipeline.RegionSeg (pcfgs (F := F)) adm (pdats1 Vv adm b) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body1 Vv b c
  hwaits := Pipeline.hwaits_of_owed_zero _ _ _ _ (K (F := F)).L (K (F := F)).lev 0 fun _ _ => rfl
  pre c := iprop(unscopedBufs c (Vv c) ∗ Pipeline.owesWithin c 0 (recSet (F := F) b c))
  post c := iprop(unscopedBufs c (Vp c) ∗ Pipeline.owesWithin c 0 (recSet (F := F) b c))
  X _ := BI.emp
  Y _ := BI.emp
  Z c := Pipeline.unscopedRest (Ix := HIx 1) (Name := ℕ) (U := UU) (Lvl := ℕ) spec1 c (Vv c)
  hentry c := by
    rw [Pipeline.ownSems0_none]
    have hsplit := Pipeline.arrays_of_unscopedBufs (p := 0) (pcfgs (F := F)) adm (pdats1 Vv adm b) launch1.win launch1.arr_whole c
      ((pdats1 Vv adm b 0 c).share_full fun _ => rfl) (Vv c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hrest
  hin c := by
    rw [show (pdats1 Vv adm b 0 c).Φ 0 = Φ1 c from rfl]
    iintro ⟨-, -, Hr⟩; iexact Hr
  hout c := by
    rw [Pipeline.ownSems0_none, show (pdats1 Vv adm b 0 c).Φ (Fin.last _) = Φ1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats1 Vv adm b) ((pdats1 Vv adm b 0 c).share_full fun _ => rfl) (Vv c) (Vp c) ((pdats1 Vv adm b 0 c).arrAt · cfg1.N)
      (fun w => by
        fin_cases w
        · exact ((pdats1 Vv adm b 0 c).arrAt_in 0 rfl _).trans (hVp_ne c main_arg0 (by decide)).symm
        · exact (hVp_out c).symm)
      (fun r hr => hVp_ne c r fun h => hr (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · exact waitPairs_rec (F := F) b c h
    iexact HO

end Cert.Proof.Nll

end
-- ==== Proof.CombineReg.lean ====
/-
  The combining kernel's region: per block of 32 rows, the losses from the labels, the gathered scores and the partial
  sums; its proof data, its body obligation, the array it leaves, and the region as one step of the program.
-/
module

public import proofs.«01_k».proof.Proof.DenseReg

@[expose] public section

noncomputable section

namespace Cert.Proof.Nll

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Window BodyObligation BodyObligationLoose)

variable {F : FTy → Type} [FloatOps F] [Named F]

local notation "𝕄" => MM F

variable (Vv Vp : (c : Dev nD) → (b : Ref sig .tc) → Buf (Elt F) ((c : Thread nD τ).loc b))
variable (adm : (p : Fin 2) → (pcfgs (F := F) p).Adm)

/-! ## The body -/

/-- The rows of a row block. -/
def rowsAt {α : Type} (X : S1024x128.Idx → α) (r : ℕ) : S32x128.Idx → α := fun x =>
  X (ix2 (⟨(32 * r + (x 0).val) % 1024, Nat.mod_lt _ (by decide)⟩ : Fin 1024) (x 1 : Fin 128))

/-- What the body stores, from its three blocks. -/
def combineStep (Tb : S32x128.Idx → BitVec 32) (Gb Db : S32x128.Idx → F .f32) : S32x1.Idx → F .f32 :=
  k2_pay1 (k2_pay2 Tb Gb) (k2_pay3 Db) k2_pay4

/-- The losses the region leaves. -/
def lAll (Tt : S1024x128.Idx → BitVec 32) (Gg Dd : S1024x128.Idx → F .f32) : S1024x1.Idx → F .f32 := fun p =>
  combineStep (rowsAt Tt ((p 0).val / 32)) (rowsAt Gg ((p 0).val / 32)) (rowsAt Dd ((p 0).val / 32))
    (ix2 (⟨(p 0).val % 32, Nat.mod_lt _ (by decide)⟩ : Fin 32) (p 1 : Fin 1))

/-- The body run over four owned staging buffers. -/
theorem combine_run (c : Dev nD) (i : grid2.Coords) (M1 : Memref sig .tc .vmem S32x128 .i32) (h1 : M1.IsWhole) (M2 : Memref sig .tc .vmem S32x128 .f32) (h2 : M2.IsWhole)
    (M3 : Memref sig .tc .vmem S32x128 .f32) (h3 : M3.IsWhole) (M4 : Memref sig .tc .vmem S32x1 .f32) (h4 : M4.IsWhole)
    (Tb : S32x128.Idx → BitVec 32) (Gb Db : S32x128.Idx → F .f32) (A : S32x1.Idx → F .f32) (E : Set ℕ) (Q : PUnit → sProp 𝕄) :
    iprop(owns (c : Thread nD τ) M1 fullShare (Tb : S32x128.Idx → Elt F .i32) ∗ owns (c : Thread nD τ) M2 fullShare Gb ∗ owns (c : Thread nD τ) M3 fullShare Db ∗ owns (c : Thread nD τ) M4 fullShare A
        ∗ (iprop(owns (c : Thread nD τ) M1 fullShare (Tb : S32x128.Idx → Elt F .i32) ∗ owns (c : Thread nD τ) M2 fullShare Gb ∗ owns (c : Thread nD τ) M3 fullShare Db
            ∗ owns (c : Thread nD τ) M4 fullShare (combineStep Tb Gb Db)) -∗ Q ⟨⟩))
      ⊢ wp frame (wpE (defs₀ (F := F)) Variants.none (c : Thread nD τ) none) E (cc2__combine_body i M1 h1 M2 h2 M3 h3 M4 h4) Q := by
  have hz : (![0, 0] : Fin 2 → ℕ) = fun _ => 0 := by decide
  rw [cc2__combine_body_eq_skeleton]
  unfold cc2__combine_body_skel
  rw [k2_part1_eq_skeleton]
  unfold k2_part1_skel combineStep
  iintro ⟨H1, H2, H3, H4, Hk⟩
  iapply (owns_load hz _ _ _) $$ H1; iintro H1
  iapply (owns_load hz _ _ _) $$ H2; iintro H2
  iapply (owns_load hz _ _ _) $$ H3; iintro H3
  iapply (owns_load hz _ _ _) $$ H4; iintro H4
  iapply (owns_store hz _ _ _ _ _) $$ H4; iintro H4
  simp only [Prog.bind, Prog.bind_ret, wp_pure]
  imodintro
  iapply Hk
  isplitl [H1]; · iexact H1
  isplitl [H2]; · iexact H2
  isplitl [H3]; · iexact H3
  iexact H4

/-! ## The proof data -/

/-- The invariant of the combining call: the scoped memory that its windows do not take. -/
abbrev Φ2 (c : Dev nD) : sProp 𝕄 := Pipeline.scopedRest (Ix := HIx 1) (Name := ℕ) (U := UU) (Lvl := ℕ) (Val := Elt F) spec2 c

/-- The three inputs at the entry valuation. -/
abbrev labAt (c : Dev nD) : S1024x128.Idx → BitVec 32 := Vv c main_v1
/-- The gathered scores the call reads. -/
abbrev gatAt (c : Dev nD) : S1024x128.Idx → F .f32 := Vv c main_v2
/-- The partial sums the call reads. -/
abbrev sumAt (c : Dev nD) : S1024x128.Idx → F .f32 := Vv c main_v3

/-- The region's proof data: the arrays at the entry valuation; after the body the three blocks as fetched and the
    losses of their rows; the scoped rest as the invariant; nothing owed. -/
def dat2 (b : ℕ) (c : Dev nD) : Dat τ (Elt F) (HIx 1) ℕ UU ℕ cfg2 c where
  A w := Vv c (Pipeline.arrRef spec2 w)
  after w t := match w with
    | ⟨0, _⟩ => rowsAt (labAt Vv c) t.val
    | ⟨1, _⟩ => rowsAt (gatAt Vv c) t.val
    | ⟨2, _⟩ => rowsAt (sumAt Vv c) t.val
    | ⟨3, _⟩ => combineStep (rowsAt (labAt Vv c) t.val) (rowsAt (gatAt Vv c) t.val) (rowsAt (sumAt Vv c) t.val)
  Φ _ := Φ2 c
  q _ := fullShare
  owed _ := 0
  recorded _ := recSet (F := F) b c

/-- What a fetch of a row block leaves, for the index values its window gives. -/
theorem rows_fetched {α : Type} (X : S1024x128.Idx → α) (t : Fin cfg2.N) (x : S32x128.Idx) (p : S1024x128.Idx)
    (h0 : (p 0).val = t.val * 32 + 1 * (x 0).val) (h1 : (p 1).val = 0 * 128 + 1 * (x 1).val) : X p = rowsAt X t.val x := by
  have ht : t.val < 32 := t.isLt
  have hx0 : (x 0).val < 32 := (x 0).isLt
  unfold rowsAt
  congr 1
  funext a
  fin_cases a
  · apply Fin.ext; show (p 0).val = (32 * t.val + (x 0).val) % 1024; omega
  · apply Fin.ext; show (p 1).val = (x 1).val; omega

/-- The first window holds a step's rows of the label table. -/
theorem before2_0 (b : ℕ) (c : Dev nD) (t : Fin cfg2.N) (d) : (dat2 Vv b c).before (0 : Fin 4) t d = rowsAt (labAt Vv c) t.val := by
  unfold Dat.before; rw [if_pos (fetch2_0 t)]
  funext x
  have i0 : win2_0.index t 0 = t.val := (by decide +kernel : ∀ t : Fin grid2.N, win2_0.index t 0 = t.val) t
  have i1 : win2_0.index t 1 = 0 := (by decide +kernel : ∀ t : Fin grid2.N, win2_0.index t 1 = 0) t
  exact rows_fetched (labAt Vv c) t x (((cfg2.win 0).blk t).view.emb x)
    (by show win2_0.index t 0 * 32 + 1 * (x 0).val = _; rw [i0]) (by show win2_0.index t 1 * 128 + 1 * (x 1).val = _; rw [i1])

/-- The second window holds a step's rows of the gathered scores. -/
theorem before2_1 (b : ℕ) (c : Dev nD) (t : Fin cfg2.N) (d) : (dat2 Vv b c).before (1 : Fin 4) t d = rowsAt (gatAt Vv c) t.val := by
  unfold Dat.before; rw [if_pos (fetch2_1 t)]
  funext x
  have i0 : win2_1.index t 0 = t.val := (by decide +kernel : ∀ t : Fin grid2.N, win2_1.index t 0 = t.val) t
  have i1 : win2_1.index t 1 = 0 := (by decide +kernel : ∀ t : Fin grid2.N, win2_1.index t 1 = 0) t
  exact rows_fetched (gatAt Vv c) t x (((cfg2.win 1).blk t).view.emb x)
    (by show win2_1.index t 0 * 32 + 1 * (x 0).val = _; rw [i0]) (by show win2_1.index t 1 * 128 + 1 * (x 1).val = _; rw [i1])

/-- The third window holds a step's rows of the partial sums. -/
theorem before2_2 (b : ℕ) (c : Dev nD) (t : Fin cfg2.N) (d) : (dat2 Vv b c).before (2 : Fin 4) t d = rowsAt (sumAt Vv c) t.val := by
  unfold Dat.before; rw [if_pos (fetch2_2 t)]
  funext x
  have i0 : win2_2.index t 0 = t.val := (by decide +kernel : ∀ t : Fin grid2.N, win2_2.index t 0 = t.val) t
  have i1 : win2_2.index t 1 = 0 := (by decide +kernel : ∀ t : Fin grid2.N, win2_2.index t 1 = 0) t
  exact rows_fetched (sumAt Vv c) t x (((cfg2.win 2).blk t).view.emb x)
    (by show win2_2.index t 0 * 32 + 1 * (x 0).val = _; rw [i0]) (by show win2_2.index t 1 * 128 + 1 * (x 1).val = _; rw [i1])

/-- The library's body obligation. -/
theorem body2 (b : ℕ) (c : Dev nD) : BodyObligationLoose (dat2 (F := F) Vv b c) (defs₀ (F := F)) 𝒱₀ (none : HIx 1) Set.univ := fun t => by
  rw [bigSep_W2, bigSep_W2]
  simp only
  rw [show (dat2 Vv b c).Φ t.succ = (dat2 Vv b c).Φ t.castSucc from rfl,
    show (dat2 Vv b c).owesAt (none : HIx 1) t.succ = (dat2 Vv b c).owesAt (none : HIx 1) t.castSucc from rfl]
  iintro ⟨HΦ, Ho, ⟨%d0, H0⟩, ⟨%d1, H1⟩, ⟨%d2, H2⟩, ⟨%d3, H3⟩⟩
  rw [before2_0 Vv b c t d0, before2_1 Vv b c t d1, before2_2 Vv b c t d2]
  iapply (combine_run (F := F) c (grid2.coords t) (win2_0.stage (cfg2.slots t 0)) (hstage2_0 ((cfg2.slots t 0).cast nbuf2_0)) (win2_1.stage (cfg2.slots t 1)) (hstage2_1 ((cfg2.slots t 1).cast nbuf2_1))
    (win2_2.stage (cfg2.slots t 2)) (hstage2_2 ((cfg2.slots t 2).cast nbuf2_2)) (win2_3.stage (cfg2.slots t 3)) (hstage2_3 ((cfg2.slots t 3).cast nbuf2_3))
    (rowsAt (labAt Vv c) t.val) (rowsAt (gatAt Vv c) t.val) (rowsAt (sumAt Vv c) t.val) ((dat2 Vv b c).before (3 : Fin 4) t d3) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## The array the region leaves -/

/-- The losses at an entry named by its row block and its place there. -/
theorem lAll_at (Tt : S1024x128.Idx → BitVec 32) (Gg Dd : S1024x128.Idx → F .f32) (p : S1024x1.Idx) (r : ℕ) (x : S32x1.Idx)
    (h0 : (p 0).val = 32 * r + (x 0).val) (h1 : (p 1).val = (x 1).val) :
    lAll Tt Gg Dd p = combineStep (rowsAt Tt r) (rowsAt Gg r) (rowsAt Dd r) x := by
  have hx : (x 0).val < 32 := (x 0).isLt
  have hr : (p 0).val / 32 = r := by omega
  unfold lAll
  rw [hr]
  congr 1
  funext a
  fin_cases a
  · apply Fin.ext; show (p 0).val % 32 = (x 0).val; omega
  · apply Fin.ext; exact h1

/-- What a point writes back is its block of the losses. -/
theorem flushed2_eq (b : ℕ) (c : Dev nD) (t : Fin cfg2.N) :
    (dat2 Vv b c).flushed 3 t = ((cfg2.win 3).blk t).view.read (Elt F) (lAll (labAt Vv c) (gatAt Vv c) (sumAt Vv c)) := by
  have ht : t.val < 32 := t.isLt
  have i0 : win2_3.index t 0 = t.val := (by decide +kernel : ∀ t : Fin grid2.N, win2_3.index t 0 = t.val) t
  have i1 : win2_3.index t 1 = 0 := (by decide +kernel : ∀ t : Fin grid2.N, win2_3.index t 1 = 0) t
  funext x
  have hx0 : (x 0).val < 32 := (x 0).isLt
  have e0 : ((((cfg2.win 3).blk t).view.emb x) 0).val = 32 * t.val + (x 0).val := by
    show win2_3.index t 0 * 32 + 1 * (x 0).val = _; rw [i0]; omega
  have e1 : ((((cfg2.win 3).blk t).view.emb x) 1).val = (x 1).val := by
    show win2_3.index t 1 * 1 + 1 * (x 1).val = _; rw [i1]; omega
  exact (lAll_at _ _ _ (((cfg2.win 3).blk t).view.emb x) t.val x e0 e1).symm

/-- Every loss is in a block some point writes back. -/
theorem covered2 (i : S1024x1.Idx) : ∃ t : Fin cfg2.N, (cfg2.win 3).flush t = true ∧ i ∈ ((cfg2.win 3).blk t).view.set := by
  have hi : (i 0).val < 1024 := (i 0).isLt
  let t : Fin cfg2.N := ⟨(i 0).val / 32, show _ < 32 by omega⟩
  have hv : t.val = (i 0).val / 32 := rfl
  have i0 : win2_3.index t 0 = t.val := (by decide +kernel : ∀ t : Fin grid2.N, win2_3.index t 0 = t.val) t
  have i1 : win2_3.index t 1 = 0 := (by decide +kernel : ∀ t : Fin grid2.N, win2_3.index t 1 = 0) t
  refine ⟨t, flush2_3 t, ?_⟩
  have h := ((cfg2.win 3).blk t).view.emb_mem_set (ix2 (⟨(i 0).val % 32, Nat.mod_lt _ (by decide)⟩ : Fin 32) (i 1 : Fin 1) : S32x1.Idx)
  have he : ((cfg2.win 3).blk t).view.emb (ix2 (⟨(i 0).val % 32, Nat.mod_lt _ (by decide)⟩ : Fin 32) (i 1 : Fin 1) : S32x1.Idx) = i := by
    funext a
    fin_cases a
    · apply Fin.ext; show win2_3.index t 0 * 32 + 1 * ((i 0).val % 32) = (i 0).val; rw [i0, hv]; omega
    · apply Fin.ext; show win2_3.index t 1 * 1 + 1 * (i 1).val = (i 1).val; rw [i1]; omega
  rwa [he] at h

/-- The region leaves the losses. -/
theorem final2 (b : ℕ) (c : Dev nD) : (dat2 Vv b c).arrAt 3 cfg2.N = lAll (labAt Vv c) (gatAt Vv c) (sumAt Vv c) :=
  (dat2 Vv b c).arrAt_eq_of_cover 3 _ (fun t _ => flushed2_eq Vv b c t) covered2

/-! ## The region -/

/-- The proof data of both pipelines for an entry of this region: this region's, and anything for the other. -/
def pdats2 (b : ℕ) : (p : Fin 2) → (c : Dev nD) → Dat τ (Elt F) (HIx 1) ℕ UU ℕ (Pipeline.pin (pcfgs (F := F)) adm p) c
  | ⟨1, _⟩ => fun c => dat2 Vv b c
  | ⟨0, _⟩ => fun c => junkDat c

set_option backward.isDefEq.respectTransparency.types false in
/-- The region, from every unscoped buffer at `Vv` to every one at `Vp`, which differs from it at the region's result. -/
def reg2 (b : ℕ) (hVp_out : ∀ c, Vp c main_v4 = (dat2 Vv b c).arrAt 3 cfg2.N)
    (hVp_ne : ∀ c (r : Ref sig .tc), r ≠ main_v4 → Vp c r = Vv c r) :
    Pipeline.RegionSeg (pcfgs (F := F)) adm (pdats2 Vv adm b) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body2 Vv b c
  hwaits := Pipeline.hwaits_of_owed_zero _ _ _ _ (K (F := F)).L (K (F := F)).lev 1 fun _ _ => rfl
  pre c := iprop(unscopedBufs c (Vv c) ∗ Pipeline.owesWithin c 0 (recSet (F := F) b c))
  post c := iprop(unscopedBufs c (Vp c) ∗ Pipeline.owesWithin c 0 (recSet (F := F) b c))
  X _ := BI.emp
  Y _ := BI.emp
  Z c := Pipeline.unscopedRest (Ix := HIx 1) (Name := ℕ) (U := UU) (Lvl := ℕ) spec2 c (Vv c)
  hentry c := by
    rw [Pipeline.ownSems0_none]
    have hsplit := Pipeline.arrays_of_unscopedBufs (p := 1) (pcfgs (F := F)) adm (pdats2 Vv adm b) launch2.win launch2.arr_whole c
      ((pdats2 Vv adm b 1 c).share_full fun _ => rfl) (Vv c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hrest
  hin c := by
    rw [show (pdats2 Vv adm b 1 c).Φ 0 = Φ2 c from rfl]
    iintro ⟨-, -, Hr⟩; iexact Hr
  hout c := by
    rw [Pipeline.ownSems0_none, show (pdats2 Vv adm b 1 c).Φ (Fin.last _) = Φ2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats2 Vv adm b) ((pdats2 Vv adm b 1 c).share_full fun _ => rfl) (Vv c) (Vp c) ((pdats2 Vv adm b 1 c).arrAt · cfg2.N)
      (fun w => by
        fin_cases w
        · exact ((pdats2 Vv adm b 1 c).arrAt_in 0 rfl _).trans (hVp_ne c main_v1 (by decide)).symm
        · exact ((pdats2 Vv adm b 1 c).arrAt_in 1 rfl _).trans (hVp_ne c main_v2 (by decide)).symm
        · exact ((pdats2 Vv adm b 1 c).arrAt_in 2 rfl _).trans (hVp_ne c main_v3 (by decide)).symm
        · exact (hVp_out c).symm)
      (fun r hr => hVp_ne c r fun h => hr (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · exact waitPairs_rec (F := F) b c h
    iexact HO

end Cert.Proof.Nll

end
-- ==== Proof.Main.lean ====
/-
  The whole program's run: the launch's ghost state, @main on the TensorCore — the host's label table, the SparseCore
  call, the two TensorCore regions, the closing reshape — and the final memory.
-/
module

public import proofs.«01_k».proof.Proof.TileObl
public import proofs.«01_k».proof.Proof.DenseReg
public import proofs.«01_k».proof.Proof.CombineReg

@[expose] public section

noncomputable section

namespace Cert.Proof.Nll

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held TRef nullary unary binary)

variable {F : FTy → Type} [FloatOps F] [Named F]

local notation "𝕄" => MM F

/-! ## The regions inside the whole program -/

/-- Neither pipeline has a prefetched table. -/
abbrev adm : (p : Fin 2) → (pcfgs (F := F) p).Adm := fun p => (cfgs p).toPCfg_adm

/-- The ghost state the launch deals a device for a pipeline. -/
abbrev ghostP (p : Fin 2) (d : Dev nD) : sProp 𝕄 :=
  iprop(Pipeline.cellsGhost (Pipeline.pin (pcfgs (F := F)) adm) EP p d ∗ Pipeline.toksInit (Pipeline.pin (pcfgs (F := F)) adm) EP p d)

/-- A region of the program, run where @main enters it. -/
theorem wp_region [∀ e, Nonempty (Elt F e)] {p : Fin 2} {pd : (p : Fin 2) → (c : Dev nD) → Pipeline.Dat τ (Elt F) (HIx 1) ℕ UU ℕ (Pipeline.pin (pcfgs (F := F)) adm p) c}
    (R : Pipeline.RegionSeg (pcfgs (F := F)) adm pd (none : HIx 1) defs₀ 𝒱₀ (K (F := F)).L (K (F := F)).lev p) (d : Dev nD) (Φ : PUnit → sProp 𝕄) :
    iprop((iprop(boundary (d.tc : Thread nD τ) ∗ R.post d) -∗ Φ ⟨⟩)
        ∗ boundary (d.tc : Thread nD τ) ∗ R.pre d ∗ levAts (K (F := F)).L (K (F := F)).lev ∗ ghostP p d)
      ⊢ wp frame (wpE ((K (F := F)).defs (D (F := F))) 𝒱 (SparseCore.T d) none) Set.univ
          (Prog.lift (.customCall (SparseCore.inner (Pipeline.entry p)) ())) Φ := by
  refine BI.Entails.trans ?_ ((K (F := F)).wp_liftProg (D (F := F)) 𝒱 (SparseCore.T d) Set.univ none (.op (.customCall (Pipeline.entry p) ()) .ret) Φ)
  refine (show _ ⊢ iprop((iprop(boundary (d.tc : Thread nD τ) ∗ R.post d) -∗ wp frame (wpE (D (F := F)) 𝒱 (d.tc : Thread nD τ) none) Set.univ (.ret ⟨⟩) Φ)
        ∗ boundary (d.tc : Thread nD τ) ∗ R.pre d ∗ levAts (K (F := F)).L (K (F := F)).lev ∗ Pipeline.cellsGhost (Pipeline.pin (pcfgs (F := F)) adm) EP p d ∗ Pipeline.toksInit (Pipeline.pin (pcfgs (F := F)) adm) EP p d) from ?_).trans
    (Pipeline.RegionSeg.wp (pcfgs (F := F)) adm pd (none : HIx 1) cellOf_inj EP defs₀ 𝒱₀ (K (F := F)).L (K (F := F)).lev R d none
      (fun u hu => absurd hu (Option.not_mem_none u)) .ret Φ)
  iintro ⟨Hk, Hb, Hp, Hl, Hg, Ht⟩
  isplitl [Hk]
  · iintro H
    rw [wp_ret]; imodintro
    iapply Hk; iexact H
  isplitl [Hb]; · iexact Hb
  isplitl [Hp]; · iexact Hp
  isplitl [Hl]; · iexact Hl
  isplitl [Hg]; · iexact Hg
  iexact Ht

/-- After the last SparseCore call the TensorCore owes nothing: what it has recorded can be lent to a region. -/
theorem tcSt_lend (d : Dev nD) :
    (K (F := F)).tcSt EH d 1 ⊢ (iprop(Pipeline.owesWithin d 0 (recSet (F := F) 8 d)
      ∗ (Pipeline.owesWithin d 0 (recSet (F := F) 8 d) -∗ (K (F := F)).tcSt EH d 1)) : sProp 𝕄) := by
  unfold SparseCore.Cfg.tcSt Pipeline.owesWithin
  rw [(K (F := F)).Otc_end d (le_refl 1)]
  iintro ⟨⟨%W, %hW, HO⟩, Hrest⟩
  isplitl [HO]
  · iexists W; isplitr; · ipureintro; exact fun p hp => hW p hp
    iexact HO
  iintro ⟨%W', %hW', HO⟩
  isplitl [HO]
  · iexists W'; isplitr; · ipureintro; exact fun p hp => hW' hp
    iexact HO
  iexact Hrest

/-! ## The host's operations and the buffers' contents along @main -/

variable (m : (ℓ : Loc nD τ sig) → Buf (Elt F) ℓ) (ρ : Dev nD → PrngReg)

/-- The two label lists side by side, the zero that pads them, and the padded table. -/
abbrev opCat : HloOp τ sig (Elt F) := binary main_arg2 main_arg1 main_v0 ((fun a b => concatenate S1024x100 1 [⟨S1024x50, a⟩, ⟨S1024x50, b⟩] concatenates_S1024x50_S1024x50_S1024x100_d1) : (⟨S1024x50, .i32⟩ : BufTy).Contents (Elt F) → (⟨S1024x50, .i32⟩ : BufTy).Contents (Elt F) → (⟨S1024x100, .i32⟩ : BufTy).Contents (Elt F))
/-- The padding word. -/
abbrev opZero : HloOp τ sig (Elt F) := nullary main_c (constantI S_ 32 0#32)
/-- The padding word, passed on unchanged. -/
abbrev opConv : HloOp τ sig (Elt F) := TRef.unary (TRef.of (T := ⟨S_, .i32⟩) main_c) main_call0.v0 id
/-- The table padded to 128 columns. -/
abbrev opPad : HloOp τ sig (Elt F) := TRef.binary (TRef.of (T := ⟨S1024x100, .i32⟩) main_v0) main_call0.v0 main_call0.v1 (fun x v => pad S1024x128 ![0, 0] ![0, 28] ![0, 0] x v pads_S1024x100_S1024x128_000_0280 h_S_)
/-- The closing reshape. -/
abbrev opOut : HloOp τ sig (Elt F) := StableHlo.reshape main_v4 main_v5 (rfl : (.f32 : EltTy) = .f32) shapeCasts_S1024x1_S1024

/-- The arrays at launch. -/
def W0 (d : Dev nD) : Valuation τ sig (Elt F) := fun b => m (d, b)
/-- The arrays when the table is made. -/
def W1 (d : Dev nD) : Valuation τ sig (Elt F) := opPad.result (opConv.result (opZero.result (opCat.result (W0 m d))))

/-- The scores and the label table the SparseCore call reads. -/
def fO (d : Dev nD) : S1024x100000.Idx → Elt F .f32 := W1 m d (Proc.devRef .tc main_arg0)
/-- The label table. -/
def fT (d : Dev nD) : S1024x128.Idx → BitVec 32 := W1 m d (Proc.devRef .tc main_v1)

/-- The arrays after the gather. -/
def W2 (d : Dev nD) : Valuation τ sig (Elt F) := Function.update (W1 m d) (Proc.devRef .tc main_v2) (gAll (fO m d) (fT m d))
/-- The arrays after the dense call. -/
def W3 (d : Dev nD) : Valuation τ sig (Elt F) := Function.update (W2 m d) (Proc.devRef .tc main_v3) (dAll (fO m d))
/-- The arrays after the combining call. -/
def W4 (d : Dev nD) : Valuation τ sig (Elt F) :=
  Function.update (W3 m d) (Proc.devRef .tc main_v4) (lAll (fT m d) (gAll (fO m d) (fT m d)) (dAll (fO m d)))
/-- The arrays at the end. -/
def W5 (d : Dev nD) : Valuation τ sig (Elt F) := opOut.result (W4 m d)

/-- One update of a valuation, read elsewhere and at its own place. -/
theorem upd_ne (W : Valuation τ sig (Elt F)) {a r : Ref sig .tc} (v) (h : r ≠ a) :
    Function.update W (Proc.devRef .tc a) v (Proc.devRef .tc r) = W (Proc.devRef .tc r) :=
  Function.update_of_ne (StableHlo.devRef_ne_of_ne h) _ _
/-- An array just written holds what was written. -/
theorem upd_self (W : Valuation τ sig (Elt F)) {a : Ref sig .tc} (v) :
    Function.update W (Proc.devRef .tc a) v (Proc.devRef .tc a) = v := Function.update_self _ _ _

/-- The contents the two regions start from and leave, as the regions' records take them. -/
abbrev V2 (c : Dev nD) (b : Ref sig .tc) : Buf (Elt F) ((c : Thread nD τ).loc b) := W2 m c (Proc.devRef .tc b)
/-- The arrays the combining call reads. -/
abbrev V3 (c : Dev nD) (b : Ref sig .tc) : Buf (Elt F) ((c : Thread nD τ).loc b) := W3 m c (Proc.devRef .tc b)
/-- The arrays the combining call leaves. -/
abbrev V4 (c : Dev nD) (b : Ref sig .tc) : Buf (Elt F) ((c : Thread nD τ).loc b) := W4 m c (Proc.devRef .tc b)

/-- The dense region between its two states of the buffers. -/
def seg1 := reg1 (V2 m) (V3 m) adm 8
  (fun c => (upd_self (W2 m c) _).trans ((congrArg dAll (upd_ne (W1 m c) (a := main_v2) (r := main_arg0) _ (by decide)).symm).trans (final1 (V2 m) 8 c).symm))
  (fun c r hr => upd_ne (W2 m c) _ hr)

/-- What the combining region reads. -/
theorem lab3 (c : Dev nD) : labAt (V3 m) c = fT m c :=
  (upd_ne (W2 m c) (a := main_v3) (r := main_v1) _ (by decide)).trans (upd_ne (W1 m c) (a := main_v2) (r := main_v1) _ (by decide))
/-- The combining call reads the gathered scores. -/
theorem gat3 (c : Dev nD) : gatAt (V3 m) c = gAll (fO m c) (fT m c) :=
  (upd_ne (W2 m c) (a := main_v3) (r := main_v2) _ (by decide)).trans (upd_self (W1 m c) _)
/-- The combining call reads the partial sums. -/
theorem sum3 (c : Dev nD) : sumAt (V3 m) c = dAll (fO m c) := upd_self (W2 m c) _

/-- The combining region between its two states of the buffers. -/
def seg2 := reg2 (V3 m) (V4 m) adm 8
  (fun c => (upd_self (W3 m c) _).trans (by rw [final2, lab3, gat3, sum3]))
  (fun c r hr => upd_ne (W3 m c) _ hr)

/-! ## @main on the TensorCore -/

/-- The three buffers of the SparseCore call out of all the unscoped ones. -/
theorem held_call (d : Dev nD) (W : Valuation τ sig (Elt F)) :
    (held (SparseCore.T d : Thread nD τ) ucRefs W : sProp 𝕄)
      = iprop(((oLoc d ↦{fullShare} W (Proc.devRef .tc main_arg0)) ∗ (tLoc d ↦{fullShare} W (Proc.devRef .tc main_v1)) ∗ gLoc d ↦{fullShare} W (Proc.devRef .tc main_v2))
        ∗ held (SparseCore.T d : Thread nD τ) (ucRefs \ {Proc.devRef .tc main_arg0, Proc.devRef .tc main_v1, Proc.devRef .tc main_v2}) W) := by
  rw [StableHlo.held_sub_split (SparseCore.T d : Thread nD τ) (T := {Proc.devRef .tc main_arg0, Proc.devRef .tc main_v1, Proc.devRef .tc main_v2}) (S := ucRefs) (by decide) W]
  congr 1
  unfold held
  rw [SparseCore.bigSep_insert' (by decide), SparseCore.bigSep_insert' (by decide), bigSep_singleton]

/-- The other buffers keep their contents through the SparseCore call. -/
theorem held_rest (d : Dev nD) :
    (held (SparseCore.T d : Thread nD τ) (ucRefs \ {Proc.devRef .tc main_arg0, Proc.devRef .tc main_v1, Proc.devRef .tc main_v2}) (W1 m d) : sProp 𝕄)
      = held (SparseCore.T d : Thread nD τ) (ucRefs \ {Proc.devRef .tc main_arg0, Proc.devRef .tc main_v1, Proc.devRef .tc main_v2}) (W2 m d) :=
  StableHlo.held_congr _ fun b hb => by
    unfold W2
    rw [Function.update_of_ne]
    rintro rfl
    exact absurd hb (by decide)

/-- Before the call: the operands at their contents. -/
theorem held_in (d : Dev nD) : (held (SparseCore.T d : Thread nD τ) ucRefs (W1 m d) : sProp 𝕄)
    ⊢ iprop((bigSep Finset.univ fun c : Fin ((K (F := F)).nCore 0) => (P (fO m) (fT m)).st 0 d c) ∗ held0 (fO m) (fT m) d
        ∗ held (SparseCore.T d : Thread nD τ) (ucRefs \ {Proc.devRef .tc main_arg0, Proc.devRef .tc main_v1, Proc.devRef .tc main_v2}) (W2 m d)) := by
  rw [held_call, held_rest]
  iintro ⟨H, Hr⟩
  ihave H := (show (iprop((oLoc d ↦{fullShare} W1 m d (Proc.devRef .tc main_arg0)) ∗ (tLoc d ↦{fullShare} W1 m d (Proc.devRef .tc main_v1)) ∗ gLoc d ↦{fullShare} W1 m d (Proc.devRef .tc main_v2)) : sProp 𝕄) ⊢ _
    from call_in (fO m) (fT m) d (W1 m d (Proc.devRef .tc main_v2))) $$ H
  icases H with ⟨H1, H2⟩
  isplitl [H1]; · iexact H1
  isplitl [H2]; · iexact H2
  iexact Hr

/-- After the call: the gathered entries in their buffer. -/
theorem held_out (d : Dev nD) :
    iprop((bigSep Finset.univ fun c : Fin ((K (F := F)).nCore 0) => (P (fO m) (fT m)).dn 0 d c) ∗ held0 (fO m) (fT m) d
        ∗ held (SparseCore.T d : Thread nD τ) (ucRefs \ {Proc.devRef .tc main_arg0, Proc.devRef .tc main_v1, Proc.devRef .tc main_v2}) (W2 m d))
      ⊢ (held (SparseCore.T d : Thread nD τ) ucRefs (W2 m d) : sProp 𝕄) := by
  rw [held_call]
  have e0 : W2 m d (Proc.devRef .tc main_arg0) = fO m d := upd_ne (W1 m d) (a := main_v2) (r := main_arg0) _ (by decide)
  have e1 : W2 m d (Proc.devRef .tc main_v1) = fT m d := upd_ne (W1 m d) (a := main_v2) (r := main_v1) _ (by decide)
  have e2 : W2 m d (Proc.devRef .tc main_v2) = gAll (fO m d) (fT m d) := upd_self (W1 m d) _
  rw [e0, e1, e2]
  iintro ⟨H1, H2, Hr⟩
  isplitr [Hr]
  · iapply (call_out (fO m) (fT m) d)
    isplitl [H1]; · iexact H1
    iexact H2
  iexact Hr

/-- The buffers at a valuation, in a region's spelling and the host's. -/
theorem bufs_held (d : Dev nD) (W : Valuation τ sig (Elt F)) (O : sProp 𝕄) :
    (iprop(unscopedBufs d (fun b => W (Proc.devRef .tc b)) ∗ O) ⊢ iprop(held (SparseCore.T d : Thread nD τ) ucRefs W ∗ O))
      ∧ (iprop(held (SparseCore.T d : Thread nD τ) ucRefs W ∗ O) ⊢ iprop(unscopedBufs d (fun b => W (Proc.devRef .tc b)) ∗ O)) := by
  rw [show (unscopedBufs d (fun b => W (Proc.devRef .tc b)) : sProp 𝕄) = held (SparseCore.T d : Thread nD τ) ucRefs W from unscopedBufs_held d W]
  exact ⟨BI.Entails.refl _, BI.Entails.refl _⟩

/-- What a device holds when @main has returned. -/
abbrev FIN (d : Dev nD) : sProp 𝕄 := held (SparseCore.T d : Thread nD τ) ucRefs (W5 m d)

/-- @main on device `d`'s TensorCore. -/
theorem hmain [∀ e, Nonempty (Elt F e)] (κ : GSem nD τ sig → ℕ) (d : Dev nD) :
    iprop((K (F := F)).ctx EH (P (fO m) (fT m)) κ ∗ (K (F := F)).tcSt EH d 0 ∗ (K (F := F)).tcRes m ρ d ∗ (ghostP 0 d ∗ ghostP 1 d))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d : Thread nD τ) ucRefs (W0 m d) from unscopedBufs_held d (W0 m d)]
  simp only [main, fn_pad.body, wp_bind, wp_pure]
  iintro ⟨#Hctx, Hst, ⟨Hb, Hh, Hts, -⟩, Hg0, Hg1⟩
  ihave #Hlev := (SparseCore.Cfg.ctx_levAts (K := K (F := F)) (EH := EH) (P := P (fO m) (fT m)) κ) $$ Hctx
  iapply (StableHlo.wp_hlo_within 𝒱 (SparseCore.T d : Thread nD τ) none Set.univ (op := opCat) (S := ucRefs) (show ({Proc.devRef .tc main_arg2, Proc.devRef .tc main_arg1, Proc.devRef .tc main_v0} : Finset (DevRef τ sig)) ⊆ ucRefs by decide) (V := W0 m d)) $$ [Hb Hh]
  · isplitl [Hb]; · iexact Hb
    iexact Hh
  iintro ⟨Hb, Hh⟩
  rw [wp_ret]; imodintro
  iapply (StableHlo.wp_hlo_within 𝒱 (SparseCore.T d : Thread nD τ) none Set.univ (op := opZero) (S := ucRefs) (show ({Proc.devRef .tc main_c} : Finset (DevRef τ sig)) ⊆ ucRefs by decide)) $$ [Hb Hh]
  · isplitl [Hb]; · iexact Hb
    iexact Hh
  iintro ⟨Hb, Hh⟩
  rw [wp_ret]; imodintro
  iapply (StableHlo.wp_hlo_within 𝒱 (SparseCore.T d : Thread nD τ) none Set.univ (op := opConv) (S := ucRefs) (show ({Proc.devRef .tc main_c, Proc.devRef .tc main_call0_v0} : Finset (DevRef τ sig)) ⊆ ucRefs by decide)) $$ [Hb Hh]
  · isplitl [Hb]; · iexact Hb
    iexact Hh
  iintro ⟨Hb, Hh⟩
  rw [wp_ret]; imodintro
  iapply (StableHlo.wp_hlo_within 𝒱 (SparseCore.T d : Thread nD τ) none Set.univ (op := opPad) (S := ucRefs) (show ({Proc.devRef .tc main_v0, Proc.devRef .tc main_call0_v0, Proc.devRef .tc main_v1} : Finset (DevRef τ sig)) ⊆ ucRefs by decide)) $$ [Hb Hh]
  · isplitl [Hb]; · iexact Hb
    iexact Hh
  iintro ⟨Hb, Hh⟩
  rw [wp_ret]; imodintro; imodintro
  ihave Hh := (show (held (SparseCore.T d : Thread nD τ) ucRefs (opPad.result (opConv.result (opZero.result (opCat.result (W0 m d))))) : sProp 𝕄) ⊢ _ from held_in m d) $$ Hh
  icases Hh with ⟨Hc, H0, Hr⟩
  iapply ((K (F := F)).wp_run (D (F := F)) 𝒱 (EH := EH) (P := P (fO m) (fT m)) κ d 0) $$ [Hst Hc H0 Hr Hb Hts Hg0 Hg1]
  isplitr; · iexact Hctx
  isplitl [Hst]; · iexact Hst
  isplitl [Hc]; · iexact Hc
  iintro ⟨Hst, Hdn⟩
  ihave Hh := (held_out m d) $$ [Hdn H0 Hr]
  · isplitl [Hdn]; · iexact Hdn
    isplitl [H0]; · iexact H0
    iexact Hr
  ihave Hst := (show (K (F := F)).tcSt EH d ((0 : Fin 1).val + 1) ⊢ _ from tcSt_lend d) $$ Hst
  icases Hst with ⟨HO, Hback⟩
  ihave Hpre := (show iprop(held (SparseCore.T d : Thread nD τ) ucRefs (W2 m d) ∗ Pipeline.owesWithin d 0 (recSet (F := F) 8 d)) ⊢ (seg1 m).pre d from (bufs_held d (W2 m d) _).2) $$ [Hh HO]
  · isplitl [Hh]; · iexact Hh
    iexact HO
  iapply (wp_region (seg1 m) d) $$ [Hb Hpre Hts Hg0 Hg1 Hback]
  isplitr [Hb Hpre Hg0]
  swap
  · isplitl [Hb]; · iexact Hb
    isplitl [Hpre]; · iexact Hpre
    isplitr; · iexact Hlev
    iexact Hg0
  iintro ⟨Hb, Hpost⟩
  ihave Hpre := (show (seg1 m).post d ⊢ (seg2 m).pre d from BI.Entails.refl iprop(unscopedBufs d (V3 m d) ∗ Pipeline.owesWithin d 0 (recSet (F := F) 8 d))) $$ Hpost
  iapply (wp_region (seg2 m) d) $$ [Hb Hpre Hts Hg1 Hback]
  isplitr [Hb Hpre Hg1]
  swap
  · isplitl [Hb]; · iexact Hb
    isplitl [Hpre]; · iexact Hpre
    isplitr; · iexact Hlev
    iexact Hg1
  iintro ⟨Hb, Hpost⟩
  ihave Hpost := (show (seg2 m).post d ⊢ iprop(held (SparseCore.T d : Thread nD τ) ucRefs (W4 m d) ∗ Pipeline.owesWithin d 0 (recSet (F := F) 8 d)) from (bufs_held d (W4 m d) _).1) $$ Hpost
  icases Hpost with ⟨Hh, HO⟩
  iapply (StableHlo.wp_hlo_within 𝒱 (SparseCore.T d : Thread nD τ) none Set.univ (op := opOut) (S := ucRefs) (show ({Proc.devRef .tc main_v4, Proc.devRef .tc main_v5} : Finset (DevRef τ sig)) ⊆ ucRefs by decide)) $$ [Hb Hh]
  · isplitl [Hb]; · iexact Hb
    iexact Hh
  iintro ⟨Hb, Hh⟩
  rw [wp_ret]; imodintro; imodintro
  isplitl [HO Hback]; · iapply Hback; iexact HO
  isplitl [Hh]; · iexact Hh
  isplitl [Hb]; · iexact Hb
  iexact Hts

/-! ## The launch's ghost state -/

/-- The ghost state at launch. -/
def u₀ : UU := (initOf (K (F := F)).hsCells (K (F := F)).hsToks,
  (initOf (Pipeline.PerCore.cells (fun _ : Dev nD => Pipeline.pin (pcfgs (F := F)) adm) cellOf_inj)
    (Pipeline.PerCore.launchToks (fun _ : Dev nD => Pipeline.pin (pcfgs (F := F)) adm) cellOf_inj), 1))

/-- The handshakes' part and the pipelines' part of the launch's element. -/
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- A device's share for both pipelines. -/
theorem ghosts_eq (d : Dev nD) (A B : Fin 2 → Dev nD → sProp 𝕄) :
    (iprop((bigSep Finset.univ fun p => A p d) ∗ bigSep Finset.univ fun p => B p d) : sProp 𝕄) ⊢ iprop((A 0 d ∗ B 0 d) ∗ (A 1 d ∗ B 1 d)) := by
  rw [bigSep_W1 (fun p => A p d), bigSep_W1 (fun p => B p d)]
  iintro ⟨⟨H1, H2⟩, H3, H4⟩
  isplitl [H1 H3]
  · isplitl [H1]; · iexact H1
    iexact H3
  isplitl [H2]; · iexact H2
  iexact H4

/-- The ghost state at launch gives every thread what it starts from. -/
theorem hu₀ (fo : Dev nD → S1024x100000.Idx → Elt F .f32) (ft : Dev nD → S1024x128.Idx → BitVec 32) : (ownU (u₀ (F := F)) : sProp 𝕄)
    ⊢ |={Set.univ}=> iprop(BI.own (EH (initOf (K (F := F)).hsCells (K (F := F)).hsToks))
        ∗ (bigSep Finset.univ fun d : Dev nD => iprop(ghostP (F := F) 0 d ∗ ghostP 1 d))
        ∗ bigSep Finset.univ fun thr : Thread nD τ => bigSep Finset.univ fun q : Fin 1 => (P fo ft).x q thr) := by
  unfold u₀
  iintro Hu
  ihave H := (ownU_split _ _) $$ Hu
  icases H with ⟨HH, HK⟩
  imod (Pipeline.fund_ghost (Pipeline.pin (pcfgs (F := F)) adm) EP cellOf_inj) $$ HK with ⟨Hg, Ht⟩
  imodintro
  isplitl [HH]; · iexact HH
  isplitl [Hg Ht]
  · have h : (iprop((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c)) : sProp 𝕄)
        ⊢ bigSep Finset.univ fun d : Dev nD => iprop(ghostP (F := F) 0 d ∗ ghostP 1 d) := by
      rw [← bigSep_sep']
      exact bigSep_mono fun d _ => ghosts_eq d _ _
    iapply h
    isplitl [Hg]; · iexact Hg
    iexact Ht
  · have h : (iprop(emp) : sProp 𝕄) ⊢ bigSep Finset.univ fun thr : Thread nD τ => bigSep Finset.univ fun q : Fin 1 => (P fo ft).x q thr := by
      rw [show (bigSep Finset.univ fun thr : Thread nD τ => bigSep Finset.univ fun q : Fin 1 => (P fo ft).x q thr) = (iprop(emp) : sProp 𝕄) from
        (bigSep_congr fun thr _ => bigSep_univ_of_subsingleton (0 : Fin 1)).trans (bigSep_emp_const _)]
    iapply h; iempintro

/-! ## The final memory -/

/-- One held buffer, read in the final memory. -/
theorem held_read (d : Dev nD) (W : Valuation τ sig (Elt F)) (s' : Phys nD τ sig (Elt F)) (b : DevRef τ sig) (hb : b ∈ ucRefs) :
    iprop(held (SparseCore.T d : Thread nD τ) ucRefs W ∗ SI s') ⊢ (⌜s'.mem.mem (d, b) = W b⌝ : sProp 𝕄) := by
  unfold held
  rw [SparseCore.bigSep_erase' hb]
  iintro ⟨⟨H, -⟩, HSI⟩
  ihave H := (SI_pointsTo_agree (st := s') (ℓ := (d, b)) (I := Finset.univ) (q := fullShare) (f := W b)) $$ [HSI H]
  · isplitl [HSI] <;> iassumption
  icases H with %h
  ipureintro; exact funext fun i => h i (Finset.mem_univ i)

/-- Every unscoped buffer of the device ends at the last valuation. -/
def fq (d : Dev nD) (s' : Phys nD τ sig (Elt F)) : Prop := ∀ b ∈ (ucRefs : Finset (DevRef τ sig)), s'.mem.mem (d, b) = W5 m d b

/-- The final resources determine the final memory's loss and arguments. -/
theorem hfin (d : Dev nD) (s' : Phys nD τ sig (Elt F)) : iprop(FIN m d ∗ SI s') ⊢ (⌜fq m d s'⌝ : sProp 𝕄) := by
  unfold fq
  exact ((Laws.forall_intro fun b => (Laws.forall_intro fun hb => held_read d (W5 m d) s' b hb).trans Laws.pure_forall.2)).trans Laws.pure_forall.2

/-! ## The program's run -/

/-- The host's table leaves every other buffer. -/
theorem W1_ne (d : Dev nD) {r : Ref sig .tc} (n1 : r ≠ main_v1) (nv : r ≠ main_call0_v0) (nc : r ≠ main_c) (n0 : r ≠ main_v0) :
    W1 m d (Proc.devRef .tc r) = m (d, Proc.devRef .tc r) :=
  (StableHlo.binary_result_ne main_v0 main_call0_v0 main_v1 _ _ _ _ _ n1).trans <|
    (StableHlo.unary_result_ne main_c main_call0_v0 _ _ _ _ nv).trans <| (StableHlo.nullary_result_ne main_c _ _ _ nc).trans <|
    (StableHlo.binary_result_ne main_arg2 main_arg1 main_v0 _ _ _ _ _ n0)

/-- The final valuation at an argument is the launch's. -/
theorem W5_arg (d : Dev nD) (r : Ref sig .tc) (h : r = main_arg0 ∨ r = main_arg1 ∨ r = main_arg2) :
    W5 m d (Proc.devRef .tc r) = m (d, Proc.devRef .tc r) := by
  have n5 : r ≠ main_v5 := by rcases h with rfl | rfl | rfl <;> decide
  have n4 : r ≠ main_v4 := by rcases h with rfl | rfl | rfl <;> decide
  have n3 : r ≠ main_v3 := by rcases h with rfl | rfl | rfl <;> decide
  have n2 : r ≠ main_v2 := by rcases h with rfl | rfl | rfl <;> decide
  have n1 : r ≠ main_v1 := by rcases h with rfl | rfl | rfl <;> decide
  have nv : r ≠ main_call0_v0 := by rcases h with rfl | rfl | rfl <;> decide
  have nc : r ≠ main_c := by rcases h with rfl | rfl | rfl <;> decide
  have n0 : r ≠ main_v0 := by rcases h with rfl | rfl | rfl <;> decide
  exact (StableHlo.reshape_result_ne main_v4 main_v5 _ _ _ _ _ n5).trans <| (upd_ne (W3 m d) _ n4).trans <| (upd_ne (W2 m d) _ n3).trans <|
    (upd_ne (W1 m d) _ n2).trans (W1_ne m d n1 nv nc n0)

/-- The table the label lists make: side by side and padded with zeros to 128 columns. -/
def tab (a2 a1 : S1024x50.Idx → BitVec 32) : S1024x128.Idx → BitVec 32 :=
  pad S1024x128 ![0, 0] ![0, 28] ![0, 0] (concatenate S1024x100 1 [⟨S1024x50, a2⟩, ⟨S1024x50, a1⟩] concatenates_S1024x50_S1024x50_S1024x100_d1)
    (constantI S_ 32 0#32) pads_S1024x100_S1024x128_000_0280 h_S_

/-- The loss as the kernel leaves it, from the three arguments. -/
def kLoss (x : S1024x100000.Idx → F .f32) (a1 a2 : S1024x50.Idx → BitVec 32) : S1024.Idx → F .f32 :=
  shapeCast S1024 (lAll (tab a2 a1) (gAll x (tab a2 a1)) (dAll x)) shapeCasts_S1024x1_S1024

/-- The scores the call reads are the argument. -/
theorem fO_eq (d : Dev nD) : fO m d = m (d, Proc.devRef .tc main_arg0) :=
  W1_ne m d (by decide) (by decide) (by decide) (by decide)

/-- The table the call reads is the padded labels. -/
theorem fT_eq (d : Dev nD) : fT m d = tab (m (d, Proc.devRef .tc main_arg2)) (m (d, Proc.devRef .tc main_arg1)) := by
  unfold fT W1 opPad opConv opZero opCat
  after_results_simp
  rfl

/-- The result's final contents. -/
theorem W5_out (d : Dev nD) : W5 m d (Proc.devRef .tc main_v5)
    = kLoss (m (d, Proc.devRef .tc main_arg0)) (m (d, Proc.devRef .tc main_arg1)) (m (d, Proc.devRef .tc main_arg2)) := by
  unfold W5 opOut
  rw [StableHlo.reshape_result]
  unfold kLoss
  rw [← fT_eq m d, ← fO_eq m d]
  have e : W4 m d (Proc.devRef .tc main_v4) = lAll (fT m d) (gAll (fO m d) (fT m d)) (dAll (fO m d)) := upd_self (W3 m d) _
  rw [e]
  rfl

/-- What is claimed of a run: the result, the arguments, and every semaphore at zero. -/
def QC : PUnit × MemSt nD τ sig (Elt F) → Prop := fun r =>
  (∀ c : Dev nD, r.2.mem ((c.tc : Thread nD τ).loc main_v5)
      = kLoss (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
  ∧ r.2.sem = fun _ => 0

/-- The final memory of a run is what is claimed. -/
theorem fq_QC (s' : Phys nD τ sig (Elt F)) (h : ∀ d, fq m d s') (hz : s'.mem.sem = fun _ => 0) : QC m (⟨⟩, s'.mem) :=
  ⟨fun c => ⟨(h c _ (show (Proc.devRef .tc main_v5 : DevRef τ sig) ∈ ucRefs by decide)).trans (W5_out m c), (h c _ (show (Proc.devRef .tc main_arg0 : DevRef τ sig) ∈ ucRefs by decide)).trans (W5_arg m c main_arg0 (.inl rfl)),
    (h c _ (show (Proc.devRef .tc main_arg1 : DevRef τ sig) ∈ ucRefs by decide)).trans (W5_arg m c main_arg1 (.inr (.inl rfl))), (h c _ (show (Proc.devRef .tc main_arg2 : DevRef τ sig) ∈ ucRefs by decide)).trans (W5_arg m c main_arg2 (.inr (.inr rfl)))⟩, hz⟩

/-- Every run of the program from a memory whose labels name classes in range. -/
theorem run_main [∀ e, Nonempty (Elt F e)] (hM : ∀ d p, (hot (fT m d p)).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (fO m) (fT m)) (A := ∅) facts v₀
    (fun q hq => match q with | 0 => nomatch hq)
    (fun q _ => match q with | 0 => tileObl (fO m) (fT m) hM)
    (fun q _ => match q with | 0 => SparseCore.Cfg.VecSplit.of_plain (vecSplit (fO m) (fT m)))
    m ρ main (fun d => iprop(ghostP 0 d ∗ ghostP 1 d)) (FIN m) (u₀ (F := F)) (sep_elim_left.trans (hu₀ (fO m) (fT m))) (hmain m ρ) (fq m) (hfin m) (QC m) (fq_QC m)

end Cert.Proof.Nll

end
-- ==== Proof.Labels.lean ====
/-
  The label table entry by entry, and what the precondition says of it: every entry names a class in range.
-/
module

public import proofs.«01_k».proof.Proof.Main
public import Idealize.ShloMosaic.Lib.ReduceAll
public import Idealize.ShloMosaic.Lib.KernelVsHost
public import Idealize.ShloMosaic.Lib.WordArith
public import Idealize.ShloMosaic.Lib.StableHlo.Predicate

@[expose] public section

noncomputable section

namespace Cert.Proof.Nll

open Cert.KernelIdeal Cert.KernelIdeal.Gen
open Idealize.ShloMosaic Idealize.ShloMosaic.TcCoe
open Idealize.ShloMosaic.ValueIdx

/-! ## The table's entries -/

/-- The 100 labels of a row: the test labels, then the labels. -/
def lab (a2 a1 : S1024x50.Idx → BitVec 32) (b : Fin 1024) (k : Fin 100) : BitVec 32 :=
  if h : k.val < 50 then a2 (ix2 b (⟨k.val, h⟩ : Fin 50)) else a1 (ix2 b (⟨k.val - 50, by omega⟩ : Fin 50))

/-- The two lists side by side, entry by entry. -/
theorem cat_apply (a2 a1 : S1024x50.Idx → BitVec 32) (b : Fin 1024) (k : Fin 100) (h : Shape.Concatenates [S1024x50, S1024x50] S1024x100 1) :
    concatenate S1024x100 1 [⟨S1024x50, a2⟩, ⟨S1024x50, a1⟩] h (ix2 b k) = lab a2 a1 b k := by
  unfold lab
  split
  next hk =>
    refine concatenate_pair_apply_left (t := S1024x100) 1 a2 a1 h (ix2 b k) rfl _ fun a => ?_
    fin_cases a <;> rfl
  next hk =>
    refine concatenate_pair_apply_right (t := S1024x100) 1 a2 a1 h (ix2 b k) rfl rfl _ (fun a ha => ?_) ?_
    · fin_cases a
      · rfl
      · exact absurd rfl ha
    · show k.val - 50 + 50 = k.val
      omega

/-- The table's first 100 columns are the row's labels. -/
theorem tab_lab (a2 a1 : S1024x50.Idx → BitVec 32) (b : Fin 1024) (k : Fin 100) :
    tab a2 a1 (ix2 b (⟨k.val, by omega⟩ : Fin 128)) = lab a2 a1 b k := by
  unfold tab
  rw [pad_apply_of_inside ![0, 0] ![0, 28] ![0, 0] _ _ _ _ _ (ix2 b k) fun a => by
    fin_cases a
    · show b.val = 0 + b.val * 1; omega
    · show k.val = 0 + k.val * 1; omega]
  exact cat_apply a2 a1 b k _

/-- The table's last 28 columns are zero. -/
theorem tab_zero (a2 a1 : S1024x50.Idx → BitVec 32) (p : S1024x128.Idx) (h : 100 ≤ (p 1).val) : tab a2 a1 p = 0#32 := by
  unfold tab
  refine (pad_apply_of_not_inside (s := S1024x100) (t := S1024x128) ![0, 0] ![0, 28] ![0, 0] _ _ _ _ p (1 : Fin 2) fun hc => ?_).trans rfl
  have e : ((p 1).val - 0) / (0 + 1) < 100 := hc.2.2
  rw [Nat.sub_zero, Nat.zero_add, Nat.div_one] at e
  omega

/-- A property of zero and of every label is one of every table entry. -/
theorem tab_all {C : BitVec 32 → Prop} (a2 a1 : S1024x50.Idx → BitVec 32) (h0 : C 0#32) (h2 : ∀ i, C (a2 i)) (h1 : ∀ i, C (a1 i)) (p : S1024x128.Idx) :
    C (tab a2 a1 p) := by
  by_cases h : (p 1).val < 100
  · have e := tab_lab a2 a1 (p 0) ⟨(p 1).val, h⟩
    rw [show (ix2 (p 0) (⟨(p 1).val, by omega⟩ : Fin 128) : S1024x128.Idx) = p from funext fun a => by fin_cases a <;> rfl] at e
    rw [e]; unfold lab
    split
    · exact h2 _
    · exact h1 _
  · rw [tab_zero a2 a1 p (by omega)]; exact h0

/-- A class word of a label in range is in range. -/
theorem hot_lt {w : BitVec 32} (h : w.toNat < 100000) : (hot w).toNat < 100000 := by
  unfold hot
  split
  · decide
  · rw [BitVec.toNat_sub]
    have : w.toNat ≠ 0 := fun e => by
      rename_i hw
      exact hw (BitVec.eq_of_toNat_eq e)
    have e1 : (1#32).toNat = 1 := rfl
    rw [e1]
    omega

/-! ## The precondition -/

variable {F : FTy → Type} [FloatOps F]

/-- The precondition, all ones, puts every label of both lists in range. -/
theorem labels_of_pre [Cert.Pre_in_range.Facts] (x : FVec F S1024x100000 .f32) (a1 a2 : IVec S1024x50 32)
    (h : Cert.Pre_in_range.fn (F := F) x a1 a2 = fun _ => 1#1) :
    (∀ i, (a1 i).toNat < 100000) ∧ ∀ i, (a2 i).toNat < 100000 := by
  have ofBool_eq_one (p : Bool) : (BitVec.ofBool p = 1#1) ↔ p = true := by cases p <;> decide
  have split2 : ∀ u v : BitVec 1, IntOp.andi u v = 1#1 → u = 1#1 ∧ v = 1#1 := by decide
  have key : ∀ v : BitVec 32, IntOp.andi (IntOp.cmpi .sge v 0#32) (IntOp.cmpi .slt v 100000#32) = 1#1 → v.toNat < 100000 := by
    intro v e
    obtain ⟨e1, e2⟩ := split2 _ _ e
    simp only [IntOp.cmpi, ofBool_eq_one, BitVec.sle_eq_decide, BitVec.slt_eq_decide,
      decide_eq_true_eq, BitVec.toInt_eq_toNat_cond, BitVec.toNat_ofNat, Nat.reducePow, Nat.reduceMod] at e1 e2
    omega
  have e := congrFun h (fun a : Fin 0 => a.elim0)
  obtain ⟨e1, e2⟩ := split2 _ _ e
  haveI : Subsingleton Cert.Pre_in_range.S_.Idx := ⟨fun a b => funext fun c => c.elim0⟩
  exact ⟨fun i => key _ (Host.reduce_andi_all _ _ _ _ _ e1 i), fun i => key _ (Host.reduce_andi_all _ _ _ _ _ e2 i)⟩

variable [Named F]

/-- What the run asks of the launch memory. -/
theorem hM_of_labels (m : (ℓ : Loc nD τ sig) → Buf (Elt F) ℓ)
    (h1 : ∀ (d : Dev nD) i, ((m ((d.tc : Thread nD τ).loc main_arg1) : S1024x50.Idx → BitVec 32) i).toNat < 100000)
    (h2 : ∀ (d : Dev nD) i, ((m ((d.tc : Thread nD τ).loc main_arg2) : S1024x50.Idx → BitVec 32) i).toNat < 100000) :
    ∀ d p, (hot (fT m d p)).toNat < 100000 := by
  intro d p
  rw [fT_eq]
  exact hot_lt (tab_all (C := fun w => w.toNat < 100000) _ _ (by decide) (h2 d) (h1 d) p)

end Cert.Proof.Nll

end
-- ==== Proof.Frames.lean ====
/-
  The frames of the kernel and of its idealized text, both from the one run: at bit patterns the two texts are the same
  program.
-/
module

public import proofs.«01_k».proof.Proof.Labels
public import proofs.«01_k».proof.Proof.Gen.Kernel

@[expose] public section

noncomputable section

namespace Cert.Proof.Nll

open Idealize.ShloMosaic Idealize.ShloMosaic.TcCoe
open Idealize.SL Idealize.SL.Sem

/-- At bit patterns a named constant is its own bits. -/
instance namedBits : Named Bits where
  named _ _ {_} bits := bits

/-- The two texts' body tables agree at bit patterns. -/
theorem bodies_eq : Cert.Kernel.defs₀ (F := Bits) = Cert.KernelIdeal.defs₀ (F := Bits) := by
  funext p ℓ a
  match p, ℓ, a with
  | .tc, 0, a => rfl
  | .tc, 1, (t, s) => rfl
  | .tc, 2, (t, s) => rfl
  | .scScalar c, 0, a => rfl
  | .scScalar c, 1, a => rfl
  | .scScalar c, 2, a => rfl
  | .scVector c s, 0, a => rfl
  | .scVector c s, 1, a => rfl
  | .scVector c s, 2, a => rfl

/-- So do the whole tables. -/
theorem tables_eq : Cert.Kernel.defs (F := Bits) = Cert.KernelIdeal.defs (F := Bits) :=
  congrArg (fun d => (Cert.KernelIdeal.sc (F := Bits)).defs (Pipeline.defs Cert.KernelIdeal.pcfgs d)) bodies_eq

/-- And every thread's program. -/
theorem threads_eq : Cert.Kernel.threads (F := Bits) = Cert.KernelIdeal.threads (F := Bits) := rfl

/-- The kernel's frame. -/
theorem frame_kernel [Cert.Pre_in_range.Facts] : Cert.quiescent_Kernel := fun m g hp => by
  have h := run_main (F := Bits) m g (hM_of_labels m (fun d => (labels_of_pre _ _ _ (hp d)).1) (fun d => (labels_of_pre _ _ _ (hp d)).2))
  rw [tables_eq, threads_eq]
  exact (θ_run Cert.KernelIdeal.defs _ _).mono (fun _ h => ⟨fun c => (h.1 c).2, h.2⟩) h

/-- The idealized kernel's frame. -/
theorem frame_kernelIdeal [Cert.Pre_in_range.Facts] : Cert.quiescent_KernelIdeal := fun m g hp =>
  (θ_run Cert.KernelIdeal.defs _ _).mono (fun _ h => ⟨fun c => (h.1 c).2, h.2⟩)
    (run_main (F := Ideal) m g (hM_of_labels m (fun d => (labels_of_pre _ _ _ (hp d)).1) (fun d => (labels_of_pre _ _ _ (hp d)).2)))

end Cert.Proof.Nll

end
-- ==== Proof.Rest.lean ====
/-
  The claims that need no run of the kernel: the reference's frame, the named constants, the precondition's own facts.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof.Nll

open Idealize.ShloMosaic Idealize.ShloMosaic.TcCoe
open Idealize.SL Idealize.SL.Sem

/-- The precondition's side conditions. -/
instance preFacts : Cert.Pre_in_range.Facts where
  bcast_S_S1024x50 := by decide
  reducesTo_S1024x50_S_d0_1 := by decide
  h_S_ := by decide

/-- The reference's frame. -/
theorem frame_reference : Cert.quiescent_ReferenceIdeal := fun m g _ =>
  have h := Cert.ReferenceIdeal.Value.run (F := Ideal) m g
  (θ_run Cert.ReferenceIdeal.defs _ _).mono (fun _ h => ⟨fun c => (h c).2, sem_eq_zero_of_no_sems (by decide) _⟩) h

/-- The two constants are named what they were computed from. -/
theorem named_constants : Cert.preserves_Kernel_KernelIdeal :=
  ⟨IdealRules.named_const.statement _ _ _ _ _ rfl, IdealRules.named_const.statement _ _ _ _ _ rfl⟩

end Cert.Proof.Nll

end
-- ==== Proof.Sums.lean ====
/-
  The mathematics of the loss over the extended reals, no program in it: log-sigmoid two ways, the smoothed weights, the
  sum over distinct labels, the sum over classes block by block.
-/
module

public import Idealize.ShloMosaic.PureOps.Ideal
public import Idealize.ShloMosaic.PureOps.Ideal.Laws
public import Idealize.ShloMosaic.Lib.IdealHost

@[expose] public section

noncomputable section

namespace Cert.Proof.Nll

open Idealize.ShloMosaic
open scoped BigOperators

/-! ## Log-sigmoid -/

/-- The correction term `log (1 + e^{-|x|})`. -/
def soft (x : EReal) : EReal := Ideal.log1p (Ideal.exp (-(max x (-x))))

/-- Log-sigmoid. -/
def logSig (x : EReal) : EReal := min x 0 - soft x

/-- `log (1 + r)` of a nonnegative real is a nonnegative real. -/
theorem log1p_coe (r : ℝ) (hr : 0 ≤ r) : Ideal.log1p (r : EReal) = ((Real.log (1 + r) : ℝ) : EReal) := by
  unfold Ideal.log1p
  rw [← EReal.coe_one, ← EReal.coe_add]
  exact if_neg (by linarith)

/-- The correction is a nonnegative real at every score, the infinities included. -/
theorem soft_coe (x : EReal) : ∃ r : ℝ, 0 ≤ r ∧ soft x = (r : EReal) := by
  have key : ∀ r : ℝ, 0 ≤ r → ∃ s : ℝ, 0 ≤ s ∧ Ideal.log1p (r : EReal) = (s : EReal) := fun r hr =>
    ⟨_, Real.log_nonneg (by linarith), log1p_coe r hr⟩
  unfold soft
  induction x with
  | bot =>
    rw [EReal.neg_bot, max_eq_right bot_le, EReal.neg_top]
    exact key 0 le_rfl
  | top =>
    rw [EReal.neg_top, max_eq_left bot_le, EReal.neg_top]
    exact key 0 le_rfl
  | coe a =>
    obtain h | h := le_total a (-a)
    · rw [← EReal.coe_neg, max_eq_right (EReal.coe_le_coe_iff.2 h), ← EReal.coe_neg]
      exact key _ (Real.exp_pos _).le
    · rw [← EReal.coe_neg, max_eq_left (EReal.coe_le_coe_iff.2 h), ← EReal.coe_neg]
      exact key _ (Real.exp_pos _).le

/-- Log-sigmoid is never positive. -/
theorem logSig_nonpos (x : EReal) : logSig x ≤ 0 := by
  obtain ⟨r, hr, e⟩ := soft_coe x
  unfold logSig
  rw [e, sub_eq_add_neg, ← EReal.coe_neg]
  exact add_nonpos (min_le_right _ _) (by exact_mod_cast neg_nonpos.2 hr)

/-- The correction is even. -/
theorem soft_neg (x : EReal) : soft (-x) = soft x := by
  unfold soft; rw [neg_neg, max_comm]

/-- Log-sigmoid as minus the softplus of the negated score. -/
theorem logSig_eq (x : EReal) : -(max (-x) 0 + soft (-x)) = logSig x := by
  obtain ⟨r, hr, e⟩ := soft_coe x
  rw [soft_neg]
  unfold logSig
  rw [e, EReal.neg_add (Or.inr (EReal.coe_ne_top r)) (Or.inr (EReal.coe_ne_bot r))]
  congr 1
  obtain h | h := le_total x 0
  · rw [min_eq_left h, max_eq_left (by simpa using EReal.neg_le_neg_iff.2 h), neg_neg]
  · rw [min_eq_right h, max_eq_right (by simpa using EReal.neg_le_neg_iff.2 h), neg_zero]

/-! ## The smoothed weights -/

/-- A nonnegative real factor goes into a sum of extended reals. -/
theorem coe_mul_sum {ι : Type} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih,
      EReal.left_distrib_of_nonneg_of_ne_top (by exact_mod_cast ha) (EReal.coe_ne_top a)]

/-- Minus the weighted sum, the weight `a + g` on the classes of `H` and `a` on the others. -/
theorem weighted_sum {ι : Type} [Fintype ι] [DecidableEq ι] (l : ι → EReal) (hl : ∀ i, l i ≤ 0) (H : Finset ι) (a g : ℝ) (ha : 0 ≤ a) (hg : 0 ≤ g) :
    -(∑ i, ((if i ∈ H then a + g else a : ℝ) : EReal) * l i) = ((-a : ℝ) : EReal) * (∑ i, l i) - (g : EReal) * ∑ i ∈ H, l i := by
  have hterm : ∀ i, ((if i ∈ H then a + g else a : ℝ) : EReal) * l i = (a : EReal) * l i + if i ∈ H then (g : EReal) * l i else 0 := by
    intro i
    split
    · rw [EReal.coe_add, EReal.right_distrib_of_nonneg (by exact_mod_cast ha) (by exact_mod_cast hg)]
    · rw [add_zero]
  have hneg : ∀ (c : ℝ), 0 ≤ c → ∀ s : Finset ι, (c : EReal) * ∑ i ∈ s, l i ≤ 0 := fun c hc s =>
    EReal.mul_nonpos_iff.2 (Or.inl ⟨by exact_mod_cast hc, Finset.sum_nonpos fun i _ => hl i⟩)
  rw [Finset.sum_congr rfl fun i _ => hterm i, Finset.sum_add_distrib, ← coe_mul_sum a ha, Finset.sum_ite_mem, Finset.univ_inter, ← coe_mul_sum g hg]
  rw [EReal.neg_add (Or.inr ((hneg g hg H).trans_lt EReal.zero_lt_top).ne) (Or.inl ((hneg a ha _).trans_lt EReal.zero_lt_top).ne), EReal.coe_neg, EReal.neg_mul]

/-! ## The sum over distinct labels -/

/-- The sum over the first occurrences of the valid entries of a list is the sum over the set of what they name. -/
theorem first_sum {n : ℕ} {α ι : Type} [DecidableEq α] [DecidableEq ι] (t : Fin n → α) (ok : α → Prop) [DecidablePred ok] (col : α → ι)
    (hcol : ∀ i j, ok (t i) → ok (t j) → col (t i) = col (t j) → t i = t j) (f : ι → EReal) :
    (∑ j, if ok (t j) ∧ ¬ ∃ k, k < j ∧ t k = t j then f (col (t j)) else 0)
      = ∑ i ∈ (Finset.univ.filter fun j => ok (t j)).image fun j => col (t j), f i := by
  classical
  rw [← Finset.sum_filter]
  have himg : ((Finset.univ.filter fun j => ok (t j)).image fun j => col (t j))
      = (Finset.univ.filter fun j => ok (t j) ∧ ¬ ∃ k, k < j ∧ t k = t j).image fun j => col (t j) := by
    ext i
    simp only [Finset.mem_image, Finset.mem_filter, Finset.mem_univ, true_and]
    constructor
    · rintro ⟨j, hj, rfl⟩
      have hne : (Finset.univ.filter fun k => t k = t j).Nonempty := ⟨j, by simp⟩
      have hm := Finset.min'_mem _ hne
      rw [Finset.mem_filter] at hm
      refine ⟨_, ⟨by rw [hm.2]; exact hj, ?_⟩, congrArg col hm.2⟩
      rintro ⟨k, hk, e⟩
      exact absurd (Finset.min'_le _ k (by simp [e.trans hm.2])) (not_le.2 hk)
    · rintro ⟨j, hj, rfl⟩
      exact ⟨j, hj.1, rfl⟩
  rw [himg, Finset.sum_image]
  intro j hj k hk e
  simp only [Finset.coe_filter, Finset.mem_univ, true_and, Set.mem_setOf_eq] at hj hk
  have e' := hcol j k hj.1 hk.1 e
  obtain h | h | h := lt_trichotomy j k
  · exact absurd ⟨j, h, e'⟩ hk.2
  · exact h
  · exact absurd ⟨k, h, e'.symm⟩ hj.2

/-! ## The sum over classes, block by block -/

/-- A sum over `m * n` places, as rows of `n`. -/
theorem sum_rows (m n : ℕ) (g : ℕ → EReal) : ∑ c ∈ Finset.range (m * n), g c = ∑ a ∈ Finset.range m, ∑ b ∈ Finset.range n, g (n * a + b) := by
  induction m with
  | zero => simp
  | succ m ih =>
    rw [Nat.succ_mul, Finset.sum_range_add, ih, Finset.sum_range_succ, Nat.mul_comm m n]

/-- The sum over 128 lanes of the sums over 13 blocks of 64 rows is the sum over the classes, what lies past them being zero. -/
theorem sum_blocks (g : ℕ → EReal) (hg : ∀ c, 100000 ≤ c → g c = 0) :
    (∑ l : Fin 128, ∑ n ∈ Finset.range 13, ∑ r : Fin 64, g (8192 * n + (128 * r.val + l.val))) = ∑ c : Fin 100000, g c.val := by
  have h1 : ∑ c : Fin 100000, g c.val = ∑ c ∈ Finset.range (13 * 8192), g c := by
    rw [Fin.sum_univ_eq_sum_range]
    refine Finset.sum_subset (fun c hc => Finset.mem_range.2 (by have := Finset.mem_range.1 hc; omega)) fun c _ hc => hg c ?_
    exact Nat.le_of_not_lt fun h => hc (Finset.mem_range.2 h)
  rw [h1, sum_rows, Finset.sum_comm]
  refine Finset.sum_congr rfl fun n _ => ?_
  rw [Finset.sum_comm, show (8192 : ℕ) = 64 * 128 from rfl, sum_rows 64 128 fun b => g (64 * 128 * n + b), Fin.sum_univ_eq_sum_range (fun r => ∑ l : Fin 128, g (64 * 128 * n + (128 * r + l.val)))]
  refine Finset.sum_congr rfl fun r _ => ?_
  rw [Fin.sum_univ_eq_sum_range (fun l => g (64 * 128 * n + (128 * r + l)))]

end Cert.Proof.Nll

end
-- ==== Proof.KernelValue.lean ====
/-
  The kernel's loss over the extended reals: a row's loss from the sum of log-sigmoid over all classes and over the
  first occurrences of its labels.
-/
module

public import proofs.«01_k».proof.Proof.Labels
public import proofs.«01_k».proof.Proof.Sums

@[expose] public section

noncomputable section

namespace Cert.Proof.Nll

open Cert.KernelIdeal Cert.KernelIdeal.Gen
open Idealize.ShloMosaic Idealize.ShloMosaic.ValueIdx
open scoped BigOperators

/-! ## The sum over all classes -/

/-- Log-sigmoid of a row's score at a class, zero past the last class. -/
def cls (x : S1024x100000.Idx → EReal) (b : Fin 1024) (c : ℕ) : EReal := if h : c < 100000 then logSig (x (ix2 b ⟨c, h⟩)) else 0

/-- The dense body's log-sigmoid, entry by entry. -/
theorem pay2_at (X : S256x8192.Idx → EReal) (p : S256x8192.Idx) : k1_pay2 (F := Ideal) X p = logSig (X p) := by
  show min (X p) (Ideal.ofBits .f32 0x00000000#32) - Ideal.log1p (Ideal.exp (Ideal.ofBits .f32 0x00000000#32 - max (X p) (-X p))) = _
  rw [Ideal.ofBits_zero_f32, zero_sub]; rfl

/-- A block's contribution at an entry is its row's at its class. -/
theorem contrib_at (A : S1024x100000.Idx → EReal) {r n : ℕ} (hn : n < 13) (p : S256x8192.Idx) (b : Fin 1024) (hb : 256 * r + (p 0).val = b.val) :
    contrib (F := Ideal) n (blkAt (F := Ideal) A r n) p = cls A b (8192 * n + (p 1).val) := by
  have hp : (p 1).val < 8192 := (p 1).isLt
  have hin : 8192 * n + (p 1).val < 100000 → k1_pay2 (F := Ideal) (blkAt (F := Ideal) A r n) p = cls A b (8192 * n + (p 1).val) := fun h => by
    rw [pay2_at]
    unfold blkAt cls
    rw [dif_pos h, dif_pos ⟨by omega, h⟩]
    exact congrArg (fun q => logSig (A (ix2 q _))) (Fin.ext hb)
  unfold contrib
  split
  · exact hin (by omega)
  · show Scalar.select (inBit n p) (k1_pay2 (F := Ideal) (blkAt (F := Ideal) A r n) p) (Ideal.ofBits .f32 0x00000000#32) = _
    rw [inBit_apply hn, Ideal.ofBits_zero_f32]
    by_cases h : 8192 * n + (p 1).val < 100000
    · rw [if_pos h, hin h]; rfl
    · rw [if_neg h]
      unfold cls
      rw [dif_neg h]; rfl

/-- A lane of a group of 128 is inside the block. -/
theorem lane_lt (p : S256x128.Idx) (r : Fin 64) : 128 * r.val + (p 1).val < 8192 := by
  have h : (p 1).val < 128 := (p 1).isLt
  omega

/-- A block's contributions onto the accumulator, lane by lane. -/
theorem accum_at (Z : S256x8192.Idx → EReal) (A : S256x128.Idx → EReal) (p : S256x128.Idx) :
    accum (F := Ideal) Z A p = A p + ∑ r : Fin 64, Z (ix2 (p 0 : Fin 256) (⟨128 * r.val + (p 1).val, lane_lt p r⟩ : Fin 8192)) := by
  unfold accum
  rw [shapeCast_self]
  refine congrArg (A p + ·) ((Ideal.multiReduction_add_single _ _ _ _ _ p).trans (Finset.sum_congr rfl fun r _ => ?_))
  refine shapeCast_apply _ _ _ _ ?_
  rw [Shape.rowMajor_val_two, Shape.rowMajor_val_three]
  show (p 0).val * 8192 + (128 * r.val + (p 1).val) = ((p 0).val * 64 + r.val) * 128 + (p 1).val
  omega

/-- The accumulator's lanes, as sums over the blocks so far. -/
theorem accV_at (A : S1024x100000.Idx → EReal) (r : ℕ) (p : S256x128.Idx) (b : Fin 1024) (hb : 256 * r + (p 0).val = b.val) (n : ℕ) (hn : n < 13) :
    accV (F := Ideal) A r n p = ∑ m ∈ Finset.range (n + 1), ∑ q : Fin 64, cls A b (8192 * m + (128 * q.val + (p 1).val)) := by
  induction n with
  | zero =>
    show accum (F := Ideal) (contrib 0 (blkAt A r 0)) (if 0 = 0 then k1_pay1 else _) p = _
    rw [accum_at, if_pos rfl, Finset.sum_range_one]
    show Ideal.ofBits .f32 0x00000000#32 + _ = _
    rw [Ideal.ofBits_zero_f32, zero_add]
    exact Finset.sum_congr rfl fun q _ => contrib_at A hn (ix2 (p 0 : Fin 256) (⟨128 * q.val + (p 1).val, lane_lt p q⟩ : Fin 8192)) b hb
  | succ n ih =>
    show accum (F := Ideal) (contrib (n + 1) (blkAt A r (n + 1))) (if n + 1 = 0 then k1_pay1 else accV (F := Ideal) A r n) p = _
    rw [accum_at, if_neg (Nat.succ_ne_zero n), ih (by omega), Finset.sum_range_succ _ (n + 1)]
    exact congrArg _ (Finset.sum_congr rfl fun q _ => contrib_at A hn (ix2 (p 0 : Fin 256) (⟨128 * q.val + (p 1).val, lane_lt p q⟩ : Fin 8192)) b hb)

/-- A row's 128 partial sums add up to its sum over all classes. -/
theorem dAll_sum (A : S1024x100000.Idx → EReal) (b : Fin 1024) :
    ∑ l : Fin 128, dAll (F := Ideal) A (ix2 b l) = ∑ c : Fin 100000, logSig (A (ix2 b c)) := by
  have hb := b.isLt
  rw [Finset.sum_congr rfl fun l _ => show dAll (F := Ideal) A (ix2 b l) = ∑ m ∈ Finset.range 13, ∑ q : Fin 64, cls A b (8192 * m + (128 * q.val + l.val)) from
    accV_at A (b.val / 256) (ix2 (⟨b.val % 256, Nat.mod_lt _ (by decide)⟩ : Fin 256) l) b (Nat.div_add_mod b.val 256) 12 (by decide)]
  rw [sum_blocks (cls A b) fun c hc => dif_neg (by omega)]
  exact Finset.sum_congr rfl fun c _ => dif_pos c.isLt

/-! ## The sum over the labels -/

/-- Whether an earlier entry of the row has the same label, per pair. -/
def pairBit (Tb : S32x128.Idx → BitVec 32) : IVec S32x128x128 1 :=
  andi (cmpi .eq (broadcastTo S32x128x128 (shapeCast S32x128x1 Tb shapeCasts_S32x128_S32x128x1) broadcasts_S32x128x1_S32x128x128)
      (broadcastTo S32x128x128 (shapeCast S32x1x128 Tb shapeCasts_S32x128_S32x1x128) broadcasts_S32x1x128_S32x128x128))
    (cmpi .slt (iota .tc S32x128x128 32 [2] iota_S32x128x128_d2_w32) (iota .tc S32x128x128 32 [1] iota_S32x128x128_d1_w32))

/-- The greatest of a row's pair bits, as floats. -/
def pairMax (Tb : S32x128.Idx → BitVec 32) : FVec Ideal S32x128 .f32 :=
  multiReduction .maximumf [2] S32x128 (select (pairBit Tb) (broadcast S32x128x128 (Scalar.ofBits .f32 0x3F800000#32 : Ideal .f32)) (broadcast S32x128x128 (Scalar.ofBits .f32 0x00000000#32 : Ideal .f32)))
    0xFF800000#32 reduces_S32x128x128_S32x128 (.inl rfl) rfl

/-- Whether an entry counts: a label, and the first of its kind. -/
def keepBit (Tb : S32x128.Idx → BitVec 32) : IVec S32x128 1 :=
  andi (cmpi .ne Tb (broadcast S32x128 0#32)) (xori (cmpf .ogt (pairMax Tb) (broadcast S32x128 (Scalar.ofBits .f32 0x00000000#32 : Ideal .f32))) (constantI S32x128 1 1#1))

/-- A decided bit. -/
theorem ofBool_eq_ite (P : Prop) [Decidable P] : BitVec.ofBool (decide P) = if P then 1#1 else 0#1 := by
  by_cases h : P <;> simp [h]

/-- The pair bits, entry by entry. -/
theorem pairBit_at (Tb : S32x128.Idx → BitVec 32) (i : Fin 32) (j k : Fin 128) :
    pairBit Tb (ix3 i j k) = if k < j ∧ Tb (ix2 i k) = Tb (ix2 i j) then 1#1 else 0#1 := by
  have e1 : broadcastTo S32x128x128 (shapeCast S32x128x1 Tb shapeCasts_S32x128_S32x128x1) broadcasts_S32x128x1_S32x128x128 (ix3 i j k) = Tb (ix2 i j) := by
    refine (broadcastTo_apply _ _ _ (ix3 i j (0 : Fin 1)) fun a => by fin_cases a <;> rfl).trans (shapeCast_apply _ _ _ _ ?_)
    rw [Shape.rowMajor_val_two, Shape.rowMajor_val_three]
    show i.val * 128 + j.val = (i.val * 128 + j.val) * 1 + 0
    omega
  have e2 : broadcastTo S32x128x128 (shapeCast S32x1x128 Tb shapeCasts_S32x128_S32x1x128) broadcasts_S32x1x128_S32x128x128 (ix3 i j k) = Tb (ix2 i k) := by
    refine (broadcastTo_apply _ _ _ (ix3 i (0 : Fin 1) k) fun a => by fin_cases a <;> rfl).trans (shapeCast_apply _ _ _ _ ?_)
    rw [Shape.rowMajor_val_two, Shape.rowMajor_val_three]
    show i.val * 128 + k.val = (i.val * 1 + 0) * 128 + k.val
    omega
  unfold pairBit
  show IntOp.andi (IntOp.cmpi .eq _ _) (IntOp.cmpi .slt (iota .tc S32x128x128 32 [2] iota_S32x128x128_d2_w32 _) (iota .tc S32x128x128 32 [1] iota_S32x128x128_d1_w32 _)) = _
  rw [e1, e2, iota_single_apply, iota_single_apply]
  show IntOp.andi (IntOp.cmpi .eq (Tb (ix2 i j)) (Tb (ix2 i k))) (IntOp.cmpi .slt (BitVec.ofNat 32 k.val) (BitVec.ofNat 32 j.val)) = _
  have hlt : IntOp.cmpi .slt (BitVec.ofNat 32 k.val) (BitVec.ofNat 32 j.val) = if k < j then 1#1 else 0#1 :=
    (by decide +kernel : ∀ k j : Fin 128, IntOp.cmpi .slt (BitVec.ofNat 32 k.val) (BitVec.ofNat 32 j.val) = if k < j then 1#1 else 0#1) k j
  rw [hlt]
  have heq : IntOp.cmpi .eq (Tb (ix2 i j)) (Tb (ix2 i k)) = if Tb (ix2 i k) = Tb (ix2 i j) then 1#1 else 0#1 := by
    by_cases h : Tb (ix2 i k) = Tb (ix2 i j)
    · rw [if_pos h, h]; simp [IntOp.cmpi]
    · have h' : ¬ Tb (ix2 i j) = Tb (ix2 i k) := fun q => h q.symm
      rw [if_neg h]
      show BitVec.ofBool (Tb (ix2 i j) == Tb (ix2 i k)) = 0#1
      rw [beq_false_of_ne h']; rfl
  rw [heq]
  by_cases h1 : k < j <;> by_cases h2 : Tb (ix2 i k) = Tb (ix2 i j) <;> simp [h1, h2, IntOp.andi]

/-- The greatest is positive exactly where an earlier entry has the same label. -/
theorem pairMax_pos (Tb : S32x128.Idx → BitVec 32) (i : Fin 32) (j : Fin 128) :
    0 < pairMax Tb (ix2 i j) ↔ ∃ k, k < j ∧ Tb (ix2 i k) = Tb (ix2 i j) := by
  have hbot : Ideal.ofBits .f32 0xFF800000#32 = ⊥ := by simp [Ideal.ofBits, Ideal.ieee]
  have hf : ∀ k : Fin 128, (0 : EReal) < (select (pairBit Tb) (broadcast S32x128x128 (Scalar.ofBits .f32 0x3F800000#32 : Ideal .f32)) (broadcast S32x128x128 (Scalar.ofBits .f32 0x00000000#32 : Ideal .f32)) : FVec Ideal S32x128x128 .f32) (ix3 i j k)
      ↔ k < j ∧ Tb (ix2 i k) = Tb (ix2 i j) := fun k => by
    show (0 : EReal) < Scalar.select (pairBit Tb (ix3 i j k)) (Ideal.ofBits .f32 0x3F800000#32) (Ideal.ofBits .f32 0x00000000#32) ↔ _
    rw [pairBit_at, Ideal.ofBits_zero_f32, Ideal.ofBits_one_f32]
    by_cases h : k < j ∧ Tb (ix2 i k) = Tb (ix2 i j)
    · rw [if_pos h]; exact ⟨fun _ => h, fun _ => zero_lt_one⟩
    · rw [if_neg h]; exact ⟨fun q => absurd q (lt_irrefl _), fun q => absurd q h⟩
  have hl : ∀ k : Fin 128, Shape.Reduces.lift reduces_S32x128x128_S32x128 (ix2 i j) k = ix3 i j k := fun k => by
    funext a; fin_cases a <;> rfl
  rw [show pairMax Tb (ix2 i j) = _ from Ideal.multiReduction_maximumf_single _ _ _ _ _ (ix2 i j)]
  refine (Finset.lt_fold_max _ (s := (Finset.univ : Finset (Fin 128)))).trans ⟨?_, ?_⟩
  · rintro (h | ⟨k, _, hk⟩)
    · exact absurd (lt_of_lt_of_eq h hbot) not_lt_bot
    · exact ⟨k, (hf k).1 (lt_of_lt_of_eq hk (congrArg (select _ _ _) (hl k)))⟩
  · rintro ⟨k, hk⟩
    exact Or.inr ⟨k, Finset.mem_univ _, lt_of_lt_of_eq ((hf k).2 hk) (congrArg (select _ _ _) (hl k).symm)⟩

/-- The entries that count. -/
theorem keepBit_at (Tb : S32x128.Idx → BitVec 32) (i : Fin 32) (j : Fin 128) :
    keepBit Tb (ix2 i j) = if Tb (ix2 i j) ≠ 0#32 ∧ ¬ ∃ k, k < j ∧ Tb (ix2 i k) = Tb (ix2 i j) then 1#1 else 0#1 := by
  have hP := pairMax_pos Tb i j
  unfold keepBit
  generalize pairMax Tb = P at hP ⊢
  have h1 : IntOp.cmpi .ne (Tb (ix2 i j)) 0#32 = if Tb (ix2 i j) ≠ 0#32 then 1#1 else 0#1 := by
    by_cases h : Tb (ix2 i j) = 0#32
    · simp [IntOp.cmpi, h]
    · rw [if_pos h]
      show BitVec.ofBool (!(Tb (ix2 i j) == 0#32)) = 1#1
      rw [beq_false_of_ne h]; rfl
  have h2 : cmpf .ogt P (broadcast S32x128 (Scalar.ofBits .f32 0x00000000#32 : Ideal .f32)) (ix2 i j) = if ∃ k, k < j ∧ Tb (ix2 i k) = Tb (ix2 i j) then 1#1 else 0#1 := by
    show Ideal.cmp .ogt (P (ix2 i j)) (Ideal.ofBits .f32 0x00000000#32) = _
    rw [Ideal.ofBits_zero_f32]
    by_cases h : ∃ k, k < j ∧ Tb (ix2 i k) = Tb (ix2 i j)
    · rw [if_pos h]; unfold Ideal.cmp; simp [hP.2 h]
    · have hn : ¬ 0 < P (ix2 i j) := fun q => h (hP.1 q)
      rw [if_neg h]; exact congrArg BitVec.ofBool (decide_eq_false hn)
  show IntOp.andi (IntOp.cmpi .ne (Tb (ix2 i j)) 0#32) (IntOp.xori (cmpf .ogt P (broadcast S32x128 (Scalar.ofBits .f32 0x00000000#32 : Ideal .f32)) (ix2 i j)) 1#1) = _
  rw [h1, h2]
  by_cases ha : Tb (ix2 i j) = 0#32 <;> by_cases hb : ∃ k, k < j ∧ Tb (ix2 i k) = Tb (ix2 i j) <;> simp [ha, hb, IntOp.andi, IntOp.xori]

/-- The sum over the labels as the body computes it. -/
theorem pay2c_at (Tb : S32x128.Idx → BitVec 32) (Gb : S32x128.Idx → EReal) (i : Fin 32) :
    k2_pay2 (F := Ideal) Tb Gb (ix1 i) = ∑ j : Fin 128, if Tb (ix2 i j) ≠ 0#32 ∧ ¬ ∃ k, k < j ∧ Tb (ix2 i k) = Tb (ix2 i j) then logSig (Gb (ix2 i j)) else 0 := by
  have hT : shapeCast S32x128 Tb shapeCasts_S32x128_S32x128 = Tb := shapeCast_self _ _
  have hG : shapeCast S32x128 Gb shapeCasts_S32x128_S32x128 = Gb := shapeCast_self _ _
  unfold k2_pay2
  dsimp only
  rw [hT, hG]
  refine (Ideal.multiReduction_add_single _ _ _ _ _ (ix1 i)).trans (Finset.sum_congr rfl fun (j : Fin 128) _ => ?_)
  rw [show Shape.Reduces.lift reduces_S32x128_S32 (ix1 i) j = ix2 i j from funext fun a => by fin_cases a <;> rfl]
  show Scalar.select (keepBit Tb (ix2 i j)) (min (Gb (ix2 i j)) (Ideal.ofBits .f32 0x00000000#32) - Ideal.log1p (Ideal.exp (Ideal.ofBits .f32 0x00000000#32 - max (Gb (ix2 i j)) (-Gb (ix2 i j))))) (Ideal.ofBits .f32 0x00000000#32) = _
  rw [Ideal.ofBits_zero_f32, zero_sub, show keepBit Tb (ix2 i j) = _ from keepBit_at Tb i j]
  split
  · rfl
  · rfl

/-- The weighted sum over all classes as the body computes it. -/
theorem pay3c_at (Db : S32x128.Idx → EReal) (i : Fin 32) :
    k2_pay3 (F := Ideal) Db (ix1 i) = ((-(1 / 1000000) : ℝ) : EReal) * ∑ l : Fin 128, Db (ix2 i l) := by
  have hD : shapeCast S32x128 Db shapeCasts_S32x128_S32x128 = Db := shapeCast_self _ _
  unfold k2_pay3
  dsimp only
  rw [hD, IdealRules.named_const.ideal_named_scalar κ "neg_coef" _ ((-1 / 1000000 : ℝ) : EReal) rfl]
  refine congrArg₂ (· * ·) (congrArg (fun q : ℝ => (q : EReal)) (by norm_num : (-1 / 1000000 : ℝ) = -(1 / 1000000))) ((Ideal.multiReduction_add_single _ _ _ _ _ (ix1 i)).trans (Finset.sum_congr rfl fun j _ => congrArg Db ?_))
  funext a; fin_cases a <;> rfl

/-- A row's loss, as the kernel leaves it. -/
theorem kLoss_at (x : S1024x100000.Idx → EReal) (a1 a2 : S1024x50.Idx → BitVec 32) (b : Fin 1024) :
    kLoss (F := Ideal) x a1 a2 (ix1 b)
      = ((-(1 / 1000000) : ℝ) : EReal) * (∑ c : Fin 100000, logSig (x (ix2 b c)))
        - ((899999 / 1000000 : ℝ) : EReal) * ∑ j : Fin 128, if tab a2 a1 (ix2 b j) ≠ 0#32 ∧ ¬ ∃ k, k < j ∧ tab a2 a1 (ix2 b k) = tab a2 a1 (ix2 b j)
            then logSig (x (ix2 b (⟨(hot (tab a2 a1 (ix2 b j))).toNat % 100000, Nat.mod_lt _ (by decide)⟩ : Fin 100000))) else 0 := by
  have hrow : ∀ {α : Type} (X : S1024x128.Idx → α) (l : Fin 128), rowsAt X (b.val / 32) (ix2 (⟨b.val % 32, Nat.mod_lt _ (by decide)⟩ : Fin 32) l) = X (ix2 b l) := fun X l =>
    congrArg X (congrArg (fun q => ix2 q l) (Fin.ext (by
      show (32 * (b.val / 32) + b.val % 32) % 1024 = b.val
      have := b.isLt
      omega)))
  unfold kLoss
  rw [shapeCast_apply _ _ _ (ix2 b (0 : Fin 1)) (by
    rw [Shape.rowMajor_val_two, Shape.rowMajor_val_one]
    show b.val * 1 + 0 = b.val
    omega)]
  show k2_pay1 (F := Ideal) (k2_pay2 (rowsAt (tab a2 a1) (b.val / 32)) (rowsAt (gAll (F := Ideal) x (tab a2 a1)) (b.val / 32))) (k2_pay3 (rowsAt (dAll (F := Ideal) x) (b.val / 32))) k2_pay4 (ix2 (⟨b.val % 32, Nat.mod_lt _ (by decide)⟩ : Fin 32) (0 : Fin 1)) = _
  unfold k2_pay1
  rw [shapeCast_apply _ _ _ (ix1 (⟨b.val % 32, Nat.mod_lt _ (by decide)⟩ : Fin 32)) (by
    rw [Shape.rowMajor_val_two, Shape.rowMajor_val_one]
    show b.val % 32 = b.val % 32 * 1 + 0
    omega)]
  have h4 : k2_pay4 (F := Ideal) (ix1 (⟨b.val % 32, Nat.mod_lt _ (by decide)⟩ : Fin 32)) = ((899999 / 1000000 : ℝ) : EReal) := by
    unfold k2_pay4
    rw [IdealRules.named_const.ideal_named_scalar κ "gain" _ ((899999 / 1000000 : ℝ) : EReal) rfl]
    rfl
  refine congrArg₂ (· - ·) ?_ (congrArg₂ (· * ·) h4 ?_)
  · rw [pay3c_at, ← dAll_sum]
    simp only [hrow]
  · rw [pay2c_at]
    simp only [hrow]
    rfl

end Cert.Proof.Nll

end
-- ==== Proof.RefValue.lean ====
/-
  The reference's loss over the extended reals: a row's classes that some label names, and its loss as minus a weighted
  sum of log-sigmoid over all classes.
-/
module

public import proofs.«01_k».proof.Proof.Gen.ReferenceIdeal
public import proofs.«01_k».proof.Proof.Gen.ReferenceIdeal.Run
public import proofs.«01_k».proof.Proof.Sums
public import Idealize.ShloMosaic.Lib.IdealHost
public import Idealize.ShloMosaic.Lib.Routing.OpsSet
public import Idealize.ShloMosaic.Lib.KernelVsHost

@[expose] public section

noncomputable section

namespace Cert.Proof.Nll.Ref

open Cert.ReferenceIdeal Cert.ReferenceIdeal.Gen
open Cert.Proof.Nll
open Idealize.ShloMosaic Idealize.ShloMosaic.TcCoe Idealize.ShloMosaic.ValueIdx
open scoped BigOperators

/-! ## The classes a row's labels name -/

/-- A label word's column: its class, or one past the last for the padding word. -/
def colOf (w : BitVec 32) : BitVec 32 := if w = 0#32 then 100000#32 else w - 1#32

/-- The columns, as the reference computes them from the labels. -/
def cols (T : IVec S1024x100 32) : IVec S1024x100 32 :=
  select (cmpi .ne T (broadcastInDim S1024x100 ![] bcast_S_S1024x100 (constantI S_ 32 0#32))) (subi T (broadcastInDim S1024x100 ![] bcast_S_S1024x100 (constantI S_ 32 1#32))) (broadcastInDim S1024x100 ![] bcast_S_S1024x100 (id (constantI S_ 32 100000#32)))

/-- The row numbers, down a column. -/
def rows : IVec S1024x1 32 := broadcastInDim S1024x1 ![0] bcast_S1024_S1024x1_0 (iotaInDim S1024 32 0)

/-- The pairs of row and column that are set. -/
def pairs (W : IVec S1024x100 32) : IVec S1024x100x2 32 :=
  concatenate S1024x100x2 2 [⟨S1024x100x1, (broadcastInDim S1024x100x1 ![0, 1] bcast_S1024x100_S1024x100x1_0_1 (broadcastInDim S1024x100 ![0, 1] bcast_S1024x1_S1024x100_0_1 (select (cmpi .slt rows (broadcastInDim S1024x1 ![] bcast_S_S1024x1 (constantI S_ 32 0#32))) (addi rows (broadcastInDim S1024x1 ![] bcast_S_S1024x1 (constantI S_ 32 1024#32))) rows)))⟩,
    ⟨S1024x100x1, (broadcastInDim S1024x100x1 ![0, 1] bcast_S1024x100_S1024x100x1_0_1 (select (cmpi .slt W (broadcastInDim S1024x100 ![] bcast_S_S1024x100 (constantI S_ 32 0#32))) (addi W (broadcastInDim S1024x100 ![] bcast_S_S1024x100 (constantI S_ 32 100001#32))) W))⟩] concatenates_S1024x100x1_S1024x100x1_S1024x100x2_d2

/-- One at the classes a row's labels name, zero elsewhere. -/
def marks (W : IVec S1024x100 32) : FVec Ideal S1024x100000 .f32 :=
  extractStridedSlice S1024x100000 ![0, 0] (Host.scatter scatter_S1024x100001_S1024x100x2_S1024x100_n_01_01_2 (fun _ b => b) (broadcastInDim S1024x100001 ![] bcast_S_S1024x100001 (constant S_ .f32 0x00000000#32)) (pairs W) (broadcastInDim S1024x100 ![] bcast_S_S1024x100 (constant S_ .f32 0x3F800000#32))) slices_S1024x100001_S1024x100000_0_0

/-- The log-sigmoid table, as the reference computes it. -/
def lsig (x : FVec Ideal S1024x100000 .f32) : FVec Ideal S1024x100000 .f32 :=
  Host.negf (select (cmpf .une (subf (Host.negf x) (broadcastInDim S1024x100000 ![] bcast_S_S1024x100000 (constant S_ .f32 0x00000000#32))) (subf (Host.negf x) (broadcastInDim S1024x100000 ![] bcast_S_S1024x100000 (constant S_ .f32 0x00000000#32)))) (addf (Host.negf x) (broadcastInDim S1024x100000 ![] bcast_S_S1024x100000 (constant S_ .f32 0x00000000#32))) (addf (maximumf (Host.negf x) (broadcastInDim S1024x100000 ![] bcast_S_S1024x100000 (constant S_ .f32 0x00000000#32))) (Host.log1p (Host.exp (Host.negf (Host.absf (subf (Host.negf x) (broadcastInDim S1024x100000 ![] bcast_S_S1024x100000 (constant S_ .f32 0x00000000#32)))))))))

/-- The weights, from the marks. -/
def weights (O : FVec Ideal S1024x100000 .f32) : FVec Ideal S1024x100000 .f32 :=
  addf (mulf O (broadcastInDim S1024x100000 ![] bcast_S_S1024x100000 (subf (constant S_ .f32 0x3F800000#32) (Host.divf (constant S_ .f32 0x3F800000#32) (constant S_ .f32 0x41200000#32)))))
    (mulf (subf (broadcastInDim S1024x100000 ![] bcast_S_S1024x100000 (constant S_ .f32 0x3F800000#32)) O) (broadcastInDim S1024x100000 ![] bcast_S_S1024x100000 (Host.divf (Host.divf (constant S_ .f32 0x3F800000#32) (constant S_ .f32 0x41200000#32)) (constant S_ .f32 0x47C35000#32))))

/-- The loss from scores and labels. -/
def loss (x : FVec Ideal S1024x100000 .f32) (T : IVec S1024x100 32) : FVec Ideal S1024 .f32 :=
  Host.negf (Host.reduceAdd (mulf (weights (marks (cols T))) (lsig x)) (constant S_ .f32 0x00000000#32) reducesTo_S1024x100000_S1024_d1 h_S_)

set_option maxRecDepth 8192 in
/-- The reference's result is the loss of its arguments. -/
theorem res_eq (m : (ℓ : Loc nD τ sig) → Buf (Elt Ideal) ℓ) (c : Dev nD) :
    Cert.ReferenceIdeal.Value.res_main_v39 (F := Ideal) m c
      = loss (m ((c.tc : Thread nD τ).loc main_arg0)) (concatenate S1024x100 1 [⟨S1024x50, (m ((c.tc : Thread nD τ).loc main_arg2))⟩, ⟨S1024x50, (m ((c.tc : Thread nD τ).loc main_arg1))⟩] concatenates_S1024x50_S1024x50_S1024x100_d1) := by
  unfold Cert.ReferenceIdeal.Value.res_main_v39 loss weights marks pairs rows cols lsig
  rfl

/-- The columns, entry by entry. -/
theorem cols_at (T : IVec S1024x100 32) (p : S1024x100.Idx) : cols T p = colOf (T p) := by
  show Scalar.select (IntOp.cmpi .ne (T p) 0#32) (T p - 1#32) 100000#32 = _
  unfold colOf
  by_cases h : T p = 0#32
  · rw [if_pos h, h]; rfl
  · rw [if_neg h]
    show Scalar.select (BitVec.ofBool (!(T p == 0#32))) _ _ = _
    rw [beq_false_of_ne h]; rfl

/-- A pair's first word is the row. -/
theorem pairs_row (W : IVec S1024x100 32) (b : Fin 1024) (k : Fin 100) : pairs W (ix3 b k (0 : Fin 2)) = BitVec.ofNat 32 b.val := by
  unfold pairs
  refine (concatenate_pair_apply_left (t := S1024x100x2) (s₁ := S1024x100x1) (s₂ := S1024x100x1) 2 _ _ _ _ rfl (ix3 b k (0 : Fin 1)) fun a => by fin_cases a <;> rfl).trans ?_
  refine (broadcastInDim_apply _ _ _ _ (ix2 b k) fun a => by fin_cases a <;> rfl).trans ?_
  refine (broadcastInDim_apply _ _ _ _ (ix2 b (0 : Fin 1)) fun a => by fin_cases a <;> rfl).trans ?_
  have hr : rows (ix2 b (0 : Fin 1)) = BitVec.ofNat 32 b.val :=
    (broadcastInDim_apply _ _ _ _ (ix1 b) fun a => by fin_cases a; rfl).trans rfl
  show Scalar.select (IntOp.cmpi .slt (rows (ix2 b (0 : Fin 1))) 0#32) (rows (ix2 b (0 : Fin 1)) + 1024#32) (rows (ix2 b (0 : Fin 1))) = _
  rw [hr]
  have hb := b.isLt
  exact Routing.wrap_of_lt _ _ (by rw [BitVec.toNat_ofNat]; omega)

/-- A pair's second word is the column. -/
theorem pairs_col (W : IVec S1024x100 32) (b : Fin 1024) (k : Fin 100) (hW : (W (ix2 b k)).toNat < 2 ^ 31) : pairs W (ix3 b k (1 : Fin 2)) = W (ix2 b k) := by
  unfold pairs
  refine (concatenate_pair_apply_right (t := S1024x100x2) (s₁ := S1024x100x1) (s₂ := S1024x100x1) 2 _ _ _ _ rfl rfl (ix3 b k (0 : Fin 1)) (fun a ha => ?_) rfl).trans ?_
  · fin_cases a
    · rfl
    · rfl
    · exact absurd rfl ha
  refine (broadcastInDim_apply _ _ _ _ (ix2 b k) fun a => by fin_cases a <;> rfl).trans ?_
  exact Routing.wrap_of_lt _ _ hW

/-- A class is marked exactly when a column of its row names it. -/
theorem marks_at (W : IVec S1024x100 32) (hW : ∀ p, (W p).toNat < 2 ^ 31) (b : Fin 1024) (c : Fin 100000) [Decidable (∃ k : Fin 100, (W (ix2 b k)).toNat = c.val)] :
    marks W (ix2 b c) = if ∃ k : Fin 100, (W (ix2 b k)).toNat = c.val then (1 : EReal) else 0 := by
  have hc := c.isLt
  unfold marks
  rw [extractStridedSlice_apply _ _ _ _ (ix2 b (⟨c.val, by omega⟩ : Fin 100001)) fun a => by
    fin_cases a
    · show b.val = 0 + b.val; omega
    · show c.val = 0 + c.val; omega]
  have hland : ∀ (a : Fin 1024) (k : Fin 100), scatter_S1024x100001_S1024x100x2_S1024x100_n_01_01_2.resultIdx? (ix2 a k) (pairs W) = some (ix2 b (⟨c.val, by omega⟩ : Fin 100001))
      ↔ a = b ∧ (W (ix2 a k)).toNat = c.val := fun a k => by
    refine (Routing.scatter_lands2 (R := 1024) (C := 100001) (A := 1024) (B := 100) scatter_S1024x100001_S1024x100x2_S1024x100_n_01_01_2 rfl rfl rfl (pairs W) a k b ⟨c.val, by omega⟩).trans ?_
    rw [pairs_row, pairs_col W a k (hW _)]
    have ha := a.isLt
    have hw := hW (ix2 a k)
    have e1 : (BitVec.ofNat 32 a.val).toInt = (a.val : ℤ) := StableHlo.Predicate.toInt_ofNat_small _ (by omega)
    have e2 : (W (ix2 a k)).toInt = ((W (ix2 a k)).toNat : ℤ) := BitVec.toInt_eq_toNat_of_lt (by omega)
    rw [e1, e2]
    constructor
    · rintro ⟨h1, h2⟩
      exact ⟨Fin.ext (Int.ofNat.inj h1), Int.ofNat.inj h2⟩
    · rintro ⟨h1, h2⟩
      exact ⟨congrArg (fun q : Fin 1024 => (q.val : ℤ)) h1, congrArg Int.ofNat h2⟩
  have hix : ∀ p : S1024x100.Idx, ix2 (p 0 : Fin 1024) (p 1 : Fin 100) = p := fun p => by
    funext a; fin_cases a <;> rfl
  split
  next h =>
    obtain ⟨k, hk⟩ := h
    exact Routing.scatter_set_hit _ _ _ _ _ (1 : EReal) (fun p _ => Ideal.ofBits_one_f32) (ix2 b k) ((hland b k).2 ⟨rfl, hk⟩)
  next h =>
    refine (Routing.scatter_set_miss _ _ _ _ _ fun p hp => ?_).trans Ideal.ofBits_zero_f32
    rw [← hix p] at hp
    obtain ⟨e, hk⟩ := (hland _ _).1 hp
    exact h ⟨p 1, by rw [← e]; exact hk⟩

/-! ## The weighted sum -/

/-- The table of log-sigmoids, entry by entry. -/
theorem lsig_at (x : FVec Ideal S1024x100000 .f32) (p : S1024x100000.Idx) : lsig x p = logSig (x p) := by
  have hz : ∀ p, broadcastInDim S1024x100000 ![] bcast_S_S1024x100000 (constant S_ .f32 0x00000000#32 : FVec Ideal S_ .f32) p = (0 : EReal) := fun p =>
    Ideal.ofBits_zero_f32
  unfold lsig
  generalize broadcastInDim S1024x100000 ![] bcast_S_S1024x100000 (constant S_ .f32 0x00000000#32 : FVec Ideal S_ .f32) = Z at hz ⊢
  show -(Scalar.select (Ideal.cmp .une (-(x p) - Z p) (-(x p) - Z p)) (-(x p) + Z p)
    (max (-(x p)) (Z p) + Ideal.log1p (Ideal.exp (-(max (-(x p) - Z p) (-(-(x p) - Z p))))))) = _
  rw [hz, sub_zero, show Ideal.cmp .une (-(x p) : EReal) (-(x p)) = 0#1 by simp [Ideal.cmp]]
  exact logSig_eq (x p)

/-- Ten, as the literal reads. -/
theorem ten : Ideal.ofBits .f32 0x41200000#32 = ((10 : ℝ) : EReal) := by
  simp [Ideal.ofBits, Ideal.ieee, -EReal.coe_mul]; norm_num

/-- The number of classes, as the literal reads. -/
theorem classes : Ideal.ofBits .f32 0x47C35000#32 = ((100000 : ℝ) : EReal) := by
  simp [Ideal.ofBits, Ideal.ieee, -EReal.coe_mul]; norm_num

/-- A quotient of reals by one that is not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The weight of a marked class and of one that is not. -/
theorem weights_at (O : FVec Ideal S1024x100000 .f32) (p : S1024x100000.Idx) (P : Prop) [Decidable P] (h : O p = if P then (1 : EReal) else 0) :
    weights O p = ((if P then 1 / 1000000 + 899999 / 1000000 else 1 / 1000000 : ℝ) : EReal) := by
  show (O p : EReal) * (Ideal.ofBits .f32 0x3F800000#32 - Ideal.div (Ideal.ofBits .f32 0x3F800000#32) (Ideal.ofBits .f32 0x41200000#32))
    + (Ideal.ofBits .f32 0x3F800000#32 - O p) * Ideal.div (Ideal.div (Ideal.ofBits .f32 0x3F800000#32) (Ideal.ofBits .f32 0x41200000#32)) (Ideal.ofBits .f32 0x47C35000#32) = _
  rw [h, Ideal.ofBits_one_f32, ten, classes, ← EReal.coe_one, div_coe _ _ (by norm_num), div_coe _ _ (by norm_num)]
  split
  · rw [← EReal.coe_sub, ← EReal.coe_sub, ← EReal.coe_mul, ← EReal.coe_mul, ← EReal.coe_add]
    exact congrArg (fun q : ℝ => (q : EReal)) (by norm_num)
  · rw [zero_mul, zero_add, sub_zero, ← EReal.coe_mul]
    exact congrArg (fun q : ℝ => (q : EReal)) (by norm_num)

/-- A row's loss from the set of classes its labels name. -/
theorem loss_at (x : FVec Ideal S1024x100000 .f32) (T : IVec S1024x100 32) (hT : ∀ p, (T p).toNat < 100000) (b : Fin 1024) (H : Finset (Fin 100000))
    (hH : ∀ c : Fin 100000, c ∈ H ↔ ∃ k : Fin 100, (colOf (T (ix2 b k))).toNat = c.val) :
    loss x T (ix1 b) = ((-(1 / 1000000) : ℝ) : EReal) * (∑ c : Fin 100000, logSig (x (ix2 b c))) - ((899999 / 1000000 : ℝ) : EReal) * ∑ c ∈ H, logSig (x (ix2 b c)) := by
  classical
  have hW : ∀ p, (cols T p).toNat < 2 ^ 31 := fun p => by
    rw [cols_at]
    unfold colOf
    have := hT p
    split
    · decide
    · rename_i h
      have h0 : (T p).toNat ≠ 0 := fun q => h (BitVec.eq_of_toNat_eq q)
      rw [BitVec.toNat_sub]
      show (2 ^ 32 - 1 + (T p).toNat) % 2 ^ 32 < 2 ^ 31
      omega
  unfold loss
  show -(Host.reduceAdd (mulf (weights (marks (cols T))) (lsig x)) (constant S_ .f32 0x00000000#32) reducesTo_S1024x100000_S1024_d1 h_S_ (ix1 b) : EReal) = _
  rw [hostReduceAdd_apply]
  have hs : ∀ c : Fin 100000, mulf (weights (marks (cols T))) (lsig x) (ix2 b c) = ((if c ∈ H then 1 / 1000000 + 899999 / 1000000 else 1 / 1000000 : ℝ) : EReal) * logSig (x (ix2 b c)) := fun c => by
    show weights (marks (cols T)) (ix2 b c) * lsig x (ix2 b c) = _
    rw [lsig_at, weights_at _ _ (c ∈ H) ((marks_at (cols T) hW b c).trans (if_congr (by rw [hH]; exact exists_congr fun k => by rw [cols_at]) rfl rfl))]
  generalize mulf (weights (marks (cols T))) (lsig x) = M at hs ⊢
  rw [Ideal.hostReduceAdd_single _ (show Shape.Reduces S1024x100000 [1] S1024 by decide)]
  rw [← weighted_sum (fun c : Fin 100000 => logSig (x (ix2 b c))) (fun c => logSig_nonpos _) H (1 / 1000000) (899999 / 1000000) (by norm_num) (by norm_num)]
  refine congrArg (fun q : EReal => -q) ?_
  show Ideal.ofBits .f32 0x00000000#32 + _ = _
  rw [Ideal.ofBits_zero_f32, zero_add]
  refine Finset.sum_congr rfl fun (c : Fin 100000) _ => ?_
  refine Eq.trans (congrArg M ?_) (hs c)
  funext a; fin_cases a <;> rfl

end Cert.Proof.Nll.Ref

end
-- ==== Proof.Algebraic.lean ====
/-
  The idealized kernel and the idealized reference leave the same loss: the classes a row's table entries name are the
  classes its labels name, so both losses are the same two sums.
-/
module

public import proofs.«01_k».proof.Proof.KernelValue
public import proofs.«01_k».proof.Proof.RefValue
public import proofs.«01_k».proof.Proof.Rest

@[expose] public section

noncomputable section

namespace Cert.Proof.Nll

open Idealize.ShloMosaic Idealize.ShloMosaic.TcCoe Idealize.ShloMosaic.ValueIdx
open Idealize.SL Idealize.SL.Sem
open Cert.KernelIdeal (S1024 S1024x50 S1024x100000)
open scoped BigOperators

/-- The class of a table word, as a column. -/
def classOf (w : BitVec 32) : Fin 100000 := ⟨(hot w).toNat % 100000, Nat.mod_lt _ (by decide)⟩

/-- The classes a row's table entries name. -/
def named (a1 a2 : S1024x50.Idx → BitVec 32) (b : Fin 1024) : Finset (Fin 100000) :=
  (Finset.univ.filter fun j : Fin 128 => tab a2 a1 (ix2 b j) ≠ 0#32).image fun j => classOf (tab a2 a1 (ix2 b j))

/-- The class of a label in range that is not the padding word. -/
theorem classOf_val {w : BitVec 32} (h0 : w ≠ 0#32) (h : w.toNat < 100000) : (classOf w).val + 1 = w.toNat := by
  have hn : w.toNat ≠ 0 := fun q => h0 (BitVec.eq_of_toNat_eq q)
  show (hot w).toNat % 100000 + 1 = w.toNat
  unfold hot
  rw [if_neg h0, BitVec.toNat_sub, show (1#32).toNat = 1 from rfl]
  omega

/-- The reference's column of a label in range is a class exactly when the label is not the padding word and the class is its own. -/
theorem colOf_eq_iff {w : BitVec 32} (h : w.toNat < 100000) (c : Fin 100000) : (Ref.colOf w).toNat = c.val ↔ w ≠ 0#32 ∧ classOf w = c := by
  have hc := c.isLt
  unfold Ref.colOf
  by_cases h0 : w = 0#32
  · rw [if_pos h0]
    exact ⟨fun q => absurd (show 100000 = c.val from q) (by omega), fun q => absurd h0 q.1⟩
  · have hv := classOf_val h0 h
    have hn : w.toNat ≠ 0 := fun q => h0 (BitVec.eq_of_toNat_eq q)
    rw [if_neg h0, BitVec.toNat_sub, show (1#32).toNat = 1 from rfl]
    constructor
    · intro q; exact ⟨h0, Fin.ext (by omega)⟩
    · rintro ⟨_, q⟩
      rw [← q]
      omega

/-- A class is named by a table entry of the row exactly when a label of the row names it. -/
theorem mem_named (a1 a2 : S1024x50.Idx → BitVec 32) (h1 : ∀ i, (a1 i).toNat < 100000) (h2 : ∀ i, (a2 i).toNat < 100000) (b : Fin 1024) (c : Fin 100000) :
    c ∈ named a1 a2 b ↔ ∃ k : Fin 100, (Ref.colOf (lab a2 a1 b k)).toNat = c.val := by
  have hl : ∀ k, (lab a2 a1 b k).toNat < 100000 := fun k => by
    unfold lab
    split
    · exact h2 _
    · exact h1 _
  unfold named
  rw [Finset.mem_image]
  constructor
  · rintro ⟨j, hj, e⟩
    have hj0 := (Finset.mem_filter.1 hj).2
    have hlt : j.val < 100 := Nat.lt_of_not_le fun q => hj0 (tab_zero a2 a1 (ix2 b j) q)
    have et := tab_lab a2 a1 b ⟨j.val, hlt⟩
    refine ⟨⟨j.val, hlt⟩, (colOf_eq_iff (hl _) c).2 ?_⟩
    rw [← et]
    exact ⟨hj0, e⟩
  · rintro ⟨k, hk⟩
    obtain ⟨h0, e⟩ := (colOf_eq_iff (hl k) c).1 hk
    rw [← tab_lab a2 a1 b k] at h0 e
    exact ⟨_, Finset.mem_filter.2 ⟨Finset.mem_univ _, h0⟩, e⟩

/-- A choice does not depend on how its condition is decided. -/
theorem ite_decidable (P : Prop) (d e : Decidable P) (u v : EReal) : @ite _ P d u v = @ite _ P e u v := by
  rw [Subsingleton.elim d e]

/-- The kernel's loss is the reference's. -/
theorem loss_eq (x : S1024x100000.Idx → EReal) (a1 a2 : S1024x50.Idx → BitVec 32) (h1 : ∀ i, (a1 i).toNat < 100000) (h2 : ∀ i, (a2 i).toNat < 100000)
    (h : Shape.Concatenates [S1024x50, S1024x50] Cert.KernelIdeal.S1024x100 1) :
    kLoss (F := Ideal) x a1 a2 = Ref.loss x (concatenate Cert.KernelIdeal.S1024x100 1 [⟨S1024x50, a2⟩, ⟨S1024x50, a1⟩] h) := by
  have hcat : ∀ (b : Fin 1024) (k : Fin 100), concatenate Cert.KernelIdeal.S1024x100 1 [⟨S1024x50, a2⟩, ⟨S1024x50, a1⟩] h (ix2 b k) = lab a2 a1 b k := fun b k => cat_apply a2 a1 b k h
  generalize concatenate Cert.KernelIdeal.S1024x100 1 [⟨S1024x50, a2⟩, ⟨S1024x50, a1⟩] h = T at hcat ⊢
  have ht : ∀ p, (tab a2 a1 p).toNat < 100000 := tab_all (C := fun w => w.toNat < 100000) a2 a1 (by decide) h2 h1
  have hT : ∀ p, (T p).toNat < 100000 := fun p => by
    have e := hcat (p 0) (p 1)
    rw [show (ix2 (p 0 : Fin 1024) (p 1 : Fin 100) : Cert.KernelIdeal.S1024x100.Idx) = p from funext fun a => by fin_cases a <;> rfl] at e
    exact lt_of_eq_of_lt (congrArg BitVec.toNat (e.trans (tab_lab a2 a1 (p 0) (p 1)).symm)) (ht _)
  funext p
  obtain ⟨b, rfl⟩ : ∃ b : Fin 1024, p = ix1 b := ⟨p 0, funext fun a => by fin_cases a; rfl⟩
  have hsum := first_sum (fun j : Fin 128 => tab a2 a1 (ix2 b j)) (fun w => w ≠ 0#32) classOf (fun i j hi hj e => by
    have ei := classOf_val hi (ht _)
    have ej := classOf_val hj (ht _)
    rw [e] at ei
    exact BitVec.eq_of_toNat_eq (ei.symm.trans ej)) fun c => logSig (x (ix2 b c))
  refine (kLoss_at x a1 a2 b).trans (Eq.trans ?_ (Ref.loss_at x T hT b (named a1 a2 b) fun c => (mem_named a1 a2 h1 h2 b c).trans (exists_congr fun k => by rw [hcat])).symm)
  exact congrArg (fun q : EReal => ((-(1 / 1000000) : ℝ) : EReal) * (∑ c : Fin 100000, logSig (x (ix2 b c))) - ((899999 / 1000000 : ℝ) : EReal) * q) ((Finset.sum_congr rfl fun j _ => ite_decidable _ _ _ _ _).trans hsum)

/-- The reference's frame again, on launch memories with labels in range. -/
theorem frame_reference_pre : Cert.quiescent_ReferenceIdeal_pre_in_range := fun m g _ => frame_reference m g trivial

/-- From equal arguments with labels in range, the two programs leave equal losses. -/
theorem algebraic : Cert.algebraic_KernelIdeal_ReferenceIdeal := fun m g m' g' hp he => by
  refine ⟨fun c => kLoss (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run Cert.KernelIdeal.defs _ _).mono (fun _ h => h.1)
      (run_main (F := Ideal) m g (hM_of_labels m (fun d => (labels_of_pre _ _ _ (hp d)).1) (fun d => (labels_of_pre _ _ _ (hp d)).2)))
  · refine (θ_run Cert.ReferenceIdeal.defs _ _).mono (fun _ h c => ⟨?_, (h c).2⟩) (Cert.ReferenceIdeal.Value.run (F := Ideal) m' g')
    refine (h c).1.trans ((Ref.res_eq m' c).trans ?_)
    obtain ⟨e0, e1, e2⟩ := he c
    rw [e0, e1, e2]
    exact (loss_eq _ _ _ (labels_of_pre _ _ _ (hp c)).1 (labels_of_pre _ _ _ (hp c)).2 _).symm

end Cert.Proof.Nll

end
-- ==== Proof.lean ====
/-
  The certificate's claims, put together from the modules that prove each.
-/
module

public import proofs.«01_k».proof.Defs
public import proofs.«01_k».proof.Proof.Frames
public import proofs.«01_k».proof.Proof.Rest
public import proofs.«01_k».proof.Proof.Algebraic

@[expose] public section

noncomputable section

namespace Cert.Proof

open Cert.Proof.Nll

/-- Everything the certificate claims. -/
theorem claim : Cert.Claim :=
  ⟨Cert.Kernel.Gen.facts, Cert.KernelIdeal.Gen.facts, Cert.ReferenceIdeal.Gen.facts, preFacts,
    frame_kernel, frame_kernelIdeal, frame_reference, frame_reference_pre, named_constants, algebraic⟩

end Cert.Proof

end
